-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S64x1x1024 : Shape := ⟨3, ![64, 1, 1024]⟩
abbrev S1024x64 : Shape := ⟨2, ![1024, 64]⟩
abbrev S64 : Shape := ⟨1, ![64]⟩
abbrev S64x1024x512 : Shape := ⟨3, ![64, 1024, 512]⟩
abbrev S64x512 : Shape := ⟨2, ![64, 512]⟩
abbrev S64x512x512 : Shape := ⟨3, ![64, 512, 512]⟩
abbrev S64x512x1024 : Shape := ⟨3, ![64, 512, 1024]⟩
abbrev S64x1024 : Shape := ⟨2, ![64, 1024]⟩
abbrev S_ : Shape := ⟨0, ![]⟩

class Facts : Prop where
  bcast_S_S64x1x1024 : S_.BroadcastsInDim S64x1x1024 (![] : Fin 0 → Fin S64x1x1024.rank)
  reducesTo_S64x1x1024_S_d0_1_2 : S64x1x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x1x1024 .f32) (main_arg1 : FVec F S1024x64 .f32) (main_arg2 : FVec F S64 .f32) (main_arg3 : FVec F S64x1024x512 .f32) (main_arg4 : FVec F S64x512 .f32) (main_arg5 : FVec F S64x512x512 .f32) (main_arg6 : FVec F S64x512 .f32) (main_arg7 : FVec F S64x512x1024 .f32) (main_arg8 : FVec F S64x1024 .f32) : IVec S_ 1 :=
  let main_v0 : FVec F S64x1x1024 .f32 := Host.absf main_arg0
  let main_cst : FVec F S_ .f32 := constant S_ .f32 0x7F800000#32
  let main_v1 : FVec F S64x1x1024 .f32 := broadcastInDim S64x1x1024 ![] bcast_S_S64x1x1024 main_cst
  let main_v2 : IVec S64x1x1024 1 := cmpf .olt main_v0 main_v1
  let main_c : IVec S_ 1 := constantI S_ 1 1#1
  let main_v3 : IVec S_ 1 := (fun x v => Host.reduce IntOp.andi x v reducesTo_S64x1x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S64x1x1024 : Shape := ⟨3, ![64, 1, 1024]⟩
abbrev S1024x64 : Shape := ⟨2, ![1024, 64]⟩
abbrev S64 : Shape := ⟨1, ![64]⟩
abbrev S64x1024x512 : Shape := ⟨3, ![64, 1024, 512]⟩
abbrev S64x512 : Shape := ⟨2, ![64, 512]⟩
abbrev S64x512x512 : Shape := ⟨3, ![64, 512, 512]⟩
abbrev S64x512x1024 : Shape := ⟨3, ![64, 512, 1024]⟩
abbrev S64x1024 : Shape := ⟨2, ![64, 1024]⟩
abbrev S64x1 : Shape := ⟨2, ![64, 1]⟩
abbrev S64x64 : Shape := ⟨2, ![64, 64]⟩
abbrev S2x64 : Shape := ⟨2, ![2, 64]⟩
abbrev S16 : Shape := ⟨1, ![16]⟩
abbrev S_ : Shape := ⟨0, ![]⟩
abbrev S1x16 : Shape := ⟨2, ![1, 16]⟩
abbrev S1x64 : Shape := ⟨2, ![1, 64]⟩
abbrev S1x1024x512 : Shape := ⟨3, ![1, 1024, 512]⟩
abbrev S1 : Shape := ⟨1, ![1]⟩
abbrev S1x512x512 : Shape := ⟨3, ![1, 512, 512]⟩
abbrev S1x512x1024 : Shape := ⟨3, ![1, 512, 1024]⟩
abbrev S1024x512 : Shape := ⟨2, ![1024, 512]⟩
abbrev S1x512 : Shape := ⟨2, ![1, 512]⟩
abbrev S512x512 : Shape := ⟨2, ![512, 512]⟩
abbrev S512x1024 : Shape := ⟨2, ![512, 1024]⟩
abbrev S1x1024 : Shape := ⟨2, ![1, 1024]⟩

abbrev nBuf : Table → Nat
  | .hbm => 20
  | .local .tc .vmem => 17
  | .local .tc .smem => 2
  | .local .scVector .vmem => 6
  | _ => 0

abbrev bufTy : (tb : Table) → Fin (nBuf tb) → BufTy
  | .hbm, ⟨0, _⟩ => ⟨S64x1x1024, .f32⟩
  | .hbm, ⟨1, _⟩ => ⟨S1024x64, .f32⟩
  | .hbm, ⟨2, _⟩ => ⟨S64, .f32⟩
  | .hbm, ⟨3, _⟩ => ⟨S64x1024x512, .f32⟩
  | .hbm, ⟨4, _⟩ => ⟨S64x512, .f32⟩
  | .hbm, ⟨5, _⟩ => ⟨S64x512x512, .f32⟩
  | .hbm, ⟨6, _⟩ => ⟨S64x512, .f32⟩
  | .hbm, ⟨7, _⟩ => ⟨S64x512x1024, .f32⟩
  | .hbm, ⟨8, _⟩ => ⟨S64x1024, .f32⟩
  | .hbm, ⟨9, _⟩ => ⟨S64x1024, .f32⟩
  | .hbm, ⟨10, _⟩ => ⟨S64x1, .f32⟩
  | .hbm, ⟨11, _⟩ => ⟨S64x64, .f32⟩
  | .hbm, ⟨12, _⟩ => ⟨S2x64, .i32⟩
  | .hbm, ⟨13, _⟩ => ⟨S2x64, .f32⟩
  | .hbm, ⟨14, _⟩ => ⟨S64, .i32⟩
  | .hbm, ⟨15, _⟩ => ⟨S16, .i32⟩
  | .hbm, ⟨16, _⟩ => ⟨S1x64, .i32⟩
  | .hbm, ⟨17, _⟩ => ⟨S1x16, .i32⟩
  | .hbm, ⟨18, _⟩ => ⟨S64x1024, .f32⟩
  | .hbm, ⟨19, _⟩ => ⟨S64x1x1024, .f32⟩
  | .local .tc .vmem, ⟨0, _⟩ => ⟨S64x1024, .f32⟩
  | .local .tc .vmem, ⟨1, _⟩ => ⟨S1024x64, .f32⟩
  | .local .tc .vmem, ⟨2, _⟩ => ⟨S64x1, .f32⟩
  | .local .tc .vmem, ⟨3, _⟩ => ⟨S64x64, .f32⟩
  | .local .tc .vmem, ⟨4, _⟩ => ⟨S64x1024, .f32⟩
  | .local .tc .vmem, ⟨5, _⟩ => ⟨S1x1024x512, .f32⟩
  | .local .tc .vmem, ⟨6, _⟩ => ⟨S1x1024x512, .f32⟩
  | .local .tc .vmem, ⟨7, _⟩ => ⟨S64x512, .f32⟩
  | .local .tc .vmem, ⟨8, _⟩ => ⟨S1x512x512, .f32⟩
  | .local .tc .vmem, ⟨9, _⟩ => ⟨S1x512x512, .f32⟩
  | .local .tc .vmem, ⟨10, _⟩ => ⟨S64x512, .f32⟩
  | .local .tc .vmem, ⟨11, _⟩ => ⟨S1x512x1024, .f32⟩
  | .local .tc .vmem, ⟨12, _⟩ => ⟨S1x512x1024, .f32⟩
  | .local .tc .vmem, ⟨13, _⟩ => ⟨S64x1024, .f32⟩
  | .local .tc .vmem, ⟨14, _⟩ => ⟨S2x64, .i32⟩
  | .local .tc .vmem, ⟨15, _⟩ => ⟨S2x64, .f32⟩
  | .local .tc .vmem, ⟨16, _⟩ => ⟨S64x1024, .f32⟩
  | .local .tc .smem, ⟨0, _⟩ => ⟨S64, .i32⟩
  | .local .tc .smem, ⟨1, _⟩ => ⟨S16, .i32⟩
  | .local .scVector .vmem, ⟨0, _⟩ => ⟨S64x64, .f32⟩
  | .local .scVector .vmem, ⟨1, _⟩ => ⟨S64, .f32⟩
  | .local .scVector .vmem, ⟨2, _⟩ => ⟨S2x64, .i32⟩
  | .local .scVector .vmem, ⟨3, _⟩ => ⟨S2x64, .f32⟩
  | .local .scVector .vmem, ⟨4, _⟩ => ⟨S64, .i32⟩
  | .local .scVector .vmem, ⟨5, _⟩ => ⟨S16, .i32⟩
  | _, _ => ⟨S64x1x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v4 : Ref sig .tc := ⟨.hbm, 16, rfl⟩
abbrev main_v6 : Ref sig .tc := ⟨.hbm, 17, rfl⟩
abbrev main_v8 : Ref sig .tc := ⟨.hbm, 18, rfl⟩
abbrev main_v9 : Ref sig .tc := ⟨.hbm, 19, rfl⟩
abbrev main_v5 : Ref sig .tc := ⟨.smem, 0, rfl⟩
abbrev main_v7 : Ref sig .tc := ⟨.smem, 1, rfl⟩
abbrev main_v2_scv : Ref sig .scVector := ⟨.hbm, 11, rfl⟩
abbrev main_v3_0_scv : Ref sig .scVector := ⟨.hbm, 12, rfl⟩
abbrev main_v3_1_scv : Ref sig .scVector := ⟨.hbm, 13, rfl⟩
abbrev main_v3_2_scv : Ref sig .scVector := ⟨.hbm, 14, rfl⟩
abbrev main_v3_3_scv : Ref sig .scVector := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg1_1 : Ref sig .tc := ⟨.vmem, 6, rfl⟩
abbrev cc2_stg2_0 : Ref sig .tc := ⟨.vmem, 7, rfl⟩
abbrev cc2_stg3_0 : Ref sig .tc := ⟨.vmem, 8, rfl⟩
abbrev cc2_stg3_1 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg5_1 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg8_0 : Ref sig .tc := ⟨.vmem, 15, rfl⟩
abbrev cc2_stg9_0 : Ref sig .tc := ⟨.vmem, 16, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem3_1 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem7_0 : DmaSem sig := 19
abbrev cc2_sem8_0 : DmaSem sig := 20
abbrev cc2_sem9_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![1, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k1_t1_loop : Scf.Loop 32 :=
  let c0_i32_3 : BitVec 32 := 0#32
  let c64_i32 : BitVec 32 := 64#32
  let v8 : BitVec 32 := Scalar.addi c0_i32_3 c64_i32
  let c1_i32 : BitVec 32 := 1#32
  ⟨c0_i32_3, v8, c1_i32⟩
def k1_off1 (k1_t1 : Fin k1_t1_loop.trips) : Fin 2 → Nat :=
  let c0_i32_3 : BitVec 32 := 0#32
  let c1_i32 : BitVec 32 := 1#32
  let arg13 : BitVec 32 := Scf.iv c0_i32_3 c1_i32 k1_t1
  let v235 : Index := Scalar.indexCast arg13
  let c0_118 : Index := 0#32
  ![v235.toNat, 0]
def k1_off2 (k1_t1 : Fin k1_t1_loop.trips) : Fin 2 → Nat :=
  let c0_i32_3 : BitVec 32 := 0#32
  let c1_i32 : BitVec 32 := 1#32
  let arg13 : BitVec 32 := Scf.iv c0_i32_3 c1_i32 k1_t1
  let v245 : Index := Scalar.indexCast arg13
  let c16_119 : Index := 16#32
  ![v245.toNat, 16]
def k1_off3 (k1_t1 : Fin k1_t1_loop.trips) : Fin 2 → Nat :=
  let c0_i32_3 : BitVec 32 := 0#32
  let c1_i32 : BitVec 32 := 1#32
  let arg13 : BitVec 32 := Scf.iv c0_i32_3 c1_i32 k1_t1
  let v255 : Index := Scalar.indexCast arg13
  let c32_120 : Index := 32#32
  ![v255.toNat, 32]
def k1_off4 (k1_t1 : Fin k1_t1_loop.trips) : Fin 2 → Nat :=
  let c0_i32_3 : BitVec 32 := 0#32
  let c1_i32 : BitVec 32 := 1#32
  let arg13 : BitVec 32 := Scf.iv c0_i32_3 c1_i32 k1_t1
  let v265 : Index := Scalar.indexCast arg13
  let c48_121 : Index := 48#32
  ![v265.toNat, 48]

def k1_chk1 (i : grid1.Coords) (v9_4 : IVec S16 32) : Prop :=
  (∀ (k1_h1 : k1_cond1 i = 1#1), ∀ a x, ((![v9_4] : Fin 1 → IVec S16 32) a x).toNat < S64.size a)
theorem k1_idx1_inb : ∀ (i : grid1.Coords) (v9_4 : IVec S16 32) (k1_hw1 : k1_chk1 i v9_4), ∀ (k1_h1 : k1_cond1 i = 1#1), ∀ a x, ((![v9_4] : Fin 1 → IVec S16 32) a x).toNat < S64.size a := fun i v9_4 k1_hw1 k1_h1 => k1_hw1 k1_h1

def k1_chk2 (i : grid1.Coords) (v9_12 : IVec S16 32) : Prop :=
  (∀ (k1_h1 : k1_cond1 i = 1#1), ∀ a x, ((![v9_12] : Fin 1 → IVec S16 32) a x).toNat < S64.size a)
theorem k1_idx2_inb : ∀ (i : grid1.Coords) (v9_12 : IVec S16 32) (k1_hw2 : k1_chk2 i v9_12), ∀ (k1_h1 : k1_cond1 i = 1#1), ∀ a x, ((![v9_12] : Fin 1 → IVec S16 32) a x).toNat < S64.size a := fun i v9_12 k1_hw2 k1_h1 => k1_hw2 k1_h1

def k1_chk3 (i : grid1.Coords) (v9_5 : IVec S16 32) : Prop :=
  (∀ (k1_h1 : k1_cond1 i = 1#1), ∀ a x, ((![v9_5] : Fin 1 → IVec S16 32) a x).toNat < S64.size a)
theorem k1_idx3_inb : ∀ (i : grid1.Coords) (v9_5 : IVec S16 32) (k1_hw3 : k1_chk3 i v9_5), ∀ (k1_h1 : k1_cond1 i = 1#1), ∀ a x, ((![v9_5] : Fin 1 → IVec S16 32) a x).toNat < S64.size a := fun i v9_5 k1_hw3 k1_h1 => k1_hw3 k1_h1

def k1_chk4 (i : grid1.Coords) (v9_13 : IVec S16 32) : Prop :=
  (∀ (k1_h1 : k1_cond1 i = 1#1), ∀ a x, ((![v9_13] : Fin 1 → IVec S16 32) a x).toNat < S64.size a)
theorem k1_idx4_inb : ∀ (i : grid1.Coords) (v9_13 : IVec S16 32) (k1_hw4 : k1_chk4 i v9_13), ∀ (k1_h1 : k1_cond1 i = 1#1), ∀ a x, ((![v9_13] : Fin 1 → IVec S16 32) a x).toNat < S64.size a := fun i v9_13 k1_hw4 k1_h1 => k1_hw4 k1_h1

def k1_chk5 (i : grid1.Coords) (v9_6 : IVec S16 32) : Prop :=
  (∀ (k1_h1 : k1_cond1 i = 1#1), ∀ a x, ((![v9_6] : Fin 1 → IVec S16 32) a x).toNat < S64.size a)
theorem k1_idx5_inb : ∀ (i : grid1.Coords) (v9_6 : IVec S16 32) (k1_hw5 : k1_chk5 i v9_6), ∀ (k1_h1 : k1_cond1 i = 1#1), ∀ a x, ((![v9_6] : Fin 1 → IVec S16 32) a x).toNat < S64.size a := fun i v9_6 k1_hw5 k1_h1 => k1_hw5 k1_h1

def k1_chk6 (i : grid1.Coords) (v9_14 : IVec S16 32) : Prop :=
  (∀ (k1_h1 : k1_cond1 i = 1#1), ∀ a x, ((![v9_14] : Fin 1 → IVec S16 32) a x).toNat < S64.size a)
theorem k1_idx6_inb : ∀ (i : grid1.Coords) (v9_14 : IVec S16 32) (k1_hw6 : k1_chk6 i v9_14), ∀ (k1_h1 : k1_cond1 i = 1#1), ∀ a x, ((![v9_14] : Fin 1 → IVec S16 32) a x).toNat < S64.size a := fun i v9_14 k1_hw6 k1_h1 => k1_hw6 k1_h1

def k1_chk7 (i : grid1.Coords) (v9_7 : IVec S16 32) : Prop :=
  (∀ (k1_h1 : k1_cond1 i = 1#1), ∀ a x, ((![v9_7] : Fin 1 → IVec S16 32) a x).toNat < S64.size a)
theorem k1_idx7_inb : ∀ (i : grid1.Coords) (v9_7 : IVec S16 32) (k1_hw7 : k1_chk7 i v9_7), ∀ (k1_h1 : k1_cond1 i = 1#1), ∀ a x, ((![v9_7] : Fin 1 → IVec S16 32) a x).toNat < S64.size a := fun i v9_7 k1_hw7 k1_h1 => k1_hw7 k1_h1

def k1_chk8 (i : grid1.Coords) (v9_15 : IVec S16 32) : Prop :=
  (∀ (k1_h1 : k1_cond1 i = 1#1), ∀ a x, ((![v9_15] : Fin 1 → IVec S16 32) a x).toNat < S64.size a)
theorem k1_idx8_inb : ∀ (i : grid1.Coords) (v9_15 : IVec S16 32) (k1_hw8 : k1_chk8 i v9_15), ∀ (k1_h1 : k1_cond1 i = 1#1), ∀ a x, ((![v9_15] : Fin 1 → IVec S16 32) a x).toNat < S64.size a := fun i v9_15 k1_hw8 k1_h1 => k1_hw8 k1_h1

def k1_chk9 (i : grid1.Coords) (v201 : IVec S16 32) : Prop :=
  (∀ (k1_h1 : k1_cond1 i = 1#1), ∀ a x, ((![v201] : Fin 1 → IVec S16 32) a x).toNat < S64.size a)
theorem k1_idx9_inb : ∀ (i : grid1.Coords) (v201 : IVec S16 32) (k1_hw9 : k1_chk9 i v201), ∀ (k1_h1 : k1_cond1 i = 1#1), ∀ a x, ((![v201] : Fin 1 → IVec S16 32) a x).toNat < S64.size a := fun i v201 k1_hw9 k1_h1 => k1_hw9 k1_h1

def k1_chk10 (i : grid1.Coords) (v209 : IVec S16 32) : Prop :=
  (∀ (k1_h1 : k1_cond1 i = 1#1), ∀ a x, ((![v209] : Fin 1 → IVec S16 32) a x).toNat < S64.size a)
theorem k1_idx10_inb : ∀ (i : grid1.Coords) (v209 : IVec S16 32) (k1_hw10 : k1_chk10 i v209), ∀ (k1_h1 : k1_cond1 i = 1#1), ∀ a x, ((![v209] : Fin 1 → IVec S16 32) a x).toNat < S64.size a := fun i v209 k1_hw10 k1_h1 => k1_hw10 k1_h1

def k1_chk11 (i : grid1.Coords) (v217 : IVec S16 32) : Prop :=
  (∀ (k1_h1 : k1_cond1 i = 1#1), ∀ a x, ((![v217] : Fin 1 → IVec S16 32) a x).toNat < S64.size a)
theorem k1_idx11_inb : ∀ (i : grid1.Coords) (v217 : IVec S16 32) (k1_hw11 : k1_chk11 i v217), ∀ (k1_h1 : k1_cond1 i = 1#1), ∀ a x, ((![v217] : Fin 1 → IVec S16 32) a x).toNat < S64.size a := fun i v217 k1_hw11 k1_h1 => k1_hw11 k1_h1

def k1_chk12 (i : grid1.Coords) (v225 : IVec S16 32) : Prop :=
  (∀ (k1_h1 : k1_cond1 i = 1#1), ∀ a x, ((![v225] : Fin 1 → IVec S16 32) a x).toNat < S64.size a)
theorem k1_idx12_inb : ∀ (i : grid1.Coords) (v225 : IVec S16 32) (k1_hw12 : k1_chk12 i v225), ∀ (k1_h1 : k1_cond1 i = 1#1), ∀ a x, ((![v225] : Fin 1 → IVec S16 32) a x).toNat < S64.size a := fun i v225 k1_hw12 k1_h1 => k1_hw12 k1_h1
abbrev grid2 : Pipeline.Grid := ⟨1, ![64], ![false]⟩

abbrev pre2 : Pipeline.Prefetch sig := ⟨2, ![main_v5.idx, main_v7.idx], fun | 0 => main_v5.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) : Fin 1 → Nat :=
  let arg0 : BitVec 32 := BitVec.ofNat 32 (i 0).val
  let v7 : Index := Scalar.indexCast arg0
  ![v7.toNat]
def k2_off3 (v8 : BitVec 32) : Fin 2 → Nat :=
  let v14 : Index := Scalar.indexCast v8
  let c0_7 : Index := 0#32
  ![v14.toNat, 0]
def k2_cond2 (i : grid2.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def k2_off4 (v8 : BitVec 32) : Fin 2 → Nat :=
  let v36 : Index := Scalar.indexCast v8
  let c0_20 : Index := 0#32
  ![v36.toNat, 0]

def k2_chk1 (i : grid2.Coords) (v3 : BitVec 32) (v8 : BitVec 32) : Prop :=
  (∀ (k2_h2 : k2_cond2 i v3 = 1#1), ∀ a, (k2_off3 v8) a + S1x512.size a ≤ S64x512.size a) ∧
  (∀ (k2_h2 : k2_cond2 i v3 = 1#1), ∀ a, (k2_off4 v8) a + S1x1024.size a ≤ S64x1024.size a)
theorem k2_off3_inb : ∀ (i : grid2.Coords) (v3 : BitVec 32) (v8 : BitVec 32) (k2_hw1 : k2_chk1 i v3 v8), ∀ (k2_h2 : k2_cond2 i v3 = 1#1), ∀ a, (k2_off3 v8) a + S1x512.size a ≤ S64x512.size a := fun i v3 v8 k2_hw1 k2_h2 => k2_hw1.1 k2_h2
theorem k2_off4_inb : ∀ (i : grid2.Coords) (v3 : BitVec 32) (v8 : BitVec 32) (k2_hw1 : k2_chk1 i v3 v8), ∀ (k2_h2 : k2_cond2 i v3 = 1#1), ∀ a, (k2_off4 v8) a + S1x1024.size a ≤ S64x1024.size a := fun i v3 v8 k2_hw1 k2_h2 => k2_hw1.2 k2_h2

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (k2_off1_inb : ∀ i : grid2.Coords, ∀ a, (k2_off1 i) a + S1.size a ≤ S64.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S64) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (k2_off1_inb : ∀ i : grid2.Coords, ∀ a, (k2_off1 i) a + S1.size a ≤ S64.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S64) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (k2_off1_inb : ∀ i : grid2.Coords, ∀ a, (k2_off1 i) a + S1.size a ≤ S64.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S64) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2x64 .i32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x1x1024 : Shape := ⟨3, ![64, 1, 1024]⟩
abbrev S1024x64 : Shape := ⟨2, ![1024, 64]⟩
abbrev S64 : Shape := ⟨1, ![64]⟩
abbrev S64x1024x512 : Shape := ⟨3, ![64, 1024, 512]⟩
abbrev S64x512 : Shape := ⟨2, ![64, 512]⟩
abbrev S64x512x512 : Shape := ⟨3, ![64, 512, 512]⟩
abbrev S64x512x1024 : Shape := ⟨3, ![64, 512, 1024]⟩
abbrev S64x1024 : Shape := ⟨2, ![64, 1024]⟩
abbrev S64x1x64 : Shape := ⟨3, ![64, 1, 64]⟩
abbrev S1x1x64 : Shape := ⟨3, ![1, 1, 64]⟩
abbrev S_ : Shape := ⟨0, ![]⟩
abbrev S64x1 : Shape := ⟨2, ![64, 1]⟩
abbrev S64x1x1 : Shape := ⟨3, ![64, 1, 1]⟩
abbrev S64x1x2 : Shape := ⟨3, ![64, 1, 2]⟩
abbrev S64x1x64x512 : Shape := ⟨4, ![64, 1, 64, 512]⟩
abbrev S1x1x64x512 : Shape := ⟨4, ![1, 1, 64, 512]⟩
abbrev S64x512x64x1 : Shape := ⟨4, ![64, 512, 64, 1]⟩
abbrev S64x1024x64x1 : Shape := ⟨4, ![64, 1024, 64, 1]⟩
abbrev S64x1x64x1024 : Shape := ⟨4, ![64, 1, 64, 1024]⟩
abbrev S1x1x64x1024 : Shape := ⟨4, ![1, 1, 64, 1024]⟩
abbrev S64x1x2x1 : Shape := ⟨4, ![64, 1, 2, 1]⟩
abbrev S64x2x1 : Shape := ⟨3, ![64, 2, 1]⟩
abbrev S1 : Shape := ⟨1, ![1]⟩
abbrev S1x1x1 : Shape := ⟨3, ![1, 1, 1]⟩
abbrev S64x2 : Shape := ⟨2, ![64, 2]⟩
abbrev S64x1x2x1024 : Shape := ⟨4, ![64, 1, 2, 1024]⟩

abbrev nBuf : Space → Nat
  | .hbm => 86
  | .vmem => 0
  | .smem => 0
  | _ => 0

abbrev bufTy : (tb : Table) → Fin (tcTables nBuf tb) → BufTy
  | .hbm, ⟨0, _⟩ => ⟨S64x1x1024, .f32⟩
  | .hbm, ⟨1, _⟩ => ⟨S1024x64, .f32⟩
  | .hbm, ⟨2, _⟩ => ⟨S64, .f32⟩
  | .hbm, ⟨3, _⟩ => ⟨S64x1024x512, .f32⟩
  | .hbm, ⟨4, _⟩ => ⟨S64x512, .f32⟩
  | .hbm, ⟨5, _⟩ => ⟨S64x512x512, .f32⟩
  | .hbm, ⟨6, _⟩ => ⟨S64x512, .f32⟩
  | .hbm, ⟨7, _⟩ => ⟨S64x512x1024, .f32⟩
  | .hbm, ⟨8, _⟩ => ⟨S64x1024, .f32⟩
  | .hbm, ⟨9, _⟩ => ⟨S64x1x64, .f32⟩
  | .hbm, ⟨10, _⟩ => ⟨S1x1x64, .f32⟩
  | .hbm, ⟨11, _⟩ => ⟨S64x1x64, .f32⟩
  | .hbm, ⟨12, _⟩ => ⟨S64x1x64, .f32⟩
  | .hbm, ⟨13, _⟩ => ⟨S_, .f32⟩
  | .hbm, ⟨14, _⟩ => ⟨S64x1, .f32⟩
  | .hbm, ⟨15, _⟩ => ⟨S_, .f32⟩
  | .hbm, ⟨16, _⟩ => ⟨S64x1, .f32⟩
  | .hbm, ⟨17, _⟩ => ⟨S64x1, .f32⟩
  | .hbm, ⟨18, _⟩ => ⟨S64x1x1, .f32⟩
  | .hbm, ⟨19, _⟩ => ⟨S64x1x64, .f32⟩
  | .hbm, ⟨20, _⟩ => ⟨S64x1x64, .f32⟩
  | .hbm, ⟨21, _⟩ => ⟨S64x1x64, .f32⟩
  | .hbm, ⟨22, _⟩ => ⟨S_, .f32⟩
  | .hbm, ⟨23, _⟩ => ⟨S64x1, .f32⟩
  | .hbm, ⟨24, _⟩ => ⟨S64x1x1, .f32⟩
  | .hbm, ⟨25, _⟩ => ⟨S64x1x64, .f32⟩
  | .hbm, ⟨26, _⟩ => ⟨S64x1x64, .f32⟩
  | .hbm, ⟨27, _⟩ => ⟨S64x1x2, .f32⟩
  | .hbm, ⟨28, _⟩ => ⟨S64x1x2, .i32⟩
  | .hbm, ⟨29, _⟩ => ⟨S_, .f32⟩
  | .hbm, ⟨30, _⟩ => ⟨S64x1, .f32⟩
  | .hbm, ⟨31, _⟩ => ⟨S64x1x1, .f32⟩
  | .hbm, ⟨32, _⟩ => ⟨S64x1x2, .f32⟩
  | .hbm, ⟨33, _⟩ => ⟨S64x1x2, .f32⟩
  | .hbm, ⟨34, _⟩ => ⟨S64x1x64x512, .f32⟩
  | .hbm, ⟨35, _⟩ => ⟨S1x1x64x512, .f32⟩
  | .hbm, ⟨36, _⟩ => ⟨S64x1x64x512, .f32⟩
  | .hbm, ⟨37, _⟩ => ⟨S64x1x64x512, .f32⟩
  | .hbm, ⟨38, _⟩ => ⟨S64x512x64x1, .f32⟩
  | .hbm, ⟨39, _⟩ => ⟨S64x1x64x512, .f32⟩
  | .hbm, ⟨40, _⟩ => ⟨S1x1x64x512, .f32⟩
  | .hbm, ⟨41, _⟩ => ⟨S64x1x64x512, .f32⟩
  | .hbm, ⟨42, _⟩ => ⟨S64x1x64x512, .f32⟩
  | .hbm, ⟨43, _⟩ => ⟨S64x1x64x512, .f32⟩
  | .hbm, ⟨44, _⟩ => ⟨S64x1x64x512, .f32⟩
  | .hbm, ⟨45, _⟩ => ⟨S_, .f32⟩
  | .hbm, ⟨46, _⟩ => ⟨S64x1x64x512, .f32⟩
  | .hbm, ⟨47, _⟩ => ⟨S64x1x64x512, .f32⟩
  | .hbm, ⟨48, _⟩ => ⟨S_, .f32⟩
  | .hbm, ⟨49, _⟩ => ⟨S64x1x64x512, .f32⟩
  | .hbm, ⟨50, _⟩ => ⟨S64x1x64x512, .f32⟩
  | .hbm, ⟨51, _⟩ => ⟨S64x1x64x512, .f32⟩
  | .hbm, ⟨52, _⟩ => ⟨S64x1024x64x1, .f32⟩
  | .hbm, ⟨53, _⟩ => ⟨S64x1x64x1024, .f32⟩
  | .hbm, ⟨54, _⟩ => ⟨S1x1x64x1024, .f32⟩
  | .hbm, ⟨55, _⟩ => ⟨S64x1x64x1024, .f32⟩
  | .hbm, ⟨56, _⟩ => ⟨S64x1x64x1024, .f32⟩
  | .hbm, ⟨57, _⟩ => ⟨S64x1x2x1, .i32⟩
  | .hbm, ⟨58, _⟩ => ⟨S_, .i32⟩
  | .hbm, ⟨59, _⟩ => ⟨S64x1x2x1, .i32⟩
  | .hbm, ⟨60, _⟩ => ⟨S64x1x2x1, .i1⟩
  | .hbm, ⟨61, _⟩ => ⟨S_, .i32⟩
  | .hbm, ⟨62, _⟩ => ⟨S64x1x2x1, .i32⟩
  | .hbm, ⟨63, _⟩ => ⟨S64x1x2x1, .i32⟩
  | .hbm, ⟨64, _⟩ => ⟨S64x1x2x1, .i32⟩
  | .hbm, ⟨65, _⟩ => ⟨S64x2x1, .i32⟩
  | .hbm, ⟨66, _⟩ => ⟨S1, .i32⟩
  | .hbm, ⟨67, _⟩ => ⟨S_, .i32⟩
  | .hbm, ⟨68, _⟩ => ⟨S64x2x1, .i32⟩
  | .hbm, ⟨69, _⟩ => ⟨S64x2x1, .i1⟩
  | .hbm, ⟨70, _⟩ => ⟨S1x1x1, .i32⟩
  | .hbm, ⟨71, _⟩ => ⟨S64x2x1, .i32⟩
  | .hbm, ⟨72, _⟩ => ⟨S64x2x1, .i1⟩
  | .hbm, ⟨73, _⟩ => ⟨S64x2x1, .i1⟩
  | .hbm, ⟨74, _⟩ => ⟨S_, .i1⟩
  | .hbm, ⟨75, _⟩ => ⟨S64x2, .i1⟩
  | .hbm, ⟨76, _⟩ => ⟨S64x1x2x1024, .f32⟩
  | .hbm, ⟨77, _⟩ => ⟨S64x1x2x1024, .i1⟩
  | .hbm, ⟨78, _⟩ => ⟨S_, .f32⟩
  | .hbm, ⟨79, _⟩ => ⟨S64x1x2x1024, .f32⟩
  | .hbm, ⟨80, _⟩ => ⟨S64x1x2x1024, .f32⟩
  | .hbm, ⟨81, _⟩ => ⟨S64x1x2x1, .f32⟩
  | .hbm, ⟨82, _⟩ => ⟨S64x1x2x1024, .f32⟩
  | .hbm, ⟨83, _⟩ => ⟨S64x1x2x1024, .f32⟩
  | .hbm, ⟨84, _⟩ => ⟨S_, .f32⟩
  | .hbm, ⟨85, _⟩ => ⟨S64x1x1024, .f32⟩
  | _, _ => ⟨S64x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_3 : Ref sig .tc := ⟨.hbm, 84, rfl⟩
abbrev main_v39 : Ref sig .tc := ⟨.hbm, 85, rfl⟩

abbrev nD : Nat := 1
abbrev τ : Topo := Topo.v7x

variable {F : FTy → Type} [FloatOps F]
-- ==== Proof.Common.lean ====
/- What every module of this proof shares: the program as the launch of its SparseCore call sees it, the ghost
   algebra (the launch's handshakes, the two TensorCore pipelines' rounds, the copies' counters), and the two facts
   about what the TensorCore owes around the call. Stated for KernelIdeal at any float values `F`. -/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Tactic
public import Idealize.ShloMosaic.Lib.VecWindow
public import Idealize.ShloMosaic.Lib.Pointwise.Index
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Moe

open Cert.KernelIdeal hiding ix2
open Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type}

/-! ## The program as the launch sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions the launch theorem decides. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

abbrev UH : Type := URounds (GSem nD τ sig) ℕ
abbrev UP : Type := UR sig nD τ
/-- The handshakes' rounds, beside the pipelines' rounds and the copies' counters. -/
abbrev UU : Type := UH × (UP × Counters)

local notation "𝕄" => MT nD τ sig (HIx 1) (Elt F) ℕ UU ℕ

abbrev EH : Emb UH (MT nD τ sig (HIx 1) (Elt F) ℕ UU ℕ) := embL
/-- The pipelines' component. -/
def EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

/-- The launch element's split between the handshakes and the pipelines. -/
theorem ownU_split (a : UH) (b : UP) :
    (ownU ((a, (b, 1)) : UU) : sProp 𝕄) ⊢ iprop(BI.own (EH (F := F) a) ∗ BI.own (EP (F := F) b)) := by
  refine (ownU_pair a (b, (1 : Counters))).trans ?_
  iintro ⟨Ha, Hb⟩
  isplitl [Ha]; · iexact Ha
  ihave H := (own_pair_emb (embR : Emb (UP × Counters) 𝕄) b (1 : Counters)) $$ Hb
  icases H with ⟨Hb, -⟩
  iexact Hb

/-! ## The TensorCore around a call: it owes only starts, and those are not at the kernels' own index -/

/-- What the TensorCore owes before call `n` is nothing at the index its pipelines wait at. -/
theorem Otc_none [FloatOps F] (d : Dev nD) (n : ℕ) (g : GSem nD τ sig) :
    (K (F := F)).Otc (nD := nD) (N := 1) d n g none = 0 := by
  by_contra h
  have := SparseCore.Cfg.lev_of_Otc_pos (K := K (F := F)) (Nat.pos_of_ne_zero h)
  exact absurd this (by show ¬ (_ ≤ 0); omega)

end Cert.Moe

end
-- ==== Proof.Top2.lean ====
/-
  The router's arithmetic as functions of the logits, at any float values: the running top two of one
  token, the two index and weight tables, the table of active experts, and the schedule.
-/
module

public import proofs.«01_k».proof.Proof.Common

@[expose] public section

noncomputable section

namespace Cert.Moe

open Cert.KernelIdeal hiding ix2
open Cert.KernelIdeal.Gen
open Idealize.ShloMosaic

variable {F : FTy → Type} [FloatOps F]

/-! ## The running top two -/

/-- One token's state: the largest logit and its expert, the second largest and its expert. -/
abbrev St (F : FTy → Type) : Type := F .f32 × BitVec 32 × F .f32 × BitVec 32

/-- One expert's logit `v` taken into a token's state. -/
def step1 (e : BitVec 32) (v : F .f32) (s : St F) : St F :=
  (Scalar.select (FloatOps.cmpf .ogt v s.1) v s.1,
   Scalar.select (FloatOps.cmpf .ogt v s.1) e s.2.1,
   Scalar.select (FloatOps.cmpf .ogt v s.1) s.1 (Scalar.select (FloatOps.cmpf .ogt v s.2.2.1) v s.2.2.1),
   Scalar.select (FloatOps.cmpf .ogt v s.1) s.2.1 (Scalar.select (FloatOps.cmpf .ogt v s.2.2.1) e s.2.2.2))

def ninf : F .f32 := Scalar.ofBits .f32 0xFF800000#32
def oneW : F .f32 := Scalar.ofBits .f32 0x3F800000#32
def zeroW : F .f32 := Scalar.ofBits .f32 0x00000000#32
def halfW : F .f32 := Scalar.ofBits .f32 0x3F000000#32

/-- The state of token `t` after the first `n` experts of the transposed logits `lt`. -/
def top (lt : S64x64.Idx → F .f32) (t : Fin 64) : ℕ → St F
  | 0 => (ninf, 0#32, ninf, 0#32)
  | n + 1 => if h : n < 64 then step1 (BitVec.ofNat 32 n) (lt (ix2 ⟨n, h⟩ t)) (top lt t n) else top lt t n

theorem top_succ (lt : S64x64.Idx → F .f32) (t : Fin 64) (n : ℕ) (h : n < 64) :
    top lt t (n + 1) = step1 (BitVec.ofNat 32 n) (lt (ix2 ⟨n, h⟩ t)) (top lt t n) := by
  rw [top, dif_pos h]

theorem select_ind {α : Type} {P : α → Prop} (c : BitVec 1) {a b : α} (ha : P a) (hb : P b) : P (Scalar.select c a b) := by
  unfold Scalar.select; split <;> assumption

theorem top_range (lt : S64x64.Idx → F .f32) (t : Fin 64) (n : ℕ) :
    (top lt t n).2.1.toNat < 64 ∧ (top lt t n).2.2.2.toNat < 64 := by
  induction n with
  | zero => exact ⟨by show (0#32).toNat < 64; decide, by show (0#32).toNat < 64; decide⟩
  | succ n ih =>
    by_cases h : n < 64
    · rw [top_succ lt t n h]
      have hn : (BitVec.ofNat 32 n).toNat < 64 := by rw [BitVec.toNat_ofNat]; omega
      unfold step1
      exact ⟨select_ind (P := fun x : BitVec 32 => x.toNat < 64) _ hn ih.1,
        select_ind (P := fun x : BitVec 32 => x.toNat < 64) _ ih.1 (select_ind (P := fun x : BitVec 32 => x.toNat < 64) _ hn ih.2)⟩
    · rw [top, dif_neg h]; exact ih

/-- The experts a token picks, first and second. -/
def pick1 (lt : S64x64.Idx → F .f32) (t : Fin 64) : Fin 64 := ⟨(top lt t 64).2.1.toNat, (top_range lt t 64).1⟩
def pick2 (lt : S64x64.Idx → F .f32) (t : Fin 64) : Fin 64 := ⟨(top lt t 64).2.2.2.toNat, (top_range lt t 64).2⟩

/-- The first weight of a token. -/
def wgt (lt : S64x64.Idx → F .f32) (t : Fin 64) : F .f32 :=
  FloatOps.divf oneW (FloatOps.addf oneW (FloatOps.exp (FloatOps.subf (top lt t 64).2.2.1 (top lt t 64).1)))

/-- The table of picks and the table of weights. -/
def aiOf (lt : S64x64.Idx → F .f32) : S2x64.Idx → BitVec 32 :=
  fun j => if (j 0).val = 0 then (top lt (j 1) 64).2.1 else (top lt (j 1) 64).2.2.2
def wvOf (lt : S64x64.Idx → F .f32) : S2x64.Idx → F .f32 :=
  fun j => if (j 0).val = 0 then wgt lt (j 1) else FloatOps.subf oneW (wgt lt (j 1))

/-- The table of active experts: one at every expert some token picks, zero elsewhere. -/
def actOf (lt : S64x64.Idx → F .f32) : S64.Idx → F .f32 := by
  classical exact fun j => if ∃ t, (pick1 lt t).val = (j 0).val ∨ (pick2 lt t).val = (j 0).val then oneW else zeroW

/-- Expert `e` is taken for active: its table entry compares above one half. -/
def On (lt : S64x64.Idx → F .f32) (e : ℕ) : Prop :=
  ∃ h : e < 64, (FloatOps.cmpf .ogt (actOf lt (ix1 ⟨e, h⟩)) halfW : BitVec 1) = 1

instance (lt : S64x64.Idx → F .f32) : DecidablePred (On lt) := fun _ => Classical.propDecidable _

/-! ## Lanes -/

/-- Lane `k` of chunk `c`, of sixty-four. -/
def lane (c : Fin 4) (k : Fin 16) : Fin 64 := ⟨16 * c.val + k.val, by omega⟩

/-- Chunk `c` of a table of sixty-four. -/
def chunk {α : Type} (f : S64.Idx → α) (c : Fin 4) : S16.Idx → α := fun j => f (ix1 (lane c (j 0)))

/-! ## The scans -/

theorem ofLane_eq (k : Fin 16) : (Shape.ofLane (d := ![16]) k : S16.Idx) = ix1 k := by
  rw [eq_ix1 (Shape.ofLane (d := ![16]) k : S16.Idx)]; rfl

theorem lanes_upto : ∀ k : Fin 15, (List.finRange 16).filter (fun i => decide (0 < i.val ∧ i.val ≤ k.val + 1))
    = (List.finRange 16).filter (fun i => decide (0 < i.val ∧ i.val ≤ k.val)) ++ [⟨k.val + 1, by omega⟩] := by decide

theorem scan_eq (kind : ScanKind) (v : IVec S16 32) (k : Fin 16) :
    scan kind v (ix1 k) = ((List.finRange 16).filter fun i => decide (0 < i.val ∧ i.val ≤ k.val)).foldl
      (fun r i => kind.step r (v (ix1 i))) (v (ix1 0)) := by
  have e : (fun (r : BitVec 32) (i : Fin 16) => kind.step r (v (Shape.ofLane (d := ![16]) i))) = fun r i => kind.step r (v (ix1 i)) := by
    funext r i; rw [ofLane_eq]
  rw [← e, ← ofLane_eq 0]
  rfl

theorem scan_zero (kind : ScanKind) (v : IVec S16 32) : scan kind v (ix1 (0 : Fin 16)) = v (ix1 0) := by
  rw [scan_eq, show (List.finRange 16).filter (fun i => decide (0 < i.val ∧ i.val ≤ (0 : Fin 16).val)) = [] by decide]
  rfl

theorem scan_succ (kind : ScanKind) (v : IVec S16 32) (k : ℕ) (h : k + 1 < 16) :
    scan kind v (ix1 (⟨k + 1, h⟩ : Fin 16)) = kind.step (scan kind v (ix1 (⟨k, by omega⟩ : Fin 16))) (v (ix1 ⟨k + 1, h⟩)) := by
  rw [scan_eq, scan_eq]
  have := lanes_upto ⟨k, by omega⟩
  dsimp only at this ⊢
  rw [this, List.foldl_append]
  rfl

/-- A running sum of zeros and ones is a count. -/
theorem scan_sum_count (p : ℕ → Prop) [DecidablePred p]
    (v : IVec S16 32)
    (hv : ∀ k : Fin 16, v (ix1 k) = if p k.val then 1#32 else 0#32) (k : ℕ) (h : k < 16) :
    scan ScanKind.sum v (ix1 ⟨k, h⟩) = BitVec.ofNat 32 (Nat.count p (k + 1)) := by
  induction k with
  | zero =>
    rw [show (⟨0, h⟩ : Fin 16) = 0 from rfl, scan_zero, hv, Nat.count_succ, Nat.count_zero, Nat.zero_add]
    show (if p 0 then _ else _) = _
    split <;> rfl
  | succ k ih =>
    rw [scan_succ, ih (by omega), hv, Nat.count_succ p (k + 1)]
    show _ + (if p (k + 1) then _ else _) = _
    split
    · rw [BitVec.ofNat_add]
    · simp

/-- A running maximum, read unsigned, stays in a set the lanes are in. -/
theorem scan_max_ind (P : BitVec 32 → Prop) (v : IVec S16 32) (hv : ∀ k : Fin 16, P (v (ix1 k))) (k : ℕ) (h : k < 16) :
    P (scan .max v (ix1 ⟨k, h⟩)) := by
  induction k with
  | zero => rw [show (⟨0, h⟩ : Fin 16) = 0 from rfl, scan_zero]; exact hv 0
  | succ k ih =>
    rw [scan_succ]
    show P (if _ then _ else _)
    split
    · exact ih (by omega)
    · exact hv _

/-! ## The indexed store -/

/-- One lane of an indexed store. -/
def laneStep {α : EltTy} (r : IVec S16 32) (v : Vec F S16 α) (mask : IVec S16 1) (f : Vec F S64 α) (k : Fin 16) : Vec F S64 α :=
  fun j => if mask (ix1 k) = 1 ∧ (r (ix1 k)).toNat = (j 0).val then v (ix1 k) else f j

theorem storeIdx_fold {α : EltTy} (f : Vec F S64 α) (r : IVec S16 32) (v : Vec F S16 α) (mask : IVec S16 1)
    (h : ∀ a x, ((![r] : Fin 1 → IVec S16 32) a x).toNat < S64.size a) :
    storeIdx f ![r] v mask false h = (List.finRange 16).foldl (laneStep r v mask) f := by
  refine congrArg (fun s => List.foldl s f (List.finRange 16)) ?_
  funext f k j
  change Fin 16 at k
  show (if mask (Shape.ofLane (d := ![16]) k) = 1 then _ else _ : Vec F S64 α) j = _
  simp only [ofLane_eq, Bool.false_eq_true, if_false]
  unfold laneStep
  by_cases hm : mask (ix1 k) = 1
  · rw [if_pos hm]
    by_cases hr : (r (ix1 k)).toNat = (j 0).val
    · rw [if_pos (show mask (ix1 k) = 1 ∧ (r (ix1 k)).toNat = (j 0).val from ⟨hm, hr⟩), if_pos]
      intro a; obtain rfl : a = 0 := Subsingleton.elim _ _; exact hr.symm
    · rw [if_neg (show ¬ (mask (ix1 k) = 1 ∧ (r (ix1 k)).toNat = (j 0).val) from fun hh => hr hh.2), if_neg]
      intro ha; exact hr (ha 0).symm
  · rw [if_neg hm, if_neg (show ¬ (mask (ix1 k) = 1 ∧ (r (ix1 k)).toNat = (j 0).val) from fun hh => hm hh.1)]

/-- What an indexed store leaves at one place, where every lane that names the place holds one value. -/
theorem storeIdx_at {α : EltTy} (f : Vec F S64 α) (r : IVec S16 32) (v : Vec F S16 α) (mask : IVec S16 1)
    (h : ∀ a x, ((![r] : Fin 1 → IVec S16 32) a x).toNat < S64.size a) (g : Fin 64) (w : Elt F α)
    (hw : ∀ k : Fin 16, mask (ix1 k) = 1 → (r (ix1 k)).toNat = g.val → v (ix1 k) = w) :
    (storeIdx f ![r] v mask false h (ix1 g) = w ∧ ∃ k : Fin 16, mask (ix1 k) = 1 ∧ (r (ix1 k)).toNat = g.val)
      ∨ (storeIdx f ![r] v mask false h (ix1 g) = f (ix1 g) ∧ ¬ ∃ k : Fin 16, mask (ix1 k) = 1 ∧ (r (ix1 k)).toNat = g.val) := by
  have key : ∀ (l : List (Fin 16)) (f : Vec F S64 α),
      (l.foldl (laneStep r v mask) f (ix1 g) = w ∧ ∃ k ∈ l, mask (ix1 k) = 1 ∧ (r (ix1 k)).toNat = g.val)
      ∨ (l.foldl (laneStep r v mask) f (ix1 g) = f (ix1 g) ∧ ¬ ∃ k ∈ l, mask (ix1 k) = 1 ∧ (r (ix1 k)).toNat = g.val) := by
    intro l
    induction l with
    | nil => intro f; exact .inr ⟨rfl, fun ⟨k, hk, _⟩ => absurd hk List.not_mem_nil⟩
    | cons k l ih =>
      intro f
      rw [List.foldl_cons]
      rcases ih (laneStep r v mask f k) with ⟨e, k', hk', hh⟩ | ⟨e, hn⟩
      · exact .inl ⟨e, k', List.mem_cons_of_mem _ hk', hh⟩
      · rw [e]
        by_cases hm : mask (ix1 k) = 1 ∧ (r (ix1 k)).toNat = g.val
        · exact .inl ⟨(if_pos hm).trans (hw k hm.1 hm.2), k, List.mem_cons_self, hm⟩
        · refine .inr ⟨if_neg hm, ?_⟩
          rintro ⟨k', hk', hh⟩
          rcases List.mem_cons.mp hk' with rfl | hk'
          · exact hm hh
          · exact hn ⟨k', hk', hh⟩
  rw [storeIdx_fold]
  rcases key (List.finRange 16) f with ⟨e, k, _, hk⟩ | ⟨e, hn⟩
  · exact .inl ⟨e, k, hk⟩
  · exact .inr ⟨e, fun ⟨k, hk⟩ => hn ⟨k, List.mem_finRange k, hk⟩⟩

end Cert.Moe

end
-- ==== Proof.Sched.lean ====
/-
  The schedule the router builds from the table of active experts: the running counts, the last active
  expert, and the four indexed stores, as one function of the logits.
-/
module

public import proofs.«01_k».proof.Proof.Top2

@[expose] public section

noncomputable section

namespace Cert.Moe

open Cert.KernelIdeal hiding ix2
open Cert.KernelIdeal.Gen
open Idealize.ShloMosaic

variable {F : FTy → Type} [FloatOps F] (lt : S64x64.Idx → F .f32)

/-- The lane numbers. -/
def lanes : IVec S16 32 := iota .scVector S16 32 [0] iota_S16_d0_w32_scVector

theorem lanes_at (k : Fin 16) : lanes (ix1 k) = BitVec.ofNat 32 k.val := by
  show BitVec.ofNat 32 (0 * 16 + k.val) = _
  rw [Nat.zero_mul, Nat.zero_add]

/-- The four chunks of the table of active experts. -/
abbrev ch (c : Fin 4) : Vec F S16 .f32 := chunk (actOf lt) c

/-- The mask of chunk `c`. -/
def maskOf (c : Fin 4) : IVec S16 1 := fun j => FloatOps.cmpf .ogt (ch lt c j) halfW

theorem maskOf_iff (c : Fin 4) (k : Fin 16) : maskOf lt c (ix1 k) = 1 ↔ On lt (16 * c.val + k.val) := by
  have hb : 16 * c.val + k.val < 64 := by omega
  exact ⟨fun h => ⟨hb, h⟩, fun ⟨_, h⟩ => h⟩

/-- Zero or one by the mask. -/
theorem bits_at (c : Fin 4) (k : Fin 16) :
    (select (maskOf lt c) (broadcast S16 1#32) (broadcast S16 0#32) : IVec S16 32) (ix1 k)
      = if On lt (16 * c.val + k.val) then 1#32 else 0#32 := by
  show (if maskOf lt c (ix1 k) = 1 then 1#32 else 0#32) = _
  exact if_congr (maskOf_iff lt c k) rfl rfl

def bitsOf (c : Fin 4) : IVec S16 32 := select (maskOf lt c) (broadcast S16 1#32) (broadcast S16 0#32)

/-- The running count within a chunk, the count before it added, is the count of active experts so far. -/
theorem count_at (c : Fin 4) (k : ℕ) (h : k < 16) :
    BitVec.ofNat 32 (Nat.count (On lt) (16 * c.val + k + 1))
      = scan ScanKind.sum (bitsOf lt c) (ix1 ⟨k, h⟩) + BitVec.ofNat 32 (Nat.count (On lt) (16 * c.val)) := by
  rw [scan_sum_count (fun k => On lt (16 * c.val + k)) (bitsOf lt c) (fun k => bits_at lt c k) k h, Nat.add_assoc, Nat.count_add,
    BitVec.ofNat_add, BitVec.add_comm]

theorem last15 {α : Type} (v : S16.Idx → α) : extractAt ![15] v inpos_S16_p15 = v (ix1 ⟨15, by omega⟩) := by
  unfold extractAt
  exact congrArg v (eq_ix1 _)

/-- The counts after one, two, three and four chunks. -/
def n1 : BitVec 32 := Scalar.addi 0#32 (extractAt ![15] (k1_pay49 (ch lt 0)) inpos_S16_p15)
def n2 : BitVec 32 := Scalar.addi (n1 lt) (extractAt ![15] (k1_pay55 (k1_pay51 (ch lt 1)) 0#32 k1_pay52) inpos_S16_p15)
def n3 : BitVec 32 := Scalar.addi (n2 lt) (extractAt ![15] (k1_pay59 (ch lt 2)) inpos_S16_p15)
def n4 : BitVec 32 := Scalar.addi (n3 lt) (extractAt ![15] (k1_pay63 (ch lt 3)) inpos_S16_p15)

theorem n1_eq : n1 lt = BitVec.ofNat 32 (Nat.count (On lt) 16) := by
  unfold n1; rw [last15]
  refine Eq.trans ?_ (count_at lt 0 15 (by omega)).symm
  show 0#32 + scan _ (bitsOf lt 0) _ = _
  simp
theorem n2_eq : n2 lt = BitVec.ofNat 32 (Nat.count (On lt) 32) := by
  unfold n2; rw [last15, n1_eq]
  have e := count_at lt 1 15 (by omega)
  rw [show 16 * (1 : Fin 4).val + 15 + 1 = 32 from rfl, show 16 * (1 : Fin 4).val = 16 from rfl] at e
  rw [e]
  exact BitVec.add_comm _ _
theorem n3_eq : n3 lt = BitVec.ofNat 32 (Nat.count (On lt) 48) := by
  unfold n3; rw [last15, n2_eq]
  have e := count_at lt 2 15 (by omega)
  rw [show 16 * (2 : Fin 4).val + 15 + 1 = 48 from rfl, show 16 * (2 : Fin 4).val = 32 from rfl] at e
  rw [e]
  exact BitVec.add_comm _ _
theorem n4_eq : n4 lt = BitVec.ofNat 32 (Nat.count (On lt) 64) := by
  unfold n4; rw [last15, n3_eq]
  have e := count_at lt 3 15 (by omega)
  rw [show 16 * (3 : Fin 4).val + 15 + 1 = 64 from rfl, show 16 * (3 : Fin 4).val = 48 from rfl] at e
  rw [e]
  exact BitVec.add_comm _ _

/-- The places the four chunks' experts are stored at. -/
def rank0 : IVec S16 32 := k1_pay65 (k1_pay48 (ch lt 0))
def rank1 : IVec S16 32 := k1_pay68 (k1_pay54 (n1 lt) (k1_pay51 (ch lt 1)) 0#32 k1_pay52)
def rank2 : IVec S16 32 := k1_pay71 (k1_pay58 (n1 lt) (k1_pay51 (ch lt 1)) 0#32 k1_pay52 (ch lt 2))
def rank3 : IVec S16 32 := k1_pay74 (k1_pay62 (n3 lt) (ch lt 3))

theorem pred_toNat : ∀ n : Fin 65, (IntOp.maxsi (IntOp.subi (BitVec.ofNat 32 n.val) 1#32) 0#32).toNat = n.val - 1 := by decide

theorem pred_count (n : ℕ) (h : n ≤ 64) :
    (IntOp.maxsi (IntOp.subi (BitVec.ofNat 32 (Nat.count (On lt) n)) 1#32) 0#32).toNat = Nat.count (On lt) n - 1 :=
  pred_toNat ⟨Nat.count (On lt) n, by have := Nat.count_le (p := On lt) (n := n); omega⟩

theorem rank0_at (k : Fin 16) : (rank0 lt (ix1 k)).toNat = Nat.count (On lt) (16 * 0 + k.val + 1) - 1 := by
  refine Eq.trans ?_ (pred_count lt (16 * 0 + k.val + 1) (by omega))
  rw [show BitVec.ofNat 32 (Nat.count (On lt) (16 * 0 + k.val + 1)) = _ from count_at lt 0 k.val k.isLt]
  show (IntOp.maxsi (IntOp.subi (scan _ (bitsOf lt 0) _ + 0#32) 1#32) 0#32).toNat = _
  simp
theorem rank1_at (k : Fin 16) : (rank1 lt (ix1 k)).toNat = Nat.count (On lt) (16 * 1 + k.val + 1) - 1 := by
  refine Eq.trans ?_ (pred_count lt (16 * 1 + k.val + 1) (by omega))
  rw [show BitVec.ofNat 32 (Nat.count (On lt) (16 * 1 + k.val + 1)) = _ from count_at lt 1 k.val k.isLt, show 16 * (1 : Fin 4).val = 16 from rfl, ← n1_eq]
  rfl
theorem rank2_at (k : Fin 16) : (rank2 lt (ix1 k)).toNat = Nat.count (On lt) (16 * 2 + k.val + 1) - 1 := by
  refine Eq.trans ?_ (pred_count lt (16 * 2 + k.val + 1) (by omega))
  rw [show BitVec.ofNat 32 (Nat.count (On lt) (16 * 2 + k.val + 1)) = _ from count_at lt 2 k.val k.isLt, show 16 * (2 : Fin 4).val = 32 from rfl, ← n2_eq]
  rfl
theorem rank3_at (k : Fin 16) : (rank3 lt (ix1 k)).toNat = Nat.count (On lt) (16 * 3 + k.val + 1) - 1 := by
  refine Eq.trans ?_ (pred_count lt (16 * 3 + k.val + 1) (by omega))
  rw [show BitVec.ofNat 32 (Nat.count (On lt) (16 * 3 + k.val + 1)) = _ from count_at lt 3 k.val k.isLt, show 16 * (3 : Fin 4).val = 48 from rfl, ← n3_eq]
  rfl

theorem count64 (n : ℕ) (h : n ≤ 64) : Nat.count (On lt) n - 1 < 64 := by
  have := Nat.count_le (p := On lt) (n := n); omega

theorem inb_of {r : IVec S16 32} (h : ∀ k : Fin 16, (r (ix1 k)).toNat < 64) :
    ∀ a x, ((![r] : Fin 1 → IVec S16 32) a x).toNat < S64.size a := by
  intro a x
  obtain rfl : a = 0 := Subsingleton.elim _ _
  rw [eq_ix1 x]
  exact h (x 0)

theorem rank0_inb : ∀ a x, ((![rank0 lt] : Fin 1 → IVec S16 32) a x).toNat < S64.size a := inb_of (r := rank0 lt) fun k => by rw [rank0_at]; exact count64 lt _ (by omega)
theorem rank1_inb : ∀ a x, ((![rank1 lt] : Fin 1 → IVec S16 32) a x).toNat < S64.size a := inb_of (r := rank1 lt) fun k => by rw [rank1_at]; exact count64 lt _ (by omega)
theorem rank2_inb : ∀ a x, ((![rank2 lt] : Fin 1 → IVec S16 32) a x).toNat < S64.size a := inb_of (r := rank2 lt) fun k => by rw [rank2_at]; exact count64 lt _ (by omega)
theorem rank3_inb : ∀ a x, ((![rank3 lt] : Fin 1 → IVec S16 32) a x).toNat < S64.size a := inb_of (r := rank3 lt) fun k => by rw [rank3_at]; exact count64 lt _ (by omega)

/-! ## The last active expert -/

def last2 : BitVec 32 := Scalar.maxsi (Scalar.maxsi 0#32 (extractAt ![15] (k1_pay50 lanes (ch lt 0)) inpos_S16_p15))
  (extractAt ![15] (k1_pay56 lanes (ch lt 1)) inpos_S16_p15)
/-- The padding: the last active expert in every lane. -/
def padOf : IVec S16 32 := k1_pay64 lanes (last2 lt) (k1_pay60 lanes (ch lt 2)) (ch lt 3)

/-- Minus one, or an expert. -/
def Ok (x : BitVec 32) : Prop := x = 4294967295#32 ∨ x.toNat < 64
/-- The same with the sign bit flipped. -/
def OkX (x : BitVec 32) : Prop := x = 2147483647#32 ∨ ∃ e : Fin 64, x = BitVec.ofNat 32 (2147483648 + e.val)

theorem okX_of {x : BitVec 32} (h : Ok x) : OkX (x ^^^ 2147483648#32) := by
  rcases h with rfl | h
  · exact .inl (by decide)
  · refine .inr ⟨⟨x.toNat, h⟩, ?_⟩
    have key : ∀ e : Fin 64, BitVec.ofNat 32 e.val ^^^ 2147483648#32 = BitVec.ofNat 32 (2147483648 + e.val) := by decide
    have := key ⟨x.toNat, h⟩
    rwa [show BitVec.ofNat 32 x.toNat = x by simp] at this
theorem ok_of {x : BitVec 32} (h : OkX x) : Ok (x ^^^ 2147483648#32) := by
  rcases h with rfl | ⟨e, rfl⟩
  · exact .inl (by decide)
  · right
    revert e; decide

theorem maxsi_lt {x y : BitVec 32} (hx : x.toNat < 64) (hy : Ok y) : (IntOp.maxsi x y).toNat < 64 := by
  unfold IntOp.maxsi
  rcases hy with rfl | hy
  · have key : ∀ e : Fin 64, ((4294967295#32).slt (BitVec.ofNat 32 e.val)) = true := by decide
    have h := key ⟨x.toNat, hx⟩
    rw [show BitVec.ofNat 32 x.toNat = x by simp] at h
    rw [if_pos h]; exact hx
  · split <;> assumption

/-- The running maximum of a chunk's active experts, or minus one. -/
theorem maxscan_ok (v : IVec S16 32) (hv : ∀ k : Fin 16, Ok (v (ix1 k))) :
    Ok (extractAt ![15] (xori (scan ScanKind.max (xori v (broadcast S16 2147483648#32))) (broadcast S16 2147483648#32) : IVec S16 32) inpos_S16_p15) := by
  rw [last15]
  show Ok (scan ScanKind.max (xori v (broadcast S16 2147483648#32)) _ ^^^ 2147483648#32)
  exact ok_of (scan_max_ind OkX _ (fun k => okX_of (hv k)) 15 (by omega))

theorem eid_at (c : Fin 4) (k : Fin 16) (b : BitVec 32) (hb : b = BitVec.ofNat 32 (16 * c.val)) :
    (addi lanes (broadcast S16 b) : IVec S16 32) (ix1 k) = BitVec.ofNat 32 (16 * c.val + k.val) := by
  show lanes (ix1 k) + b = _
  rw [lanes_at, hb, ← BitVec.ofNat_add, Nat.add_comm]

theorem eid_ok (c : Fin 4) (k : Fin 16) : Ok (BitVec.ofNat 32 (16 * c.val + k.val)) := by
  right; rw [BitVec.toNat_ofNat]; omega

theorem masked_ok (c : Fin 4) (m : IVec S16 1) (b : BitVec 32) (hb : b = BitVec.ofNat 32 (16 * c.val)) (k : Fin 16) :
    Ok ((select m (addi lanes (broadcast S16 b)) (broadcast S16 4294967295#32) : IVec S16 32) (ix1 k)) := by
  refine select_ind (P := Ok) _ ?_ (.inl rfl)
  rw [eid_at c k b hb]; exact eid_ok c k

theorem padOf_lt (k : Fin 16) : (padOf lt (ix1 k)).toNat < 64 := by
  show (0#32 + IntOp.maxsi (IntOp.maxsi (IntOp.maxsi (IntOp.maxsi 0#32 _) _) _) _).toNat < 64
  rw [BitVec.zero_add]
  refine maxsi_lt (maxsi_lt (maxsi_lt (maxsi_lt (by decide) ?_) ?_) ?_) ?_
  · exact maxscan_ok _ (masked_ok 0 _ _ rfl)
  · exact maxscan_ok _ (masked_ok 1 _ _ rfl)
  · exact maxscan_ok _ (masked_ok 2 _ _ rfl)
  · exact maxscan_ok _ (masked_ok 3 _ _ rfl)

/-! ## The schedule -/

/-- The padding everywhere. -/
def sched0 : Vec F S64 .i32 := fun j => padOf lt (ix1 ⟨(j 0).val % 16, Nat.mod_lt _ (by omega)⟩)
def sched1 : Vec F S64 .i32 := storeIdx (sched0 lt) ![rank0 lt] (k1_pay66 lanes) (k1_pay67 (ch lt 0)) false (rank0_inb lt)
def sched2 : Vec F S64 .i32 := storeIdx (sched1 lt) ![rank1 lt] (k1_pay69 lanes) (k1_pay70 (ch lt 1)) false (rank1_inb lt)
def sched3 : Vec F S64 .i32 := storeIdx (sched2 lt) ![rank2 lt] (k1_pay72 lanes) (k1_pay73 (ch lt 2)) false (rank2_inb lt)
/-- The schedule. -/
def schedOf : Vec F S64 .i32 := storeIdx (sched3 lt) ![rank3 lt] (k1_pay75 lanes) (k1_pay76 (ch lt 3)) false (rank3_inb lt)
/-- The count of active experts, in every lane. -/
def nactOf : Vec F S16 .i32 := k1_pay1 (n4 lt) k1_pay77

theorem count_masked {e : ℕ} (h : On lt e) : Nat.count (On lt) (e + 1) - 1 = Nat.count (On lt) e := by
  rw [Nat.count_succ, if_pos h]; rfl

/-- One of the four stores, at a place `g`: an active expert of the chunk whose rank is `g`, or what was there. -/
theorem store_stage (c : Fin 4) (f : Vec F S64 .i32) (r v : IVec S16 32) (m : IVec S16 1)
    (h : ∀ a x, ((![r] : Fin 1 → IVec S16 32) a x).toNat < S64.size a)
    (hr : ∀ k : Fin 16, (r (ix1 k)).toNat = Nat.count (On lt) (16 * c.val + k.val + 1) - 1)
    (hv : ∀ k : Fin 16, v (ix1 k) = BitVec.ofNat 32 (16 * c.val + k.val)) (hm : m = maskOf lt c) (g : Fin 64) :
    (∃ e, 16 * c.val ≤ e ∧ e < 16 * c.val + 16 ∧ On lt e ∧ Nat.count (On lt) e = g.val
        ∧ storeIdx f ![r] v m false h (ix1 g) = BitVec.ofNat 32 e)
      ∨ ((∀ e, 16 * c.val ≤ e → e < 16 * c.val + 16 → On lt e → Nat.count (On lt) e ≠ g.val)
        ∧ storeIdx f ![r] v m false h (ix1 g) = f (ix1 g)) := by
  have hk : ∀ k : Fin 16, m (ix1 k) = 1 → (r (ix1 k)).toNat = g.val →
      On lt (16 * c.val + k.val) ∧ Nat.count (On lt) (16 * c.val + k.val) = g.val := fun k h1 h2 => by
    have hon : On lt (16 * c.val + k.val) := (maskOf_iff lt c k).mp (hm ▸ h1)
    exact ⟨hon, by rw [← count_masked lt hon, ← hr, h2]⟩
  by_cases hex : ∃ k : Fin 16, m (ix1 k) = 1 ∧ (r (ix1 k)).toNat = g.val
  · obtain ⟨k, h1, h2⟩ := hex
    obtain ⟨hon, hc⟩ := hk k h1 h2
    refine .inl ⟨16 * c.val + k.val, by omega, by omega, hon, hc, ?_⟩
    have hw : ∀ k' : Fin 16, m (ix1 k') = 1 → (r (ix1 k')).toNat = g.val → v (ix1 k') = BitVec.ofNat 32 (16 * c.val + k.val) :=
      fun k' h1' h2' => by
        obtain ⟨hon', hc'⟩ := hk k' h1' h2'
        rw [hv, Nat.count_injective hon' hon (hc'.trans hc.symm)]
    rcases storeIdx_at f r v m h g _ hw with ⟨e, _⟩ | ⟨_, hn⟩
    · exact e
    · exact absurd ⟨k, h1, h2⟩ hn
  · refine .inr ⟨fun e he1 he2 hon hc => hex ⟨⟨e - 16 * c.val, by omega⟩, ?_, ?_⟩, ?_⟩
    · rw [hm, maskOf_iff]; show On lt (16 * c.val + (e - 16 * c.val)); rwa [Nat.add_sub_cancel' he1]
    · rw [hr]; show Nat.count (On lt) (16 * c.val + (e - 16 * c.val) + 1) - 1 = _
      rw [Nat.add_sub_cancel' he1, count_masked lt hon, hc]
    · rcases storeIdx_at f r v m h g 0#32 (fun k' h1' h2' => absurd ⟨k', h1', h2'⟩ hex) with ⟨_, h'⟩ | ⟨e, _⟩
      · exact absurd h' hex
      · exact e

theorem stage1 (g : Fin 64) :
    (∃ e, 16 * 0 ≤ e ∧ e < 16 * 0 + 16 ∧ On lt e ∧ Nat.count (On lt) e = g.val ∧ sched1 lt (ix1 g) = BitVec.ofNat 32 e)
      ∨ ((∀ e, 16 * 0 ≤ e → e < 16 * 0 + 16 → On lt e → Nat.count (On lt) e ≠ g.val) ∧ sched1 lt (ix1 g) = sched0 lt (ix1 g)) := store_stage lt 0 (sched0 lt) (rank0 lt) (k1_pay66 lanes) (k1_pay67 (ch lt 0)) (rank0_inb lt)
  (rank0_at lt) (fun k => eid_at 0 k _ rfl) rfl g
theorem stage2 (g : Fin 64) :
    (∃ e, 16 * 1 ≤ e ∧ e < 16 * 1 + 16 ∧ On lt e ∧ Nat.count (On lt) e = g.val ∧ sched2 lt (ix1 g) = BitVec.ofNat 32 e)
      ∨ ((∀ e, 16 * 1 ≤ e → e < 16 * 1 + 16 → On lt e → Nat.count (On lt) e ≠ g.val) ∧ sched2 lt (ix1 g) = sched1 lt (ix1 g)) := store_stage lt 1 (sched1 lt) (rank1 lt) (k1_pay69 lanes) (k1_pay70 (ch lt 1)) (rank1_inb lt)
  (rank1_at lt) (fun k => eid_at 1 k _ rfl) rfl g
theorem stage3 (g : Fin 64) :
    (∃ e, 16 * 2 ≤ e ∧ e < 16 * 2 + 16 ∧ On lt e ∧ Nat.count (On lt) e = g.val ∧ sched3 lt (ix1 g) = BitVec.ofNat 32 e)
      ∨ ((∀ e, 16 * 2 ≤ e → e < 16 * 2 + 16 → On lt e → Nat.count (On lt) e ≠ g.val) ∧ sched3 lt (ix1 g) = sched2 lt (ix1 g)) := store_stage lt 2 (sched2 lt) (rank2 lt) (k1_pay72 lanes) (k1_pay73 (ch lt 2)) (rank2_inb lt)
  (rank2_at lt) (fun k => eid_at 2 k _ rfl) rfl g
theorem stage4 (g : Fin 64) :
    (∃ e, 16 * 3 ≤ e ∧ e < 16 * 3 + 16 ∧ On lt e ∧ Nat.count (On lt) e = g.val ∧ schedOf lt (ix1 g) = BitVec.ofNat 32 e)
      ∨ ((∀ e, 16 * 3 ≤ e → e < 16 * 3 + 16 → On lt e → Nat.count (On lt) e ≠ g.val) ∧ schedOf lt (ix1 g) = sched3 lt (ix1 g)) := store_stage lt 3 (sched3 lt) (rank3 lt) (k1_pay75 lanes) (k1_pay76 (ch lt 3)) (rank3_inb lt)
  (rank3_at lt) (fun k => eid_at 3 k _ rfl) rfl g

/-- Every entry of the schedule is an active expert at its rank, or the padding. -/
theorem schedOf_cases (g : Fin 64) :
    (∃ e, e < 64 ∧ On lt e ∧ Nat.count (On lt) e = g.val ∧ schedOf lt (ix1 g) = BitVec.ofNat 32 e)
      ∨ ((∀ e, On lt e → Nat.count (On lt) e ≠ g.val) ∧ (schedOf lt (ix1 g)).toNat < 64) := by
  rcases stage4 lt g with ⟨e, h1, h2, h3, h4, h5⟩ | ⟨hn4, h4⟩
  · exact .inl ⟨e, by omega, h3, h4, h5⟩
  rw [show schedOf lt (ix1 g) = sched3 lt (ix1 g) from h4]
  rcases stage3 lt g with ⟨e, h1, h2, h3, h4, h5⟩ | ⟨hn3, h3⟩
  · exact .inl ⟨e, by omega, h3, h4, h5⟩
  rw [show sched3 lt (ix1 g) = sched2 lt (ix1 g) from h3]
  rcases stage2 lt g with ⟨e, h1, h2, h3, h4, h5⟩ | ⟨hn2, h2⟩
  · exact .inl ⟨e, by omega, h3, h4, h5⟩
  rw [show sched2 lt (ix1 g) = sched1 lt (ix1 g) from h2]
  rcases stage1 lt g with ⟨e, h1, h2, h3, h4, h5⟩ | ⟨hn1, h1⟩
  · exact .inl ⟨e, by omega, h3, h4, h5⟩
  rw [show sched1 lt (ix1 g) = sched0 lt (ix1 g) from h1]
  refine .inr ⟨fun e hon => ?_, padOf_lt lt _⟩
  obtain ⟨he, _⟩ := id hon
  by_cases h : e < 16
  · exact hn1 e (by omega) (by omega) hon
  by_cases h : e < 32
  · exact hn2 e (by omega) (by omega) hon
  by_cases h : e < 48
  · exact hn3 e (by omega) (by omega) hon
  · exact hn4 e (by omega) (by omega) hon

theorem schedOf_lt (g : Fin 64) : (schedOf lt (ix1 g)).toNat < 64 := by
  rcases schedOf_cases lt g with ⟨e, he, _, _, h⟩ | ⟨_, h⟩
  · rw [h, BitVec.toNat_ofNat]; omega
  · exact h

/-- An active expert is scheduled at its rank. -/
theorem schedOf_on (e : Fin 64) (h : On lt e.val) (g : Fin 64) (hg : Nat.count (On lt) e.val = g.val) :
    schedOf lt (ix1 g) = BitVec.ofNat 32 e.val := by
  rcases schedOf_cases lt g with ⟨e', _, h', hc, hs⟩ | ⟨hn, _⟩
  · rw [hs, Nat.count_injective h' h (hc.trans hg.symm)]
  · exact absurd hg (hn _ h)

theorem nactOf_at (k : Fin 16) : nactOf lt (ix1 k) = BitVec.ofNat 32 (Nat.count (On lt) 64) := by
  show 0#32 + n4 lt = _
  rw [n4_eq, BitVec.zero_add]

end Cert.Moe

end
-- ==== Proof.RouterPure.lean ====
/-
  What the router's printed payloads compute, chunk by chunk: one trip of its loop, the two tables it
  stores, and the table of active experts.
-/
module

public import proofs.«01_k».proof.Proof.Sched
public import Idealize.ShloMosaic.Lib.Pointwise

@[expose] public section

noncomputable section

namespace Cert.Moe

open Cert.KernelIdeal hiding ix2
open Cert.KernelIdeal.Gen
open Idealize.ShloMosaic

variable {F : FTy → Type} [FloatOps F] (lt : S64x64.Idx → F .f32)

/-! ## The loop's carried values -/

def m1v (n : ℕ) (c : Fin 4) : FVec F S16 .f32 := fun j => (top lt (lane c (j 0)) n).1
def a1v (n : ℕ) (c : Fin 4) : IVec S16 32 := fun j => (top lt (lane c (j 0)) n).2.1
def m2v (n : ℕ) (c : Fin 4) : FVec F S16 .f32 := fun j => (top lt (lane c (j 0)) n).2.2.1
def a2v (n : ℕ) (c : Fin 4) : IVec S16 32 := fun j => (top lt (lane c (j 0)) n).2.2.2

abbrev Carry (F : FTy → Type) : Type := FVec F S16 .f32 × FVec F S16 .f32 × FVec F S16 .f32 × FVec F S16 .f32 × IVec S16 32 × IVec S16 32 × IVec S16 32 × IVec S16 32 × FVec F S16 .f32 × FVec F S16 .f32 × FVec F S16 .f32 × FVec F S16 .f32 × IVec S16 32 × IVec S16 32 × IVec S16 32 × IVec S16 32

def carry (n : ℕ) : Carry F :=
  (m1v lt n 0, m1v lt n 1, m1v lt n 2, m1v lt n 3, a1v lt n 0, a1v lt n 1, a1v lt n 2, a1v lt n 3,
   m2v lt n 0, m2v lt n 1, m2v lt n 2, m2v lt n 3, a2v lt n 0, a2v lt n 1, a2v lt n 2, a2v lt n 3)

theorem carry_zero : carry lt 0 = (k1_pay2 (F := F), k1_pay2 (F := F), k1_pay2 (F := F), k1_pay2 (F := F), k1_pay3, k1_pay3, k1_pay3, k1_pay3, k1_pay2 (F := F), k1_pay2 (F := F), k1_pay2 (F := F), k1_pay2 (F := F), k1_pay3, k1_pay3, k1_pay3, k1_pay3) := rfl

/-- A row of sixteen read flat. -/
theorem row_at {α : EltTy} (w : Vec F S1x16 α) (h : S1x16.numel = S16.numel) (k : Fin 16) : shapeCast S16 w h (ix1 k) = w (ix2 0 k) := by
  pointwise

theorem unrow_at {α : EltTy} (w : Vec F S16 α) (h : S16.numel = S1x16.numel) (k : Fin 16) : shapeCast S1x16 w h (ix2 0 k) = w (ix1 k) := by
  pointwise

/-- Row `k`, chunk `c`, of the transposed logits. -/
def rowv (k : Fin 64) (c : Fin 4) : Vec F S1x16 .f32 := fun j => lt (ix2 k (lane c (j 1)))

theorem trips_64 : k1_t1_loop.trips = 64 := rfl

theorem iv_eq (k : ℕ) : Scf.iv 0#32 1#32 k = BitVec.ofNat 32 k := by
  unfold Scf.iv
  have : (BitVec.ofNat 32 k) * 1#32 = BitVec.ofNat 32 k := BitVec.mul_one _
  simp [this]

theorem pay5_at (k : Fin 64) (c : Fin 4) (j : Fin 16) : k1_pay5 (rowv lt k c) (ix1 j) = lt (ix2 k (lane c j)) :=
  row_at (rowv lt k c) shapeCasts_S1x16_S16 j

theorem trip_m1 (k : Fin 64) (c : Fin 4) : k1_pay10 (m1v lt k.val c) (rowv lt k c) = m1v lt (k.val + 1) c := by
  funext j
  obtain ⟨j, rfl⟩ : ∃ i : Fin 16, j = ix1 i := ⟨j 0, eq_ix1 j⟩
  show Scalar.select (FloatOps.cmpf .ogt (k1_pay5 (rowv lt k c) (ix1 j)) (top lt (lane c j) k.val).1) (k1_pay5 (rowv lt k c) (ix1 j)) (top lt (lane c j) k.val).1
    = (top lt (lane c j) (k.val + 1)).1
  rw [pay5_at, top_succ lt _ _ k.isLt]; rfl

theorem trip_a1 (k : Fin 64) (k' : Fin k1_t1_loop.trips) (h : k'.val = k.val) (c : Fin 4) :
    k1_pay11 k' (m1v lt k.val c) (a1v lt k.val c) (rowv lt k c) = a1v lt (k.val + 1) c := by
  funext j
  obtain ⟨j, rfl⟩ : ∃ i : Fin 16, j = ix1 i := ⟨j 0, eq_ix1 j⟩
  show Scalar.select (FloatOps.cmpf .ogt (k1_pay5 (rowv lt k c) (ix1 j)) (top lt (lane c j) k.val).1) (Scf.iv 0#32 1#32 k'.val) (top lt (lane c j) k.val).2.1
    = (top lt (lane c j) (k.val + 1)).2.1
  rw [pay5_at, top_succ lt _ _ k.isLt, h, iv_eq]; rfl

theorem trip_m2 (k : Fin 64) (c : Fin 4) : k1_pay8 (m1v lt k.val c) (m2v lt k.val c) (rowv lt k c) = m2v lt (k.val + 1) c := by
  funext j
  obtain ⟨j, rfl⟩ : ∃ i : Fin 16, j = ix1 i := ⟨j 0, eq_ix1 j⟩
  show Scalar.select (FloatOps.cmpf .ogt (k1_pay5 (rowv lt k c) (ix1 j)) (top lt (lane c j) k.val).1) (top lt (lane c j) k.val).1
    (Scalar.select (FloatOps.cmpf .ogt (k1_pay5 (rowv lt k c) (ix1 j)) (top lt (lane c j) k.val).2.2.1) (k1_pay5 (rowv lt k c) (ix1 j)) (top lt (lane c j) k.val).2.2.1)
    = (top lt (lane c j) (k.val + 1)).2.2.1
  rw [pay5_at, top_succ lt _ _ k.isLt]; rfl

theorem trip_a2 (k : Fin 64) (k' : Fin k1_t1_loop.trips) (h : k'.val = k.val) (c : Fin 4) :
    k1_pay9 k' (m1v lt k.val c) (a1v lt k.val c) (m2v lt k.val c) (a2v lt k.val c) (rowv lt k c) = a2v lt (k.val + 1) c := by
  funext j
  obtain ⟨j, rfl⟩ : ∃ i : Fin 16, j = ix1 i := ⟨j 0, eq_ix1 j⟩
  show Scalar.select (FloatOps.cmpf .ogt (k1_pay5 (rowv lt k c) (ix1 j)) (top lt (lane c j) k.val).1) (top lt (lane c j) k.val).2.1
    (Scalar.select (FloatOps.cmpf .ogt (k1_pay5 (rowv lt k c) (ix1 j)) (top lt (lane c j) k.val).2.2.1) (Scf.iv 0#32 1#32 k'.val) (top lt (lane c j) k.val).2.2.2)
    = (top lt (lane c j) (k.val + 1)).2.2.2
  rw [pay5_at, top_succ lt _ _ k.isLt, h, iv_eq]; rfl

/-- One trip of the loop. -/
theorem carry_succ (k : Fin 64) (k' : Fin k1_t1_loop.trips) (h : k'.val = k.val) :
    ((k1_pay10 (m1v lt k.val 0) (rowv lt k 0), k1_pay17 (m1v lt k.val 1) (rowv lt k 1), k1_pay24 (m1v lt k.val 2) (rowv lt k 2), k1_pay31 (m1v lt k.val 3) (rowv lt k 3),
      k1_pay11 k' (m1v lt k.val 0) (a1v lt k.val 0) (rowv lt k 0), k1_pay18 k' (m1v lt k.val 1) (a1v lt k.val 1) (rowv lt k 1), k1_pay25 k' (m1v lt k.val 2) (a1v lt k.val 2) (rowv lt k 2), k1_pay32 k' (m1v lt k.val 3) (a1v lt k.val 3) (rowv lt k 3),
      k1_pay8 (m1v lt k.val 0) (m2v lt k.val 0) (rowv lt k 0), k1_pay15 (m1v lt k.val 1) (m2v lt k.val 1) (rowv lt k 1), k1_pay22 (m1v lt k.val 2) (m2v lt k.val 2) (rowv lt k 2), k1_pay29 (m1v lt k.val 3) (m2v lt k.val 3) (rowv lt k 3),
      k1_pay9 k' (m1v lt k.val 0) (a1v lt k.val 0) (m2v lt k.val 0) (a2v lt k.val 0) (rowv lt k 0), k1_pay16 k' (m1v lt k.val 1) (a1v lt k.val 1) (m2v lt k.val 1) (a2v lt k.val 1) (rowv lt k 1),
      k1_pay23 k' (m1v lt k.val 2) (a1v lt k.val 2) (m2v lt k.val 2) (a2v lt k.val 2) (rowv lt k 2), k1_pay30 k' (m1v lt k.val 3) (a1v lt k.val 3) (m2v lt k.val 3) (a2v lt k.val 3) (rowv lt k 3)) : Carry F) = carry lt (k.val + 1) := by
  unfold carry
  refine Prod.ext (trip_m1 lt k 0) (Prod.ext (trip_m1 lt k 1) (Prod.ext (trip_m1 lt k 2) (Prod.ext (trip_m1 lt k 3) ?_)))
  refine Prod.ext (trip_a1 lt k k' h 0) (Prod.ext (trip_a1 lt k k' h 1) (Prod.ext (trip_a1 lt k k' h 2) (Prod.ext (trip_a1 lt k k' h 3) ?_)))
  refine Prod.ext (trip_m2 lt k 0) (Prod.ext (trip_m2 lt k 1) (Prod.ext (trip_m2 lt k 2) (Prod.ext (trip_m2 lt k 3) ?_)))
  exact Prod.ext (trip_a2 lt k k' h 0) (Prod.ext (trip_a2 lt k k' h 1) (Prod.ext (trip_a2 lt k k' h 2) (trip_a2 lt k k' h 3)))

/-! ## The index checks -/

theorem a1v_inb (c : Fin 4) : ∀ a x, ((![a1v lt 64 c] : Fin 1 → IVec S16 32) a x).toNat < S64.size a :=
  inb_of (r := a1v lt 64 c) fun k => (top_range lt (lane c k) 64).1
theorem a2v_inb (c : Fin 4) : ∀ a x, ((![a2v lt 64 c] : Fin 1 → IVec S16 32) a x).toNat < S64.size a :=
  inb_of (r := a2v lt 64 c) fun k => (top_range lt (lane c k) 64).2

/-! ## The table of active experts -/

/-- Ones stored at the lanes of `r`. -/
theorem ones_at (f : Vec F S64 .f32) (r : IVec S16 32) (h : ∀ a x, ((![r] : Fin 1 → IVec S16 32) a x).toNat < S64.size a) (g : Fin 64) :
    (storeIdx f ![r] (k1_pay33 (F := F)) (fun _ => 1#1) false h (ix1 g) = oneW ∧ ∃ k : Fin 16, (r (ix1 k)).toNat = g.val)
      ∨ (storeIdx f ![r] (k1_pay33 (F := F)) (fun _ => 1#1) false h (ix1 g) = f (ix1 g) ∧ ¬ ∃ k : Fin 16, (r (ix1 k)).toNat = g.val) := by
  have := storeIdx_at f r (k1_pay33 (F := F)) (fun _ => 1#1) h g oneW (fun k _ _ => rfl)
  simpa using this

/-- The eight stores of ones over zeros. -/
def act8 : Vec F S64 .f32 :=
  storeIdx (storeIdx (storeIdx (storeIdx (storeIdx (storeIdx (storeIdx (storeIdx (fun _ => zeroW)
    ![a1v lt 64 0] (k1_pay33 (F := F)) (fun _ => 1#1) false (a1v_inb lt 0)) ![a2v lt 64 0] (k1_pay33 (F := F)) (fun _ => 1#1) false (a2v_inb lt 0))
    ![a1v lt 64 1] (k1_pay33 (F := F)) (fun _ => 1#1) false (a1v_inb lt 1)) ![a2v lt 64 1] (k1_pay33 (F := F)) (fun _ => 1#1) false (a2v_inb lt 1))
    ![a1v lt 64 2] (k1_pay33 (F := F)) (fun _ => 1#1) false (a1v_inb lt 2)) ![a2v lt 64 2] (k1_pay33 (F := F)) (fun _ => 1#1) false (a2v_inb lt 2))
    ![a1v lt 64 3] (k1_pay33 (F := F)) (fun _ => 1#1) false (a1v_inb lt 3)) ![a2v lt 64 3] (k1_pay33 (F := F)) (fun _ => 1#1) false (a2v_inb lt 3)

theorem lane_surj (t : Fin 64) : ∃ c k, lane c k = t :=
  ⟨⟨t.val / 16, by omega⟩, ⟨t.val % 16, by omega⟩, Fin.ext (by show 16 * (t.val / 16) + t.val % 16 = t.val; omega)⟩

/-- One more chunk's stores. -/
theorem ones_step {P : Prop} {f : Vec F S64 .f32} (r : IVec S16 32) (h : ∀ a x, ((![r] : Fin 1 → IVec S16 32) a x).toNat < S64.size a) (g : Fin 64)
    (hf : (f (ix1 g) = oneW ∧ P) ∨ (f (ix1 g) = zeroW ∧ ¬ P)) :
    (storeIdx f ![r] (k1_pay33 (F := F)) (fun _ => 1#1) false h (ix1 g) = oneW ∧ (P ∨ ∃ k : Fin 16, (r (ix1 k)).toNat = g.val))
      ∨ (storeIdx f ![r] (k1_pay33 (F := F)) (fun _ => 1#1) false h (ix1 g) = zeroW ∧ ¬ (P ∨ ∃ k : Fin 16, (r (ix1 k)).toNat = g.val)) := by
  rcases ones_at f r h g with ⟨e, hk⟩ | ⟨e, hk⟩
  · exact .inl ⟨e, .inr hk⟩
  · rcases hf with ⟨e', hp⟩ | ⟨e', hp⟩
    · exact .inl ⟨e.trans e', .inl hp⟩
    · exact .inr ⟨e.trans e', fun hh => hh.elim hp hk⟩

theorem act8_eq : act8 lt = actOf lt := by
  funext j
  obtain ⟨g, rfl⟩ : ∃ i : Fin 64, j = ix1 i := ⟨j 0, eq_ix1 j⟩
  have h0 : (((fun _ => zeroW : Vec F S64 .f32)) (ix1 g) = oneW ∧ False) ∨ (((fun _ => zeroW : Vec F S64 .f32)) (ix1 g) = zeroW ∧ ¬ False) := .inr ⟨rfl, id⟩
  have h8 := ones_step _ (a2v_inb lt 3) g <| ones_step _ (a1v_inb lt 3) g <| ones_step _ (a2v_inb lt 2) g <| ones_step _ (a1v_inb lt 2) g <|
    ones_step _ (a2v_inb lt 1) g <| ones_step _ (a1v_inb lt 1) g <| ones_step _ (a2v_inb lt 0) g <| ones_step (P := False) (f := fun _ => zeroW) _ (a1v_inb lt 0) g h0
  have hP : (((((((((False ∨ ∃ k : Fin 16, (a1v lt 64 0 (ix1 k)).toNat = g.val) ∨ ∃ k : Fin 16, (a2v lt 64 0 (ix1 k)).toNat = g.val)
      ∨ ∃ k : Fin 16, (a1v lt 64 1 (ix1 k)).toNat = g.val) ∨ ∃ k : Fin 16, (a2v lt 64 1 (ix1 k)).toNat = g.val)
      ∨ ∃ k : Fin 16, (a1v lt 64 2 (ix1 k)).toNat = g.val) ∨ ∃ k : Fin 16, (a2v lt 64 2 (ix1 k)).toNat = g.val)
      ∨ ∃ k : Fin 16, (a1v lt 64 3 (ix1 k)).toNat = g.val) ∨ ∃ k : Fin 16, (a2v lt 64 3 (ix1 k)).toNat = g.val))
      ↔ ∃ t, (pick1 lt t).val = g.val ∨ (pick2 lt t).val = g.val := by
    constructor
    · rintro ((((((((h | ⟨k, h⟩) | ⟨k, h⟩) | ⟨k, h⟩) | ⟨k, h⟩) | ⟨k, h⟩) | ⟨k, h⟩) | ⟨k, h⟩) | ⟨k, h⟩)
      · exact h.elim
      · exact ⟨lane 0 k, .inl h⟩
      · exact ⟨lane 0 k, .inr h⟩
      · exact ⟨lane 1 k, .inl h⟩
      · exact ⟨lane 1 k, .inr h⟩
      · exact ⟨lane 2 k, .inl h⟩
      · exact ⟨lane 2 k, .inr h⟩
      · exact ⟨lane 3 k, .inl h⟩
      · exact ⟨lane 3 k, .inr h⟩
    · rintro ⟨t, h⟩
      obtain ⟨c, k, rfl⟩ := lane_surj t
      have h' : (∃ k : Fin 16, (a1v lt 64 c (ix1 k)).toNat = g.val) ∨ ∃ k : Fin 16, (a2v lt 64 c (ix1 k)).toNat = g.val :=
        h.imp (fun h => ⟨k, h⟩) (fun h => ⟨k, h⟩)
      clear h8 h0
      fin_cases c <;> rcases h' with h' | h'
      · exact .inl (.inl (.inl (.inl (.inl (.inl (.inl (.inr h')))))))
      · exact .inl (.inl (.inl (.inl (.inl (.inl (.inr h'))))))
      · exact .inl (.inl (.inl (.inl (.inl (.inr h')))))
      · exact .inl (.inl (.inl (.inl (.inr h'))))
      · exact .inl (.inl (.inl (.inr h')))
      · exact .inl (.inl (.inr h'))
      · exact .inl (.inr h')
      · exact .inr h'
  show act8 lt (ix1 g) = if ∃ t, (pick1 lt t).val = g.val ∨ (pick2 lt t).val = g.val then oneW else zeroW
  rcases h8 with ⟨e, h⟩ | ⟨e, h⟩
  · rw [if_pos (hP.mp h)]; exact e
  · rw [if_neg (fun hh => h (hP.mpr hh))]; exact e

end Cert.Moe

end
-- ==== Proof.Router.lean ====
/-
  The router's task on a vector subcore: on the first subcore, the logits copied in, the loop over the
  experts, the tables and the schedule built, and the four tables copied out; on the others nothing.
-/
module

public import proofs.«01_k».proof.Proof.RouterPure

@[expose] public section

noncomputable section

namespace Cert.Moe

open Cert.KernelIdeal hiding ix2
open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The memrefs the task is called at -/

local notation "xV" => (Memref.whole Cert.KernelIdeal.main_v2_scv : Memref Cert.KernelIdeal.sig Kind.scVector Space.hbm Cert.KernelIdeal.S64x64 EltTy.f32)
local notation "oA" => (Memref.whole Cert.KernelIdeal.main_v3_0_scv : Memref Cert.KernelIdeal.sig Kind.scVector Space.hbm Cert.KernelIdeal.S2x64 EltTy.i32)
local notation "oW" => (Memref.whole Cert.KernelIdeal.main_v3_1_scv : Memref Cert.KernelIdeal.sig Kind.scVector Space.hbm Cert.KernelIdeal.S2x64 EltTy.f32)
local notation "oS" => (Memref.whole Cert.KernelIdeal.main_v3_2_scv : Memref Cert.KernelIdeal.sig Kind.scVector Space.hbm Cert.KernelIdeal.S64 EltTy.i32)
local notation "oN" => (Memref.whole Cert.KernelIdeal.main_v3_3_scv : Memref Cert.KernelIdeal.sig Kind.scVector Space.hbm Cert.KernelIdeal.S16 EltTy.i32)
local notation "s0" => (Memref.whole Cert.KernelIdeal.cc1_scratch0 : Memref Cert.KernelIdeal.sig Kind.scVector Space.vmem Cert.KernelIdeal.S64x64 EltTy.f32)
local notation "s1" => (Memref.whole Cert.KernelIdeal.cc1_scratch1 : Memref Cert.KernelIdeal.sig Kind.scVector Space.vmem Cert.KernelIdeal.S64 EltTy.f32)
local notation "s2" => (Memref.whole Cert.KernelIdeal.cc1_scratch2 : Memref Cert.KernelIdeal.sig Kind.scVector Space.vmem Cert.KernelIdeal.S2x64 EltTy.i32)
local notation "s3" => (Memref.whole Cert.KernelIdeal.cc1_scratch3 : Memref Cert.KernelIdeal.sig Kind.scVector Space.vmem Cert.KernelIdeal.S2x64 EltTy.f32)
local notation "s4" => (Memref.whole Cert.KernelIdeal.cc1_scratch4 : Memref Cert.KernelIdeal.sig Kind.scVector Space.vmem Cert.KernelIdeal.S64 EltTy.i32)
local notation "s5" => (Memref.whole Cert.KernelIdeal.cc1_scratch5 : Memref Cert.KernelIdeal.sig Kind.scVector Space.vmem Cert.KernelIdeal.S16 EltTy.i32)

section Tile

variable (d : Dev nD) (L : grid1.Coords)

abbrev cV (L : grid1.Coords) : Fin τ.nSC := (L 0).castLE hcore1
abbrev jV (L : grid1.Coords) : Fin τ.nSub := (L 1).castLE hsub1
/-- The thread of the task. -/
abbrev tV : Thread nD τ := V d (cV L) (jV L)

abbrev cell0 : GSem nD τ sig := (tV d L, .dma cc1_scoped0.sem)
abbrev cell1 : GSem nD τ sig := (tV d L, .dma cc1_scoped1.sem)
abbrev cell2 : GSem nD τ sig := (tV d L, .dma cc1_scoped2.sem)
abbrev cell3 : GSem nD τ sig := (tV d L, .dma cc1_scoped3.sem)
abbrev cell4 : GSem nD τ sig := (tV d L, .dma cc1_scoped4.sem)

theorem ownSems0_V :
    (ownSems0 (tV d L) : sProp 𝕄)
      = iprop(semVal (cell0 d L) 0 ∗ semVal (cell1 d L) 0 ∗ semVal (cell2 d L) 0 ∗ semVal (cell3 d L) 0 ∗ semVal (cell4 d L) 0
          ∗ bigSep ((((((ownCells (tV d L)).erase (cell0 d L)).erase (cell1 d L)).erase (cell2 d L)).erase (cell3 d L)).erase (cell4 d L)) fun g => semVal g 0) := by
  unfold SparseCore.Cfg.ownSems0
  rw [SparseCore.bigSep_erase' ((mem_ownCells (g := cell0 d L)).mpr ⟨rfl, by show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d L)).mpr ⟨rfl, by show (SemLoc.dma cc1_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d L)).mpr ⟨rfl, by show (SemLoc.dma cc1_scoped3.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d L)).mpr ⟨rfl, by show (SemLoc.dma cc1_scoped4.sem : SemLoc sig).isScoped .scVector = true; decide⟩⟩⟩⟩⟩)]

theorem ownBufs_V :
    (ownBufs (tV d L) : sProp 𝕄)
      = iprop((∃ f, (tV d L).loc cc1_scratch0 ↦{fullShare} f) ∗ (∃ f, (tV d L).loc cc1_scratch1 ↦{fullShare} f) ∗ (∃ f, (tV d L).loc cc1_scratch2 ↦{fullShare} f) ∗ (∃ f, (tV d L).loc cc1_scratch3 ↦{fullShare} f) ∗ (∃ f, (tV d L).loc cc1_scratch4 ↦{fullShare} f) ∗ (∃ f, (tV d L).loc cc1_scratch5 ↦{fullShare} f)
          ∗ bigSep (((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩)]
theorem pts_s0 (f : Buf (Elt F) ((tV d L).loc cc1_scratch0)) :
    ((s0).view.loc (tV d L) ↦{fullShare} f : sProp 𝕄) = (tV d L).loc cc1_scratch0 ↦{fullShare} f := rfl
theorem pts_s1 (f : Buf (Elt F) ((tV d L).loc cc1_scratch1)) :
    ((s1).view.loc (tV d L) ↦{fullShare} f : sProp 𝕄) = (tV d L).loc cc1_scratch1 ↦{fullShare} f := rfl
theorem pts_s2 (f : Buf (Elt F) ((tV d L).loc cc1_scratch2)) :
    ((s2).view.loc (tV d L) ↦{fullShare} f : sProp 𝕄) = (tV d L).loc cc1_scratch2 ↦{fullShare} f := rfl
theorem pts_s3 (f : Buf (Elt F) ((tV d L).loc cc1_scratch3)) :
    ((s3).view.loc (tV d L) ↦{fullShare} f : sProp 𝕄) = (tV d L).loc cc1_scratch3 ↦{fullShare} f := rfl
theorem pts_s4 (f : Buf (Elt F) ((tV d L).loc cc1_scratch4)) :
    ((s4).view.loc (tV d L) ↦{fullShare} f : sProp 𝕄) = (tV d L).loc cc1_scratch4 ↦{fullShare} f := rfl
theorem pts_s5 (f : Buf (Elt F) ((tV d L).loc cc1_scratch5)) :
    ((s5).view.loc (tV d L) ↦{fullShare} f : sProp 𝕄) = (tV d L).loc cc1_scratch5 ↦{fullShare} f := rfl
theorem pts_xV (f : Buf (Elt F) (d, Proc.devRef (τ := τ) .tc main_v2)) :
    ((xV).view.loc (tV d L) ↦{fullShare} f : sProp 𝕄) = ((d, Proc.devRef (τ := τ) .tc main_v2) : Loc nD τ sig) ↦{fullShare} f := rfl
theorem pts_oA (f : Buf (Elt F) (d, Proc.devRef (τ := τ) .tc main_v3_0)) :
    ((oA).view.loc (tV d L) ↦{fullShare} f : sProp 𝕄) = ((d, Proc.devRef (τ := τ) .tc main_v3_0) : Loc nD τ sig) ↦{fullShare} f := rfl
theorem pts_oW (f : Buf (Elt F) (d, Proc.devRef (τ := τ) .tc main_v3_1)) :
    ((oW).view.loc (tV d L) ↦{fullShare} f : sProp 𝕄) = ((d, Proc.devRef (τ := τ) .tc main_v3_1) : Loc nD τ sig) ↦{fullShare} f := rfl
theorem pts_oS (f : Buf (Elt F) (d, Proc.devRef (τ := τ) .tc main_v3_2)) :
    ((oS).view.loc (tV d L) ↦{fullShare} f : sProp 𝕄) = ((d, Proc.devRef (τ := τ) .tc main_v3_2) : Loc nD τ sig) ↦{fullShare} f := rfl
theorem pts_oN (f : Buf (Elt F) (d, Proc.devRef (τ := τ) .tc main_v3_3)) :
    ((oN).view.loc (tV d L) ↦{fullShare} f : sProp 𝕄) = ((d, Proc.devRef (τ := τ) .tc main_v3_3) : Loc nD τ sig) ↦{fullShare} f := rfl

/-! ## What a store of sixteen leaves -/

/-- Row `r`, chunk `c`, replaced. -/
def setRow {α : Type} (f : S2x64.Idx → α) (r : Fin 2) (c : Fin 4) (w : S16.Idx → α) : S2x64.Idx → α :=
  fun i => if (i 0).val = r.val ∧ (i 1).val / 16 = c.val then w (ix1 ⟨(i 1).val % 16, Nat.mod_lt _ (by omega)⟩) else f i
/-- Chunk `c` replaced. -/
def setChunk {α : Type} (f : S64.Idx → α) (c : Fin 4) (w : S16.Idx → α) : S64.Idx → α :=
  fun i => if (i 0).val / 16 = c.val then w (ix1 ⟨(i 0).val % 16, Nat.mod_lt _ (by omega)⟩) else f i

theorem row2 (f : S2x64.Idx → Elt F .i32) (w : Vec F S16 .i32) (r : Fin 2) (c : Fin 4) (off : Fin 2 → ℕ) (inb : ∀ a, off a + S1x16.size a ≤ S2x64.size a)
    (h : off = ![r.val, 16 * c.val]) :
    ((s2).view.slice (Rect.unit (s := S2x64) off S1x16.size inb)).write (Elt F) (f : Buf (Elt F) ((tV d L).loc cc1_scratch2)) (shapeCast S1x16 w shapeCasts_S16_S1x16) Finset.univ
      = setRow f r c w := by
  subst h
  funext i
  have h1 : (i 1).val < 64 := (i 1).isLt
  by_cases hi : (i 0).val = r.val ∧ (i 1).val / 16 = c.val
  · have e : i = ((s2).view.slice (Rect.unit (s := S2x64) ![r.val, 16 * c.val] S1x16.size inb)).emb (ix2 0 ⟨(i 1).val % 16, Nat.mod_lt _ (by omega)⟩) := by
      funext a
      refine Fin.ext ?_
      match a with
      | 0 => show (i 0).val = r.val + 1 * 0; omega
      | 1 => show (i 1).val = 16 * c.val + 1 * ((i 1).val % 16); omega
    refine (congrArg _ e).trans ((View.write_emb_of_mem _ _ (Finset.mem_univ _)).trans ?_)
    refine (unrow_at w shapeCasts_S16_S1x16 ⟨(i 1).val % 16, Nat.mod_lt _ (by omega)⟩).trans ?_
    exact (if_pos hi).symm
  · refine (View.write_of_not_mem _ _ _ ?_).trans (show _ = setRow f r c w i by rw [setRow, if_neg hi])
    intro hm
    obtain ⟨x, -, hx⟩ := Finset.mem_map.mp hm
    refine hi ?_
    have e0 : r.val + 1 * (x 0).val = (i 0).val := congrArg (fun j : S2x64.Idx => (j 0).val) hx
    have e1 : 16 * c.val + 1 * (x 1).val = (i 1).val := congrArg (fun j : S2x64.Idx => (j 1).val) hx
    have l0 : (x 0).val < 1 := (x 0).isLt
    have l1 : (x 1).val < 16 := (x 1).isLt
    omega

theorem row3 (f : S2x64.Idx → Elt F .f32) (w : Vec F S16 .f32) (r : Fin 2) (c : Fin 4) (off : Fin 2 → ℕ) (inb : ∀ a, off a + S1x16.size a ≤ S2x64.size a)
    (h : off = ![r.val, 16 * c.val]) :
    ((s3).view.slice (Rect.unit (s := S2x64) off S1x16.size inb)).write (Elt F) (f : Buf (Elt F) ((tV d L).loc cc1_scratch3)) (shapeCast S1x16 w shapeCasts_S16_S1x16) Finset.univ
      = setRow f r c w := by
  subst h
  funext i
  have h1 : (i 1).val < 64 := (i 1).isLt
  by_cases hi : (i 0).val = r.val ∧ (i 1).val / 16 = c.val
  · have e : i = ((s3).view.slice (Rect.unit (s := S2x64) ![r.val, 16 * c.val] S1x16.size inb)).emb (ix2 0 ⟨(i 1).val % 16, Nat.mod_lt _ (by omega)⟩) := by
      funext a
      refine Fin.ext ?_
      match a with
      | 0 => show (i 0).val = r.val + 1 * 0; omega
      | 1 => show (i 1).val = 16 * c.val + 1 * ((i 1).val % 16); omega
    refine (congrArg _ e).trans ((View.write_emb_of_mem _ _ (Finset.mem_univ _)).trans ?_)
    refine (unrow_at w shapeCasts_S16_S1x16 ⟨(i 1).val % 16, Nat.mod_lt _ (by omega)⟩).trans ?_
    exact (if_pos hi).symm
  · refine (View.write_of_not_mem _ _ _ ?_).trans (show _ = setRow f r c w i by rw [setRow, if_neg hi])
    intro hm
    obtain ⟨x, -, hx⟩ := Finset.mem_map.mp hm
    refine hi ?_
    have e0 : r.val + 1 * (x 0).val = (i 0).val := congrArg (fun j : S2x64.Idx => (j 0).val) hx
    have e1 : 16 * c.val + 1 * (x 1).val = (i 1).val := congrArg (fun j : S2x64.Idx => (j 1).val) hx
    have l0 : (x 0).val < 1 := (x 0).isLt
    have l1 : (x 1).val < 16 := (x 1).isLt
    omega

theorem chunk1 (f : S64.Idx → Elt F .f32) (w : Vec F S16 .f32) (c : Fin 4) (off : Fin 1 → ℕ) (inb : ∀ a, off a + S16.size a ≤ S64.size a)
    (h : off = ![16 * c.val]) :
    ((s1).view.slice (Rect.unit (s := S64) off S16.size inb)).write (Elt F) (f : Buf (Elt F) ((tV d L).loc cc1_scratch1)) w Finset.univ
      = setChunk f c w := by
  subst h
  funext i
  have h1 : (i 0).val < 64 := (i 0).isLt
  by_cases hi : (i 0).val / 16 = c.val
  · have e : i = ((s1).view.slice (Rect.unit (s := S64) ![16 * c.val] S16.size inb)).emb (ix1 ⟨(i 0).val % 16, Nat.mod_lt _ (by omega)⟩) := by
      funext a
      refine Fin.ext ?_
      match a with
      | 0 => show (i 0).val = 16 * c.val + 1 * ((i 0).val % 16); omega
    refine (congrArg _ e).trans ((View.write_emb_of_mem _ _ (Finset.mem_univ _)).trans ?_)
    show w (ix1 _) = _
    rw [setChunk, if_pos hi]
  · refine (View.write_of_not_mem _ _ _ ?_).trans (show _ = setChunk f c w i by rw [setChunk, if_neg hi])
    intro hm
    obtain ⟨x, -, hx⟩ := Finset.mem_map.mp hm
    refine hi ?_
    have e1 : 16 * c.val + 1 * (x 0).val = (i 0).val := congrArg (fun j : S64.Idx => (j 0).val) hx
    have l1 : (x 0).val < 16 := (x 0).isLt
    omega

theorem read1 (f : S64.Idx → Elt F .f32) (c : Fin 4) (off : Fin 1 → ℕ) (inb : ∀ a, off a + S16.size a ≤ S64.size a) (h : off = ![16 * c.val]) :
    View.readAt (Elt F) (s1).view (Rect.unit (s := S64) off S16.size inb).toLoadRect (f : Buf (Elt F) ((tV d L).loc cc1_scratch1)) = chunk f c := by
  subst h
  funext j
  show f _ = f (ix1 (lane c (j 0)))
  congr 1
  funext a
  refine Fin.ext ?_
  match a with
  | 0 =>
    show 16 * c.val + 1 * (j 0).val = 16 * c.val + (j 0).val
    omega

theorem chunk4 (f : S64.Idx → Elt F .i32) (w : Vec F S16 .i32) (c : Fin 4) (off : Fin 1 → ℕ) (inb : ∀ a, off a + S16.size a ≤ S64.size a)
    (h : off = ![16 * c.val]) :
    ((s4).view.slice (Rect.unit (s := S64) off S16.size inb)).write (Elt F) (f : Buf (Elt F) ((tV d L).loc cc1_scratch4)) w Finset.univ
      = setChunk f c w := by
  subst h
  funext i
  have h1 : (i 0).val < 64 := (i 0).isLt
  by_cases hi : (i 0).val / 16 = c.val
  · have e : i = ((s4).view.slice (Rect.unit (s := S64) ![16 * c.val] S16.size inb)).emb (ix1 ⟨(i 0).val % 16, Nat.mod_lt _ (by omega)⟩) := by
      funext a
      refine Fin.ext ?_
      match a with
      | 0 => show (i 0).val = 16 * c.val + 1 * ((i 0).val % 16); omega
    refine (congrArg _ e).trans ((View.write_emb_of_mem _ _ (Finset.mem_univ _)).trans ?_)
    show w (ix1 _) = _
    rw [setChunk, if_pos hi]
  · refine (View.write_of_not_mem _ _ _ ?_).trans (show _ = setChunk f c w i by rw [setChunk, if_neg hi])
    intro hm
    obtain ⟨x, -, hx⟩ := Finset.mem_map.mp hm
    refine hi ?_
    have e1 : 16 * c.val + 1 * (x 0).val = (i 0).val := congrArg (fun j : S64.Idx => (j 0).val) hx
    have l1 : (x 0).val < 16 := (x 0).isLt
    omega

theorem read4 (f : S64.Idx → Elt F .i32) (c : Fin 4) (off : Fin 1 → ℕ) (inb : ∀ a, off a + S16.size a ≤ S64.size a) (h : off = ![16 * c.val]) :
    View.readAt (Elt F) (s4).view (Rect.unit (s := S64) off S16.size inb).toLoadRect (f : Buf (Elt F) ((tV d L).loc cc1_scratch4)) = chunk f c := by
  subst h
  funext j
  show f _ = f (ix1 (lane c (j 0)))
  congr 1
  funext a
  refine Fin.ext ?_
  match a with
  | 0 =>
    show 16 * c.val + 1 * (j 0).val = 16 * c.val + (j 0).val
    omega

variable (lt : S64x64.Idx → F .f32)

/-- The loop's invariant: the carried values are the running top two, and the copied logits stand. -/
def inv (k : ℕ) (acc : Carry F) : sProp 𝕄 :=
  iprop(⌜acc = carry lt k⌝ ∗ ((s0).view.loc (tV d L) ↦{fullShare} (lt : Buf (Elt F) ((tV d L).loc cc1_scratch0))))

theorem read_row (k : Fin 64) (c : Fin 4) (off : Fin 2 → ℕ) (inb : ∀ a, off a + S1x16.size a ≤ S64x64.size a) (h : off = ![k.val, 16 * c.val]) :
    View.readAt (Elt F) (s0).view (Rect.unit (s := S64x64) off S1x16.size inb).toLoadRect (lt : Buf (Elt F) ((tV d L).loc cc1_scratch0)) = rowv lt k c := by
  subst h
  funext j
  show lt _ = lt (ix2 k (lane c (j 1)))
  congr 1
  funext a
  refine Fin.ext ?_
  match a with
  | 0 =>
    show k.val + 1 * (j 0).val = k.val
    have : (j 0).val < 1 := (j 0).isLt
    omega
  | 1 =>
    show 16 * c.val + 1 * (j 1).val = 16 * c.val + (j 1).val
    omega

theorem off_at (k : Fin k1_t1_loop.trips) : (Scalar.indexCast (Scf.iv 0#32 1#32 k.val) : Index).toNat = k.val := by
  rw [iv_eq]
  show (BitVec.ofNat 32 k.val).toNat = k.val
  have : k.val < 64 := k.isLt
  rw [BitVec.toNat_ofNat]; omega

theorem off1 (k : Fin k1_t1_loop.trips) : k1_off1 k = ![k.val, 16 * (0 : Fin 4).val] := by
  show ![(Scalar.indexCast (Scf.iv 0#32 1#32 k.val) : Index).toNat, 0] = _
  rw [off_at]; rfl
theorem off2 (k : Fin k1_t1_loop.trips) : k1_off2 k = ![k.val, 16 * (1 : Fin 4).val] := by
  show ![(Scalar.indexCast (Scf.iv 0#32 1#32 k.val) : Index).toNat, 16] = _
  rw [off_at]; rfl
theorem off3 (k : Fin k1_t1_loop.trips) : k1_off3 k = ![k.val, 16 * (2 : Fin 4).val] := by
  show ![(Scalar.indexCast (Scf.iv 0#32 1#32 k.val) : Index).toNat, 32] = _
  rw [off_at]; rfl
theorem off4 (k : Fin k1_t1_loop.trips) : k1_off4 k = ![k.val, 16 * (3 : Fin 4).val] := by
  show ![(Scalar.indexCast (Scf.iv 0#32 1#32 k.val) : Index).toNat, 48] = _
  rw [off_at]; rfl

theorem trip (h : k1_cond1 L = 1#1) (k : Fin k1_t1_loop.trips) :
    ((s0).view.loc (tV d L) ↦{fullShare} (lt : Buf (Elt F) ((tV d L).loc cc1_scratch0)) : sProp 𝕄)
      ⊢ wp frame (wpE (defs₀ (F := F)) 𝒱₀ (tV d L) none) Set.univ
          (k1_t1_body L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 h k (carry lt k.val)) fun acc => inv d L lt (k.val + 1) acc := by
  unfold carry k1_t1_body
  iintro H0
  sl_exec
  sl_step
  unfold inv
  isplitr
  · ipureintro
    have hk : k.val < 64 := k.isLt
    rw [read_row lt ⟨k.val, hk⟩ 0 _ (k1_off1_inb L k h) (off1 k), read_row lt ⟨k.val, hk⟩ 1 _ (k1_off2_inb L k h) (off2 k),
      read_row lt ⟨k.val, hk⟩ 2 _ (k1_off3_inb L k h) (off3 k), read_row lt ⟨k.val, hk⟩ 3 _ (k1_off4_inb L k h) (off4 k)]
    exact carry_succ lt ⟨k.val, hk⟩ k rfl
  · iexact H0

/-! ## The parts -/

abbrev Px (f : S64x64.Idx → Elt F .f32) : sProp 𝕄 := iprop((xV).view.loc (tV d L) ↦{fullShare} (f : Buf (Elt F) ((tV d L).loc main_v2_scv)))
abbrev PA (f : S2x64.Idx → Elt F .i32) : sProp 𝕄 := iprop((oA).view.loc (tV d L) ↦{fullShare} (f : Buf (Elt F) ((tV d L).loc main_v3_0_scv)))
abbrev PW (f : S2x64.Idx → Elt F .f32) : sProp 𝕄 := iprop((oW).view.loc (tV d L) ↦{fullShare} (f : Buf (Elt F) ((tV d L).loc main_v3_1_scv)))
abbrev PS (f : S64.Idx → Elt F .i32) : sProp 𝕄 := iprop((oS).view.loc (tV d L) ↦{fullShare} (f : Buf (Elt F) ((tV d L).loc main_v3_2_scv)))
abbrev PN (f : S16.Idx → Elt F .i32) : sProp 𝕄 := iprop((oN).view.loc (tV d L) ↦{fullShare} (f : Buf (Elt F) ((tV d L).loc main_v3_3_scv)))
abbrev P0 (f : S64x64.Idx → Elt F .f32) : sProp 𝕄 := iprop((s0).view.loc (tV d L) ↦{fullShare} (f : Buf (Elt F) ((tV d L).loc cc1_scratch0)))
abbrev P1 (f : S64.Idx → Elt F .f32) : sProp 𝕄 := iprop((s1).view.loc (tV d L) ↦{fullShare} (f : Buf (Elt F) ((tV d L).loc cc1_scratch1)))
abbrev P2 (f : S2x64.Idx → Elt F .i32) : sProp 𝕄 := iprop((s2).view.loc (tV d L) ↦{fullShare} (f : Buf (Elt F) ((tV d L).loc cc1_scratch2)))
abbrev P3 (f : S2x64.Idx → Elt F .f32) : sProp 𝕄 := iprop((s3).view.loc (tV d L) ↦{fullShare} (f : Buf (Elt F) ((tV d L).loc cc1_scratch3)))
abbrev P4 (f : S64.Idx → Elt F .i32) : sProp 𝕄 := iprop((s4).view.loc (tV d L) ↦{fullShare} (f : Buf (Elt F) ((tV d L).loc cc1_scratch4)))
abbrev P5 (f : S16.Idx → Elt F .i32) : sProp 𝕄 := iprop((s5).view.loc (tV d L) ↦{fullShare} (f : Buf (Elt F) ((tV d L).loc cc1_scratch5)))

theorem part1 (h : k1_cond1 L = 1#1) (O : CellTallies nD τ sig (HIx 1)) (W : Waits sig (HIx 1))
    (f0 : S64x64.Idx → F .f32) (f2 : S2x64.Idx → BitVec 32) (f3 : S2x64.Idx → F .f32) (Φ : _ → sProp 𝕄) :
    iprop(Transfers.MayWaits (tV d L) (none : HIx 1) O ∗ Px d L lt ∗ P0 d L f0 ∗ P2 d L f2 ∗ P3 d L f3 ∗ semVal (cell0 d L) 0 ∗ owes (tV d L) O W
        ∗ ((Px d L lt ∗ P0 d L lt ∗ P2 d L (setRow (setRow f2 0 0 (a1v lt 64 0)) 1 0 (a2v lt 64 0))
            ∗ P3 d L (setRow (setRow f3 0 0 (k1_pay34 (m1v lt 64 0) (m2v lt 64 0))) 1 0 (k1_pay35 (m1v lt 64 0) (m2v lt 64 0)))
            ∗ semVal (cell0 d L) 0 ∗ ∃ W', owes (tV d L) O W') -∗
          Φ ⟨lanes, m1v lt 64 2, m1v lt 64 3, a1v lt 64 0, a1v lt 64 1, a1v lt 64 2, a1v lt 64 3, m2v lt 64 2, m2v lt 64 3, a2v lt 64 0, a2v lt 64 1, a2v lt 64 2, a2v lt 64 3,
            fun _ => a2v_inb lt 3, fun _ => a1v_inb lt 3, fun _ => a2v_inb lt 2, fun _ => a1v_inb lt 2, fun _ => a2v_inb lt 1, fun _ => a1v_inb lt 1, fun _ => a2v_inb lt 0, fun _ => a1v_inb lt 0,
            k1_pay33 (F := F), k1_pay36 (m1v lt 64 1) (m2v lt 64 1)⟩))
      ⊢ wp frame (wpE (defs₀ (F := F)) 𝒱₀ (tV d L) none) Set.univ
          (k1_part1 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 h) Φ := by
  rw [k1_part1_eq_skeleton]; unfold k1_part1_skel
  iintro ⟨#Hmw, Hx', H0', H2', H3', Hc0, HO, HK⟩
  sl_exec (disch := exact View.amount_pos _ _ (show 0 < S64x64.numel by decide))
  have k1_h1 : k1_chk1 L (a1v lt 64 0) := fun _ => a1v_inb lt 0
  have k1_h2 : k1_chk2 L (a2v lt 64 0) := fun _ => a2v_inb lt 0
  have k1_h3 : k1_chk3 L (a1v lt 64 1) := fun _ => a1v_inb lt 1
  have k1_h4 : k1_chk4 L (a2v lt 64 1) := fun _ => a2v_inb lt 1
  have k1_h5 : k1_chk5 L (a1v lt 64 2) := fun _ => a1v_inb lt 2
  have k1_h6 : k1_chk6 L (a2v lt 64 2) := fun _ => a2v_inb lt 2
  have k1_h7 : k1_chk7 L (a1v lt 64 3) := fun _ => a1v_inb lt 3
  have k1_h8 : k1_chk8 L (a2v lt 64 3) := fun _ => a2v_inb lt 3
  sl_for (inv d L lt) $$ [H0']
  case region =>
    intro k acc
    unfold inv
    iintro ⟨%e, H0⟩
    subst e
    iapply (trip d L lt h k) $$ H0
  · unfold inv
    isplitr
    · ipureintro; exact (carry_zero lt).symm
    · iapply (Entails.of_eq (congrArg (fun f => P0 d L f) (View.write_whole_univ cc1_scratch0 f0 lt)))
      iexact H0'
  iintro %acc HI
  unfold inv
  icases HI with ⟨%e, H0⟩
  have e' : acc = (m1v lt 64 0, m1v lt 64 1, m1v lt 64 2, m1v lt 64 3, a1v lt 64 0, a1v lt 64 1, a1v lt 64 2, a1v lt 64 3,
   m2v lt 64 0, m2v lt 64 1, m2v lt 64 2, m2v lt 64 3, a2v lt 64 0, a2v lt 64 1, a2v lt 64 2, a2v lt 64 3) := e
  clear e
  subst e'
  sl_exec
  sl_step
  rw [show part1.sl.v5 = lanes from rfl]
  iapply HK
  isplitl [Hx']; · iexact Hx'
  isplitl [H0]; · iexact H0
  isplitl [H2']
  · iapply (Entails.of_eq (congrArg (fun f => P2 d L f) (?_ : _ = setRow (setRow f2 0 0 (a1v lt 64 0)) 1 0 (a2v lt 64 0))))
    pick_goal 2
    · iexact H2'
    · simp only [View.writes_cons, View.writes_nil]
      rw [row2 _ _ 0 0 _ inb_S2x64_S1x16_0_0 rfl, row2 _ _ 1 0 _ inb_S2x64_S1x16_1_0 rfl]
  isplitl [H3']
  · iapply (Entails.of_eq (congrArg (fun f => P3 d L f) (?_ : _ = setRow (setRow f3 0 0 (k1_pay34 (m1v lt 64 0) (m2v lt 64 0))) 1 0 (k1_pay35 (m1v lt 64 0) (m2v lt 64 0)))))
    pick_goal 2
    · iexact H3'
    · simp only [View.writes_cons, View.writes_nil]
      rw [row3 _ _ 0 0 _ inb_S2x64_S1x16_0_0 rfl, row3 _ _ 1 0 _ inb_S2x64_S1x16_1_0 rfl]
  isplitl [Hc0]; · iexact Hc0
  iexists _; iexact HO

end Tile

end Cert.Moe

end
-- ==== Proof.Router2.lean ====
/-
  The router's task continued: the index and weight rows of the other chunks, the table of active
  experts, the running counts, and the schedule.
-/
module

public import proofs.«01_k».proof.Proof.Router

@[expose] public section

noncomputable section

namespace Cert.Moe

open Cert.KernelIdeal hiding ix2
open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The memrefs the task is called at -/

local notation "xV" => (Memref.whole Cert.KernelIdeal.main_v2_scv : Memref Cert.KernelIdeal.sig Kind.scVector Space.hbm Cert.KernelIdeal.S64x64 EltTy.f32)
local notation "oA" => (Memref.whole Cert.KernelIdeal.main_v3_0_scv : Memref Cert.KernelIdeal.sig Kind.scVector Space.hbm Cert.KernelIdeal.S2x64 EltTy.i32)
local notation "oW" => (Memref.whole Cert.KernelIdeal.main_v3_1_scv : Memref Cert.KernelIdeal.sig Kind.scVector Space.hbm Cert.KernelIdeal.S2x64 EltTy.f32)
local notation "oS" => (Memref.whole Cert.KernelIdeal.main_v3_2_scv : Memref Cert.KernelIdeal.sig Kind.scVector Space.hbm Cert.KernelIdeal.S64 EltTy.i32)
local notation "oN" => (Memref.whole Cert.KernelIdeal.main_v3_3_scv : Memref Cert.KernelIdeal.sig Kind.scVector Space.hbm Cert.KernelIdeal.S16 EltTy.i32)
local notation "s0" => (Memref.whole Cert.KernelIdeal.cc1_scratch0 : Memref Cert.KernelIdeal.sig Kind.scVector Space.vmem Cert.KernelIdeal.S64x64 EltTy.f32)
local notation "s1" => (Memref.whole Cert.KernelIdeal.cc1_scratch1 : Memref Cert.KernelIdeal.sig Kind.scVector Space.vmem Cert.KernelIdeal.S64 EltTy.f32)
local notation "s2" => (Memref.whole Cert.KernelIdeal.cc1_scratch2 : Memref Cert.KernelIdeal.sig Kind.scVector Space.vmem Cert.KernelIdeal.S2x64 EltTy.i32)
local notation "s3" => (Memref.whole Cert.KernelIdeal.cc1_scratch3 : Memref Cert.KernelIdeal.sig Kind.scVector Space.vmem Cert.KernelIdeal.S2x64 EltTy.f32)
local notation "s4" => (Memref.whole Cert.KernelIdeal.cc1_scratch4 : Memref Cert.KernelIdeal.sig Kind.scVector Space.vmem Cert.KernelIdeal.S64 EltTy.i32)
local notation "s5" => (Memref.whole Cert.KernelIdeal.cc1_scratch5 : Memref Cert.KernelIdeal.sig Kind.scVector Space.vmem Cert.KernelIdeal.S16 EltTy.i32)

section Tile

variable (d : Dev nD) (L : grid1.Coords) (lt : S64x64.Idx → F .f32)

theorem acc1 (f : S64.Idx → F .f32) :
    (((s1).access (.whole S64)).loc (tV d L) ↦[((s1).access (.whole S64)).set]{fullShare} (f : Buf (Elt F) ((tV d L).loc cc1_scratch1)) : sProp 𝕄) = P1 d L f := by
  rw [show ((s1).access (.whole S64)).set = Finset.univ from Memref.set_access_whole (cc1_scratch1 : Ref sig .scVector)]
theorem acc4 (f : S64.Idx → BitVec 32) :
    (((s4).access (.whole S64)).loc (tV d L) ↦[((s4).access (.whole S64)).set]{fullShare} (f : Buf (Elt F) ((tV d L).loc cc1_scratch4)) : sProp 𝕄) = P4 d L f := by
  rw [show ((s4).access (.whole S64)).set = Finset.univ from Memref.set_access_whole (cc1_scratch4 : Ref sig .scVector)]

theorem write1 (f : Vec F S64 .f32) (r : Fin 1 → IVec S16 32) (v : FVec F S16 .f32) (m : IVec S16 1) (h : ∀ a x, (r a x).toNat < S64.size a) :
    ((s1).access (.whole S64)).write (Elt F) f (storeIdx (F := F) (e := .f32) (s := S64) (((s1).access (.whole S64)).read (Elt F) f) r v m false h) Finset.univ = storeIdx (F := F) (e := .f32) f r v m false h :=
  (Memref.write_access_whole_univ (Elt F) cc1_scratch1 f _).trans (congrArg (fun g => storeIdx (F := F) (e := .f32) (s := S64) g r v m false h) (Memref.read_access_whole (Elt F) cc1_scratch1 f))
theorem write4 (f : Vec F S64 .i32) (r : Fin 1 → IVec S16 32) (v : IVec S16 32) (m : IVec S16 1) (h : ∀ a x, (r a x).toNat < S64.size a) :
    ((s4).access (.whole S64)).write (Elt F) f (storeIdx (F := F) (e := .i32) (s := S64) (((s4).access (.whole S64)).read (Elt F) f) r v m false h) Finset.univ = storeIdx (F := F) (e := .i32) f r v m false h :=
  (Memref.write_access_whole_univ (Elt F) cc1_scratch4 f _).trans (congrArg (fun g => storeIdx (F := F) (e := .i32) (s := S64) g r v m false h) (Memref.read_access_whole (Elt F) cc1_scratch4 f))

/-- An indexed store into the table of active experts. -/
theorem put1 {α : Type} (f : Vec F S64 .f32) (r : IVec S16 32) (v : FVec F S16 .f32) (m : IVec S16 1)
    (h : ∀ a x, ((![r] : Fin 1 → IVec S16 32) a x).toNat < S64.size a) (hs : ((s1).access (.whole S64)).Stores Finset.univ)
    (k : PUnit → Prog (TpuEff nD τ sig (Elt F) Λ₀ (tV d L).2) α) (Φ : α → sProp 𝕄) :
    P1 d L f ⊢ iprop((P1 d L (storeIdx f ![r] v m false h) -∗ wp frame (wpE (defs₀ (F := F)) 𝒱₀ (tV d L) none) Set.univ (k ⟨⟩) Φ)
      -∗ wp frame (wpE (defs₀ (F := F)) 𝒱₀ (tV d L) none) Set.univ (SparseCore.vectorStoreIdx s1 ![r] v m false h hs >>= k) Φ) := by
  iintro H HK
  ihave H' := (Entails.of_eq (acc1 (F := F) d L f).symm) $$ H
  iapply (SparseCore.wp_vectorStoreIdx 𝒱₀ (tV d L) none Set.univ (base := s1)) $$ H'
  iintro H
  iapply HK
  iapply (Entails.of_eq ((congrArg (fun g : Buf (Elt F) ((tV d L).loc cc1_scratch1) => iprop(((s1).access (.whole S64)).loc (tV d L) ↦[((s1).access (.whole S64)).set]{fullShare} g)) (write1 f ![r] v m h)).trans (acc1 (F := F) d L (storeIdx f ![r] v m false h))))
  iexact H

/-- An indexed store into the schedule. -/
theorem put4 {α : Type} (f : Vec F S64 .i32) (r v : IVec S16 32) (m : IVec S16 1)
    (h : ∀ a x, ((![r] : Fin 1 → IVec S16 32) a x).toNat < S64.size a) (hs : ((s4).access (.whole S64)).Stores Finset.univ)
    (k : PUnit → Prog (TpuEff nD τ sig (Elt F) Λ₀ (tV d L).2) α) (Φ : α → sProp 𝕄) :
    P4 d L f ⊢ iprop((P4 d L (storeIdx f ![r] v m false h) -∗ wp frame (wpE (defs₀ (F := F)) 𝒱₀ (tV d L) none) Set.univ (k ⟨⟩) Φ)
      -∗ wp frame (wpE (defs₀ (F := F)) 𝒱₀ (tV d L) none) Set.univ (SparseCore.vectorStoreIdx s4 ![r] v m false h hs >>= k) Φ) := by
  iintro H HK
  ihave H' := (Entails.of_eq (acc4 (F := F) d L f).symm) $$ H
  iapply (SparseCore.wp_vectorStoreIdx 𝒱₀ (tV d L) none Set.univ (base := s4)) $$ H'
  iintro H
  iapply HK
  iapply (Entails.of_eq ((congrArg (fun g : Buf (Elt F) ((tV d L).loc cc1_scratch4) => iprop(((s4).access (.whole S64)).loc (tV d L) ↦[((s4).access (.whole S64)).set]{fullShare} g)) (write4 f ![r] v m h)).trans (acc4 (F := F) d L (storeIdx f ![r] v m false h))))
  iexact H

theorem part2 (f2 : S2x64.Idx → BitVec 32) (f3 : S2x64.Idx → F .f32) (v9_2 : FVec F S16 .f32) (v9_5 v9_6 : IVec S16 32) (v9_10 : FVec F S16 .f32) (v9_13 v9_14 : IVec S16 32) (v28 : FVec F S16 .f32) (Φ : _ → sProp 𝕄) :
    iprop(P2 d L f2 ∗ P3 d L f3
        ∗ ((P2 d L (setRow (setRow (setRow (setRow f2 0 1 v9_5) 1 1 v9_13) 0 2 v9_6) 1 2 v9_14)
            ∗ P3 d L (setRow (setRow (setRow f3 0 1 (k1_pay37 v28)) 1 1 (k1_pay38 v28)) 0 2 (k1_pay39 v9_2 v9_10))) -∗
          Φ ⟨k1_pay39 v9_2 v9_10, Scalar.ofBits .f32 0x3F800000#32⟩))
      ⊢ wp frame (wpE (defs₀ (F := F)) 𝒱₀ (tV d L) none) Set.univ
          (k1_part2 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 v9_2 v9_5 v9_6 v9_10 v9_13 v9_14 v28) Φ := by
  rw [k1_part2_eq_skeleton]; unfold k1_part2_skel
  iintro ⟨H2', H3', HK⟩
  sl_exec
  sl_step
  rw [show part2.sl.cst_33 = (Scalar.ofBits .f32 0x3F800000#32 : F .f32) from rfl]
  iapply HK
  isplitl [H2']
  · iapply (Entails.of_eq (congrArg (fun f => P2 d L f) (?_ : _ = setRow (setRow (setRow (setRow f2 0 1 v9_5) 1 1 v9_13) 0 2 v9_6) 1 2 v9_14)))
    pick_goal 2
    · iexact H2'
    · simp only [View.writes_cons, View.writes_nil]
      rw [row2 _ _ 0 1 _ inb_S2x64_S1x16_0_16 rfl, row2 _ _ 1 1 _ inb_S2x64_S1x16_1_16 rfl, row2 _ _ 0 2 _ inb_S2x64_S1x16_0_32 rfl, row2 _ _ 1 2 _ inb_S2x64_S1x16_1_32 rfl]
  · iapply (Entails.of_eq (congrArg (fun f => P3 d L f) (?_ : _ = setRow (setRow (setRow f3 0 1 (k1_pay37 v28)) 1 1 (k1_pay38 v28)) 0 2 (k1_pay39 v9_2 v9_10))))
    pick_goal 2
    · iexact H3'
    · simp only [View.writes_cons, View.writes_nil]
      rw [row3 _ _ 0 1 _ inb_S2x64_S1x16_0_16 rfl, row3 _ _ 1 1 _ inb_S2x64_S1x16_1_16 rfl, row3 _ _ 0 2 _ inb_S2x64_S1x16_0_32 rfl]

theorem part3 (f1 : S64.Idx → F .f32) (f2 : S2x64.Idx → BitVec 32) (f3 : S2x64.Idx → F .f32) (v9_3 : FVec F S16 .f32) (v9_7 : IVec S16 32) (v9_11 : FVec F S16 .f32) (v9_15 : IVec S16 32) (v48 : FVec F S16 .f32) (cst : F .f32) (Φ : _ → sProp 𝕄) :
    iprop(P1 d L f1 ∗ P2 d L f2 ∗ P3 d L f3
        ∗ ((P1 d L (setChunk (setChunk (setChunk f1 0 k1_pay43) 1 k1_pay44) 2 k1_pay45) ∗ P2 d L (setRow (setRow f2 0 3 v9_7) 1 3 v9_15)
            ∗ P3 d L (setRow (setRow (setRow f3 1 2 (k1_pay40 v48 cst)) 0 3 (k1_pay41 v9_3 v9_11)) 1 3 (k1_pay42 v9_3 v9_11))) -∗
          Φ k1_pay46))
      ⊢ wp frame (wpE (defs₀ (F := F)) 𝒱₀ (tV d L) none) Set.univ
          (k1_part3 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 v9_3 v9_7 v9_11 v9_15 v48 cst) Φ := by
  rw [k1_part3_eq_skeleton]; unfold k1_part3_skel
  iintro ⟨H1', H2', H3', HK⟩
  sl_exec
  sl_step
  iapply HK
  isplitl [H1']
  · iapply (Entails.of_eq (congrArg (fun f => P1 d L f) (?_ : _ = setChunk (setChunk (setChunk f1 0 k1_pay43) 1 k1_pay44) 2 k1_pay45)))
    pick_goal 2
    · iexact H1'
    · simp only [View.writes_cons, View.writes_nil]
      rw [chunk1 _ _ 0 _ inb_S64_S16_0 rfl, chunk1 _ _ 1 _ inb_S64_S16_16 rfl, chunk1 _ _ 2 _ inb_S64_S16_32 rfl]
  isplitl [H2']
  · iapply (Entails.of_eq (congrArg (fun f => P2 d L f) (?_ : _ = setRow (setRow f2 0 3 v9_7) 1 3 v9_15)))
    pick_goal 2
    · iexact H2'
    · simp only [View.writes_cons, View.writes_nil]
      rw [row2 _ _ 0 3 _ inb_S2x64_S1x16_0_48 rfl, row2 _ _ 1 3 _ inb_S2x64_S1x16_1_48 rfl]
  · iapply (Entails.of_eq (congrArg (fun f => P3 d L f) (?_ : _ = setRow (setRow (setRow f3 1 2 (k1_pay40 v48 cst)) 0 3 (k1_pay41 v9_3 v9_11)) 1 3 (k1_pay42 v9_3 v9_11))))
    pick_goal 2
    · iexact H3'
    · simp only [View.writes_cons, View.writes_nil]
      rw [row3 _ _ 1 2 _ inb_S2x64_S1x16_1_32 rfl, row3 _ _ 0 3 _ inb_S2x64_S1x16_0_48 rfl, row3 _ _ 1 3 _ inb_S2x64_S1x16_1_48 rfl]

theorem part4 (h : k1_cond1 L = 1#1) (f1 : S64.Idx → F .f32) (v81 : FVec F S16 .f32) (hz : setChunk f1 3 v81 = fun _ => zeroW) (hw8 hw7 hw6 hw5 hw4 hw3 hw2 hw1) (Φ : _ → sProp 𝕄) :
    iprop(P1 d L f1
        ∗ (P1 d L (actOf lt) -∗
          Φ ⟨ch lt 0, k1_pay48 (ch lt 0), n1 lt, Scalar.maxsi 0#32 (extractAt ![15] (k1_pay50 lanes (ch lt 0)) inpos_S16_p15), ch lt 1, k1_pay51 (ch lt 1), 0#32, k1_pay52⟩))
      ⊢ wp frame (wpE (defs₀ (F := F)) 𝒱₀ (tV d L) none) Set.univ
          (k1_part4 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 h lanes (a1v lt 64 0) (a1v lt 64 1) (a1v lt 64 2) (a1v lt 64 3) (a2v lt 64 0) (a2v lt 64 1) (a2v lt 64 2) (a2v lt 64 3) hw8 hw7 hw6 hw5 hw4 hw3 hw2 hw1 k1_pay33 v81) Φ := by
  rw [k1_part4_eq_skeleton]; unfold k1_part4_skel
  iintro ⟨H1', HK⟩
  sl_exec
  ihave H := (Entails.of_eq (congrArg (fun f => P1 d L f) (?_ : _ = fun _ => zeroW))) $$ H1'
  · simp only [View.writes_cons, View.writes_nil]
    rw [chunk1 _ _ 3 _ inb_S64_S16_48 rfl, hz]
  iapply (put1 d L) $$ H; iintro H
  iapply (put1 d L) $$ H; iintro H
  iapply (put1 d L) $$ H; iintro H
  iapply (put1 d L) $$ H; iintro H
  iapply (put1 d L) $$ H; iintro H
  iapply (put1 d L) $$ H; iintro H
  iapply (put1 d L) $$ H; iintro H
  iapply (put1 d L) $$ H; iintro H
  have e8 := act8_eq lt
  unfold act8 at e8
  ihave H1' := (Entails.of_eq (congrArg (fun f => P1 d L f) e8)) $$ H
  sl_exec
  sl_step
  have e0 := read1 (actOf lt) 0 _ inb_S64_S16_0 rfl
  have e1 := read1 (actOf lt) 1 _ inb_S64_S16_16 rfl
  rw [show part4.sl.v96 lt = n1 lt from by unfold part4.sl.v96 part4.sl.v95 n1; rw [e0],
    show part4.sl.v109 lt = Scalar.maxsi 0#32 (extractAt ![15] (k1_pay50 lanes (ch lt 0)) inpos_S16_p15) from by
      unfold part4.sl.v109 part4.sl.v108; rw [e0], e0, e1]
  iapply HK
  iexact H1'

theorem part5 (Φ : _ → sProp 𝕄) :
    iprop(P1 d L (actOf lt)
        ∗ (P1 d L (actOf lt) -∗
          Φ ⟨k1_pay54 (n1 lt) (k1_pay51 (ch lt 1)) 0#32 k1_pay52, last2 lt, ch lt 2, k1_pay58 (n1 lt) (k1_pay51 (ch lt 1)) 0#32 k1_pay52 (ch lt 2), n3 lt, k1_pay60 lanes (ch lt 2), 1#1⟩))
      ⊢ wp frame (wpE (defs₀ (F := F)) 𝒱₀ (tV d L) none) Set.univ
          (k1_part5 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 lanes (n1 lt) (Scalar.maxsi 0#32 (extractAt ![15] (k1_pay50 lanes (ch lt 0)) inpos_S16_p15)) (ch lt 1) (k1_pay51 (ch lt 1)) 0#32 k1_pay52) Φ := by
  rw [k1_part5_eq_skeleton]; unfold k1_part5_skel
  iintro ⟨H1', HK⟩
  sl_exec
  sl_step
  have e2 := read1 (actOf lt) 2 _ inb_S64_S16_32 rfl
  rw [show part5.sl.v150 lt = n3 lt from by unfold part5.sl.v150 part5.sl.v149 part5.sl.v123 part5.sl.v122 n3 n2; rw [e2],
    show part5.sl.v136 lt = last2 lt from rfl, e2]
  iapply HK
  iexact H1'

theorem part6 (f4 : S64.Idx → BitVec 32) (Φ : _ → sProp 𝕄) :
    iprop(P1 d L (actOf lt) ∗ P4 d L f4
        ∗ ((P1 d L (actOf lt) ∗ P4 d L (setChunk (setChunk (setChunk f4 0 (padOf lt)) 1 (padOf lt)) 2 (padOf lt))) -∗
          Φ ⟨ch lt 3, k1_pay62 (n3 lt) (ch lt 3), n4 lt, padOf lt⟩))
      ⊢ wp frame (wpE (defs₀ (F := F)) 𝒱₀ (tV d L) none) Set.univ
          (k1_part6 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 lanes (last2 lt) (n3 lt) (k1_pay60 lanes (ch lt 2)) 1#1) Φ := by
  rw [k1_part6_eq_skeleton]; unfold k1_part6_skel
  iintro ⟨H1', H4', HK⟩
  sl_exec
  sl_step

  have e3 := read1 (actOf lt) 3 _ inb_S64_S16_48 rfl
  rw [show part6.sl.v177 lt = n4 lt from by unfold part6.sl.v177 part6.sl.v176 n4; rw [e3], e3,
    show k1_pay64 lanes (last2 lt) (k1_pay60 lanes (ch lt 2)) (ch lt 3) = padOf lt from rfl]
  iapply HK
  isplitl [H1']; · iexact H1'
  iapply (Entails.of_eq (congrArg (fun f => P4 d L f) (?_ : _ = setChunk (setChunk (setChunk f4 0 (padOf lt)) 1 (padOf lt)) 2 (padOf lt))))
  pick_goal 2
  · iexact H4'
  · simp only [View.writes_cons, View.writes_nil]
    rw [chunk4 _ _ 0 _ inb_S64_S16_0 rfl, chunk4 _ _ 1 _ inb_S64_S16_16 rfl, chunk4 _ _ 2 _ inb_S64_S16_32 rfl]

theorem setChunk_pad (f4 : S64.Idx → BitVec 32) :
    setChunk (setChunk (setChunk (setChunk f4 0 (padOf lt)) 1 (padOf lt)) 2 (padOf lt)) 3 (padOf lt) = sched0 lt := by
  funext i
  have h1 : (i 0).val < 64 := (i 0).isLt
  unfold setChunk sched0
  split
  · rfl
  split
  · rfl
  split
  · rfl
  split
  · rfl
  · exfalso
    rename_i a b c e
    have a' : (i 0).val / 16 ≠ 3 := a
    have b' : (i 0).val / 16 ≠ 2 := b
    have c' : (i 0).val / 16 ≠ 1 := c
    have e' : (i 0).val / 16 ≠ 0 := e
    omega

theorem part7 (h : k1_cond1 L = 1#1) (f4 : S64.Idx → BitVec 32) (hz : setChunk f4 3 (padOf lt) = sched0 lt) (Φ : _ → sProp 𝕄) :
    iprop(P4 d L f4 ∗ (P4 d L (schedOf lt) -∗ Φ k1_pay77))
      ⊢ wp frame (wpE (defs₀ (F := F)) 𝒱₀ (tV d L) none) Set.univ
          (k1_part7 L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4 h lanes (ch lt 0) (k1_pay48 (ch lt 0)) (ch lt 1) (k1_pay54 (n1 lt) (k1_pay51 (ch lt 1)) 0#32 k1_pay52) (ch lt 2) (k1_pay58 (n1 lt) (k1_pay51 (ch lt 1)) 0#32 k1_pay52 (ch lt 2)) (ch lt 3) (k1_pay62 (n3 lt) (ch lt 3)) (padOf lt)) Φ := by
  rw [k1_part7_eq_skeleton]; unfold k1_part7_skel
  iintro ⟨H4', HK⟩
  sl_exec
  have k1_h9 : k1_chk9 L (k1_pay65 (k1_pay48 (ch lt 0))) := fun _ => rank0_inb lt
  have k1_h10 : k1_chk10 L (k1_pay68 (k1_pay54 (n1 lt) (k1_pay51 (ch lt 1)) 0#32 k1_pay52)) := fun _ => rank1_inb lt
  have k1_h11 : k1_chk11 L (k1_pay71 (k1_pay58 (n1 lt) (k1_pay51 (ch lt 1)) 0#32 k1_pay52 (ch lt 2))) := fun _ => rank2_inb lt
  have k1_h12 : k1_chk12 L (k1_pay74 (k1_pay62 (n3 lt) (ch lt 3))) := fun _ => rank3_inb lt
  sl_exec
  ihave H := (Entails.of_eq (congrArg (fun f => P4 d L f) (?_ : _ = sched0 lt))) $$ H4'
  · simp only [View.writes_cons, View.writes_nil]
    rw [chunk4 _ _ 3 _ inb_S64_S16_48 rfl, hz]
  iapply (put4 d L) $$ H; iintro H
  sl_exec
  iapply (put4 d L) $$ H; iintro H
  sl_exec
  iapply (put4 d L) $$ H; iintro H
  sl_exec
  iapply (put4 d L) $$ H; iintro H
  sl_step
  iapply HK
  iexact H

end Tile

end Cert.Moe

end
-- ==== Proof.Router3.lean ====
/-
  The router's task whole: its parts composed, the four tables copied out; and on the other subcores
  the task that does nothing.
-/
module

public import proofs.«01_k».proof.Proof.Router2

@[expose] public section

noncomputable section

namespace Cert.Moe

open Cert.KernelIdeal hiding ix2
open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The memrefs the task is called at -/

local notation "xV" => (Memref.whole Cert.KernelIdeal.main_v2_scv : Memref Cert.KernelIdeal.sig Kind.scVector Space.hbm Cert.KernelIdeal.S64x64 EltTy.f32)
local notation "oA" => (Memref.whole Cert.KernelIdeal.main_v3_0_scv : Memref Cert.KernelIdeal.sig Kind.scVector Space.hbm Cert.KernelIdeal.S2x64 EltTy.i32)
local notation "oW" => (Memref.whole Cert.KernelIdeal.main_v3_1_scv : Memref Cert.KernelIdeal.sig Kind.scVector Space.hbm Cert.KernelIdeal.S2x64 EltTy.f32)
local notation "oS" => (Memref.whole Cert.KernelIdeal.main_v3_2_scv : Memref Cert.KernelIdeal.sig Kind.scVector Space.hbm Cert.KernelIdeal.S64 EltTy.i32)
local notation "oN" => (Memref.whole Cert.KernelIdeal.main_v3_3_scv : Memref Cert.KernelIdeal.sig Kind.scVector Space.hbm Cert.KernelIdeal.S16 EltTy.i32)
local notation "s0" => (Memref.whole Cert.KernelIdeal.cc1_scratch0 : Memref Cert.KernelIdeal.sig Kind.scVector Space.vmem Cert.KernelIdeal.S64x64 EltTy.f32)
local notation "s1" => (Memref.whole Cert.KernelIdeal.cc1_scratch1 : Memref Cert.KernelIdeal.sig Kind.scVector Space.vmem Cert.KernelIdeal.S64 EltTy.f32)
local notation "s2" => (Memref.whole Cert.KernelIdeal.cc1_scratch2 : Memref Cert.KernelIdeal.sig Kind.scVector Space.vmem Cert.KernelIdeal.S2x64 EltTy.i32)
local notation "s3" => (Memref.whole Cert.KernelIdeal.cc1_scratch3 : Memref Cert.KernelIdeal.sig Kind.scVector Space.vmem Cert.KernelIdeal.S2x64 EltTy.f32)
local notation "s4" => (Memref.whole Cert.KernelIdeal.cc1_scratch4 : Memref Cert.KernelIdeal.sig Kind.scVector Space.vmem Cert.KernelIdeal.S64 EltTy.i32)
local notation "s5" => (Memref.whole Cert.KernelIdeal.cc1_scratch5 : Memref Cert.KernelIdeal.sig Kind.scVector Space.vmem Cert.KernelIdeal.S16 EltTy.i32)

/-- Eight stores, one per row and chunk, leave the whole table. -/
theorem rows_eq {α : Type} (f g : S2x64.Idx → α) (a0 b0 a1 b1 a2 b2 a3 b3 : S16.Idx → α)
    (ha0 : ∀ k, a0 (ix1 k) = g (ix2 0 (lane 0 k))) (hb0 : ∀ k, b0 (ix1 k) = g (ix2 1 (lane 0 k)))
    (ha1 : ∀ k, a1 (ix1 k) = g (ix2 0 (lane 1 k))) (hb1 : ∀ k, b1 (ix1 k) = g (ix2 1 (lane 1 k)))
    (ha2 : ∀ k, a2 (ix1 k) = g (ix2 0 (lane 2 k))) (hb2 : ∀ k, b2 (ix1 k) = g (ix2 1 (lane 2 k)))
    (ha3 : ∀ k, a3 (ix1 k) = g (ix2 0 (lane 3 k))) (hb3 : ∀ k, b3 (ix1 k) = g (ix2 1 (lane 3 k))) :
    setRow (setRow (setRow (setRow (setRow (setRow (setRow (setRow f 0 0 a0) 1 0 b0) 0 1 a1) 1 1 b1) 0 2 a2) 1 2 b2) 0 3 a3) 1 3 b3 = g := by
  funext i
  have h0 : (i 0).val < 2 := (i 0).isLt
  have h1 : (i 1).val < 64 := (i 1).isLt
  have key : ∀ (r : Fin 2) (c : Fin 4), (i 0).val = r.val ∧ (i 1).val / 16 = c.val → (ix2 r (lane c ⟨(i 1).val % 16, Nat.mod_lt _ (by omega)⟩) : S2x64.Idx) = i := by
    intro r c ⟨e0, e1⟩
    funext a
    refine Fin.ext ?_
    match a with
    | 0 => exact e0.symm
    | 1 => show 16 * c.val + (i 1).val % 16 = (i 1).val; omega
  unfold setRow
  split
  · rename_i h; rw [hb3, key 1 3 h]
  split
  · rename_i h; rw [ha3, key 0 3 h]
  split
  · rename_i h; rw [hb2, key 1 2 h]
  split
  · rename_i h; rw [ha2, key 0 2 h]
  split
  · rename_i h; rw [hb1, key 1 1 h]
  split
  · rename_i h; rw [ha1, key 0 1 h]
  split
  · rename_i h; rw [hb0, key 1 0 h]
  split
  · rename_i h; rw [ha0, key 0 0 h]
  · exfalso
    rename_i k0 k1 k2 k3 k4 k5 k6 k7
    have q0 : ¬ ((i 0).val = 1 ∧ (i 1).val / 16 = 3) := k0
    have q1 : ¬ ((i 0).val = 0 ∧ (i 1).val / 16 = 3) := k1
    have q2 : ¬ ((i 0).val = 1 ∧ (i 1).val / 16 = 2) := k2
    have q3 : ¬ ((i 0).val = 0 ∧ (i 1).val / 16 = 2) := k3
    have q4 : ¬ ((i 0).val = 1 ∧ (i 1).val / 16 = 1) := k4
    have q5 : ¬ ((i 0).val = 0 ∧ (i 1).val / 16 = 1) := k5
    have q6 : ¬ ((i 0).val = 1 ∧ (i 1).val / 16 = 0) := k6
    have q7 : ¬ ((i 0).val = 0 ∧ (i 1).val / 16 = 0) := k7
    omega

theorem zeros_eq (f : S64.Idx → F .f32) :
    setChunk (setChunk (setChunk (setChunk f 0 k1_pay43) 1 k1_pay44) 2 k1_pay45) 3 k1_pay46 = fun _ => (zeroW : F .f32) := by
  funext i
  have h1 : (i 0).val < 64 := (i 0).isLt
  unfold setChunk
  split
  · rfl
  split
  · rfl
  split
  · rfl
  split
  · rfl
  · exfalso
    rename_i a b c e
    have a' : (i 0).val / 16 ≠ 3 := a
    have b' : (i 0).val / 16 ≠ 2 := b
    have c' : (i 0).val / 16 ≠ 1 := c
    have e' : (i 0).val / 16 ≠ 0 := e
    omega

section Tile

variable (d : Dev nD) (L : grid1.Coords) (lt : S64x64.Idx → F .f32)

theorem rowsA (f : S2x64.Idx → BitVec 32) :
    setRow (setRow (setRow (setRow (setRow (setRow (setRow (setRow f 0 0 (a1v lt 64 0)) 1 0 (a2v lt 64 0)) 0 1 (a1v lt 64 1)) 1 1 (a2v lt 64 1)) 0 2 (a1v lt 64 2)) 1 2 (a2v lt 64 2)) 0 3 (a1v lt 64 3)) 1 3 (a2v lt 64 3)
      = aiOf lt :=
  rows_eq f (aiOf lt) _ _ _ _ _ _ _ _ (fun _ => rfl) (fun _ => rfl) (fun _ => rfl) (fun _ => rfl) (fun _ => rfl) (fun _ => rfl) (fun _ => rfl) (fun _ => rfl)

theorem rowsW (f : S2x64.Idx → F .f32) :
    setRow (setRow (setRow (setRow (setRow (setRow (setRow (setRow f 0 0 (k1_pay34 (m1v lt 64 0) (m2v lt 64 0))) 1 0 (k1_pay35 (m1v lt 64 0) (m2v lt 64 0)))
      0 1 (k1_pay37 (k1_pay36 (m1v lt 64 1) (m2v lt 64 1)))) 1 1 (k1_pay38 (k1_pay36 (m1v lt 64 1) (m2v lt 64 1))))
      0 2 (k1_pay39 (m1v lt 64 2) (m2v lt 64 2))) 1 2 (k1_pay40 (k1_pay39 (m1v lt 64 2) (m2v lt 64 2)) (Scalar.ofBits .f32 0x3F800000#32)))
      0 3 (k1_pay41 (m1v lt 64 3) (m2v lt 64 3))) 1 3 (k1_pay42 (m1v lt 64 3) (m2v lt 64 3))
      = wvOf lt :=
  rows_eq f (wvOf lt) _ _ _ _ _ _ _ _ (fun _ => rfl) (fun _ => rfl) (fun _ => rfl) (fun _ => rfl) (fun _ => rfl) (fun _ => rfl) (fun _ => rfl) (fun _ => rfl)

theorem full5 (f w : S16.Idx → Elt F .i32) :
    ((s5).view.slice (Rect.unit (s := S16) ![0] S16.size inb_S16_S16_0)).write (Elt F) (f : Buf (Elt F) ((tV d L).loc cc1_scratch5)) w Finset.univ = w := by
  funext i
  have e : i = ((s5).view.slice (Rect.unit (s := S16) ![0] S16.size inb_S16_S16_0)).emb i := by
    funext a
    refine Fin.ext ?_
    match a with
    | 0 => show (i 0).val = 0 + 1 * (i 0).val; omega
  refine (congrArg _ e).trans (View.write_emb_of_mem _ _ (Finset.mem_univ _))

/-- The logits and the four tables, each whole at its contents. -/
def Tabs (d : Dev nD) (x : S64x64.Idx → F .f32) (a : S2x64.Idx → BitVec 32) (w : S2x64.Idx → F .f32) (s : S64.Idx → BitVec 32) (n : S16.Idx → BitVec 32) : sProp 𝕄 :=
  iprop((((d, Proc.devRef (τ := τ) .tc main_v2) : Loc nD τ sig) ↦{fullShare} (x : Buf (Elt F) (d, Proc.devRef (τ := τ) .tc main_v2)))
    ∗ (((d, Proc.devRef (τ := τ) .tc main_v3_0) : Loc nD τ sig) ↦{fullShare} (a : Buf (Elt F) (d, Proc.devRef (τ := τ) .tc main_v3_0)))
    ∗ (((d, Proc.devRef (τ := τ) .tc main_v3_1) : Loc nD τ sig) ↦{fullShare} (w : Buf (Elt F) (d, Proc.devRef (τ := τ) .tc main_v3_1)))
    ∗ (((d, Proc.devRef (τ := τ) .tc main_v3_2) : Loc nD τ sig) ↦{fullShare} (s : Buf (Elt F) (d, Proc.devRef (τ := τ) .tc main_v3_2)))
    ∗ (((d, Proc.devRef (τ := τ) .tc main_v3_3) : Loc nD τ sig) ↦{fullShare} (n : Buf (Elt F) (d, Proc.devRef (τ := τ) .tc main_v3_3))))

theorem anyW (O : CellTallies nD τ sig (HIx 1)) (W W' : Waits sig (HIx 1)) :
    (owes (tV d L) O W' : sProp 𝕄) ⊢ iprop(∃ W', ⌜∀ p ∈ W', p ∈ W ∨ p.2 = none ∨ p.2 = some (0 : Fin 1)⌝ ∗ owes (tV d L) O W') := by
  iintro HO
  iexists W'
  isplitr
  · ipureintro
    intro p _
    rcases p.2 with _ | q
    · exact .inr (.inl rfl)
    · exact .inr (.inr (congrArg some (Subsingleton.elim q 0)))
  · iexact HO

theorem body_on (hF : (K (F := F)).Facts) (h : k1_cond1 L = 1#1) (O : CellTallies nD τ sig (HIx 1)) (W : Waits sig (HIx 1)) (hO : ∀ g, O g none = 0)
    (fA : S2x64.Idx → BitVec 32) (fW : S2x64.Idx → F .f32) (fS : S64.Idx → BitVec 32) (fN : S16.Idx → BitVec 32) :
    iprop(levAts (K (F := F)).L (K (F := F)).lev ∗ emp ∗ Tabs d lt fA fW fS fN
        ∗ scopedBufs (tV d L) ∗ scopedSems0 (tV d L) ∗ owes (tV d L) O W)
      ⊢ wp frame (wpE (defs₀ (F := F)) 𝒱₀ (tV d L) none) Set.univ
          (cc1__sc_router_body L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4)
          fun _ => iprop(Tabs d lt (aiOf lt) (wvOf lt) (schedOf lt) (nactOf lt)
            ∗ scopedBufs (tV d L) ∗ scopedSems0 (tV d L)
            ∗ ∃ W', ⌜∀ p ∈ W', p ∈ W ∨ p.2 = none ∨ p.2 = some (0 : Fin 1)⌝ ∗ owes (tV d L) O W') := by
  rw [cc1__sc_router_body_eq_skeleton]; unfold cc1__sc_router_body_skel
  rw [dif_pos h]
  rw [(K (F := F)).scopedBufs_V hF d (cV L) (jV L), SparseCore.Cfg.scopedSems0_V (Val := Elt F) d (cV L) (jV L), ownSems0_V, ownBufs_V]
  unfold Tabs
  iintro ⟨#Hlv, -, ⟨Hx, HA, HW, HS, HN⟩, ⟨⟨%f0, H0⟩, ⟨%f1, H1⟩, ⟨%f2, H2⟩, ⟨%f3, H3⟩, ⟨%f4, H4⟩, ⟨%f5, H5⟩, Hbufs⟩, ⟨Hc0, Hc1, Hc2, Hc3, Hc4, Hsems⟩, HO⟩
  ihave #Hmw := (show levAts (K (F := F)).L (K (F := F)).lev ⊢ Transfers.MayWaits (tV d L) (none : HIx 1) O from
    (K (F := F)).mayWaits_none (thr := tV d L) hO) $$ Hlv
  ihave Hx' := (Entails.of_eq (pts_xV (F := F) d L _).symm) $$ Hx
  ihave HA' := (Entails.of_eq (pts_oA (F := F) d L _).symm) $$ HA
  ihave HW' := (Entails.of_eq (pts_oW (F := F) d L _).symm) $$ HW
  ihave HS' := (Entails.of_eq (pts_oS (F := F) d L _).symm) $$ HS
  ihave HN' := (Entails.of_eq (pts_oN (F := F) d L _).symm) $$ HN
  ihave H0' := (Entails.of_eq (pts_s0 (F := F) d L _).symm) $$ H0
  ihave H1' := (Entails.of_eq (pts_s1 (F := F) d L _).symm) $$ H1
  ihave H2' := (Entails.of_eq (pts_s2 (F := F) d L _).symm) $$ H2
  ihave H3' := (Entails.of_eq (pts_s3 (F := F) d L _).symm) $$ H3
  ihave H4' := (Entails.of_eq (pts_s4 (F := F) d L _).symm) $$ H4
  ihave H5' := (Entails.of_eq (pts_s5 (F := F) d L _).symm) $$ H5
  rw [wp_bind]
  iapply (part1 d L lt h O W f0 f2 f3 _)
  isplitl []; · iexact Hmw
  isplitl [Hx']; · iexact Hx'
  isplitl [H0']; · iexact H0'
  isplitl [H2']; · iexact H2'
  isplitl [H3']; · iexact H3'
  isplitl [Hc0]; · iexact Hc0
  isplitl [HO]; · iexact HO
  iintro ⟨Hx', H0', H2', H3', Hc0, %W1, HO⟩
  try dsimp only
  rw [wp_bind]
  iapply (part2 d L _ _ (m1v lt 64 2) (a1v lt 64 1) (a1v lt 64 2) (m2v lt 64 2) (a2v lt 64 1) (a2v lt 64 2) (k1_pay36 (m1v lt 64 1) (m2v lt 64 1)) _)
  isplitl [H2']; · iexact H2'
  isplitl [H3']; · iexact H3'
  iintro ⟨H2', H3'⟩
  try dsimp only
  rw [wp_bind]
  iapply (part3 d L f1 _ _ (m1v lt 64 3) (a1v lt 64 3) (m2v lt 64 3) (a2v lt 64 3) (k1_pay39 (m1v lt 64 2) (m2v lt 64 2)) _ _)
  isplitl [H1']; · iexact H1'
  isplitl [H2']; · iexact H2'
  isplitl [H3']; · iexact H3'
  iintro ⟨H1', H2', H3'⟩
  try dsimp only
  rw [wp_bind]
  iapply (part4 d L lt h _ k1_pay46 (zeros_eq f1) _ _ _ _ _ _ _ _ _)
  isplitl [H1']; · iexact H1'
  iintro H1'
  try dsimp only
  rw [wp_bind]
  iapply (part5 d L lt _)
  isplitl [H1']; · iexact H1'
  iintro H1'
  try dsimp only
  rw [wp_bind]
  iapply (part6 d L lt f4 _)
  isplitl [H1']; · iexact H1'
  isplitl [H4']; · iexact H4'
  iintro ⟨H1', H4'⟩
  try dsimp only
  rw [wp_bind]
  iapply (part7 d L lt h _ (setChunk_pad lt f4) _)
  isplitl [H4']; · iexact H4'
  iintro H4'
  try dsimp only
  rw [rowsA, rowsW]
  ihave H2 := (Entails.of_eq (rfl : P2 d L (aiOf lt) = P2 d L (aiOf lt))) $$ H2'
  ihave H3 := (Entails.of_eq (rfl : P3 d L (wvOf lt) = P3 d L (wvOf lt))) $$ H3'
  ihave H4 := (Entails.of_eq (rfl : P4 d L (schedOf lt) = P4 d L (schedOf lt))) $$ H4'
  ihave H5 := (Entails.of_eq (rfl : P5 d L f5 = P5 d L f5)) $$ H5'
  ihave HA := (Entails.of_eq (rfl : PA d L fA = PA d L fA)) $$ HA'
  ihave HW := (Entails.of_eq (rfl : PW d L fW = PW d L fW)) $$ HW'
  ihave HS := (Entails.of_eq (rfl : PS d L fS = PS d L fS)) $$ HS'
  ihave HN := (Entails.of_eq (rfl : PN d L fN = PN d L fN)) $$ HN'
  sl_exec (disch := exact View.amount_pos _ _ (by decide))
  sl_step
  isplitl [Hx' HA HW HS HN]
  · isplitl [Hx']; · iexact Hx'
    isplitl [HA]
    · iapply (Entails.of_eq (pts_oA (F := F) d L _))
      iapply (Entails.of_eq (congrArg (fun f => PA d L f) (View.write_whole_univ main_v3_0_scv fA (aiOf lt))))
      iexact HA
    isplitl [HW]
    · iapply (Entails.of_eq (pts_oW (F := F) d L _))
      iapply (Entails.of_eq (congrArg (fun f => PW d L f) (View.write_whole_univ main_v3_1_scv fW (wvOf lt))))
      iexact HW
    isplitl [HS]
    · iapply (Entails.of_eq (pts_oS (F := F) d L _))
      iapply (Entails.of_eq (congrArg (fun f => PS d L f) (View.write_whole_univ main_v3_2_scv fS (schedOf lt))))
      iexact HS
    iapply (Entails.of_eq (pts_oN (F := F) d L _))
    iapply (Entails.of_eq (congrArg (fun f => PN d L f) (View.write_whole_univ main_v3_3_scv fN (nactOf lt))))
    have e5 : body_on.sl.dma2_3 d L lt f5 = nactOf lt := by
      unfold body_on.sl.dma2_3 body_on.sl.H5_1
      simp only [View.writes_cons, View.writes_nil]
      exact full5 f5 (nactOf lt)
    rw [e5]
    iexact HN
  isplitl [H0' H1' H2 H3 H4 H5 Hbufs]
  · isplitl [H0']; · iexists _; iexact H0'
    isplitl [H1']; · iexists _; iexact H1'
    isplitl [H2]; · iexists _; iexact H2
    isplitl [H3]; · iexists _; iexact H3
    isplitl [H4]; · iexists _; iexact H4
    isplitl [H5]; · iexists _; iexact H5
    iexact Hbufs
  isplitl [Hc0 Hc1 Hc2 Hc3 Hc4 Hsems]
  · isplitl [Hc0]; · iexact Hc0
    isplitl [Hc1]; · iexact Hc1
    isplitl [Hc2]; · iexact Hc2
    isplitl [Hc3]; · iexact Hc3
    isplitl [Hc4]; · iexact Hc4
    iexact Hsems
  iapply (anyW (F := F) d L O W _); iexact HO

theorem body_off (h : ¬ k1_cond1 L = 1#1) (O : CellTallies nD τ sig (HIx 1)) (W : Waits sig (HIx 1)) :
    (iprop(levAts (K (F := F)).L (K (F := F)).lev ∗ emp ∗ emp
        ∗ scopedBufs (tV d L) ∗ scopedSems0 (tV d L) ∗ owes (tV d L) O W) : sProp 𝕄)
      ⊢ wp frame (wpE (defs₀ (F := F)) 𝒱₀ (tV d L) none) Set.univ
          (cc1__sc_router_body L xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4)
          fun _ => iprop(emp
            ∗ scopedBufs (tV d L) ∗ scopedSems0 (tV d L)
            ∗ ∃ W', ⌜∀ p ∈ W', p ∈ W ∨ p.2 = none ∨ p.2 = some (0 : Fin 1)⌝ ∗ owes (tV d L) O W') := by
  rw [cc1__sc_router_body_eq_skeleton]; unfold cc1__sc_router_body_skel
  rw [dif_neg h]
  iintro ⟨-, -, -, HB, HS, HO⟩
  sl_exec
  sl_step
  isplitr; · iempintro
  isplitl [HB]; · iexact HB
  isplitl [HS]; · iexact HS
  iexists W
  isplitr
  · ipureintro; exact fun p hp => .inl hp
  · iexact HO

end Tile

end Cert.Moe

end
-- ==== Proof.ExpertBody.lean ====
/- One grid point of the expert call, run once at symbolic buffers: what it reads, and what it leaves in the
   accumulator's buffer, as a function of the values of its windows' blocks and of the two scheduling tables. -/
module

public import proofs.«01_k».proof.Proof.Common

@[expose] public section

noncomputable section

namespace Cert.Moe

open Cert.KernelIdeal hiding ix2
open Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-- A row of an array of 64 rows, as a block of one row. -/
def rowOf {α : Type} {n : ℕ} (X : (⟨2, ![64, n]⟩ : Shape).Idx → α) (e : Fin 64) : (⟨2, ![1, n]⟩ : Shape).Idx → α := fun j => X (ix2 e (j 1))
/-- A row of an array of two rows, as a block of one row. -/
def rowOf2 {α : Type} {n : ℕ} (X : (⟨2, ![2, n]⟩ : Shape).Idx → α) (k : Fin 2) : (⟨2, ![1, n]⟩ : Shape).Idx → α := fun j => X (ix2 k (j 1))

/-- What an active point adds to the accumulator `acc`: expert `e`'s feed-forward of the tokens `x`, scaled per token by
    the weight the router gave `e`. -/
def expertAdd (e : Fin 64) (x : Vec F S64x1024 .f32) (w1 : Vec F S1x1024x512 .f32) (b1 : Vec F S64x512 .f32) (w2 : Vec F S1x512x512 .f32)
    (b2 : Vec F S64x512 .f32) (w3 : Vec F S1x512x1024 .f32) (b3 : Vec F S64x1024 .f32) (ai : Vec F S2x64 .i32) (wv : Vec F S2x64 .f32)
    (acc : Vec F S64x1024 .f32) : Vec F S64x1024 .f32 :=
  k2_pay2 (BitVec.ofNat 32 e.val) (k2_pay3 x w1 (rowOf b1 e) w2 (rowOf b2 e) w3 (rowOf b3 e)) (k2_pay4 (F := F) (BitVec.ofNat 32 e.val) (rowOf2 ai 0))
    (rowOf2 wv 0) (rowOf2 ai 1) (rowOf2 wv 1) acc

/-- A buffer of the TensorCore held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem owns_eq (c : Dev nD) {sp : Space} {S : Shape} {e : EltTy} (M : Memref sig .tc sp S e) (hM : M.IsWhole) (v : Vec F S e) :
    (owns (c : Thread nD τ) M fullShare v : sProp 𝕄) = iprop(∃ f : Buf (Elt F) (M.view.loc (c : Thread nD τ)), ⌜M.view.read (Elt F) f = v⌝ ∗ pt c M f) := by
  unfold owns
  rw [hM.set_eq_univ]

theorem owns_of (c : Dev nD) {sp : Space} {S : Shape} {e : EltTy} (M : Memref sig .tc sp S e) (hM : M.IsWhole) (f : Buf (Elt F) (M.view.loc (c : Thread nD τ))) (v : Vec F S e)
    (h : M.view.read (Elt F) f = v) : pt (F := F) c M f ⊢ owns (c : Thread nD τ) M fullShare v := by
  rw [owns_eq c M hM]
  iintro H
  iexists f
  isplitr
  · ipureintro; exact h
  · iexact H

theorem ld_row {n : ℕ} (X : (⟨2, ![64, n]⟩ : Shape).Idx → Elt F .f32) (e : Fin 64) (off : Fin 2 → ℕ) (ho : off = ![e.val, 0])
    (inb : ∀ a, off a + (![1, n] : Fin 2 → ℕ) a ≤ (⟨2, ![64, n]⟩ : Shape).size a) :
    View.ld X (Rect.unit (s := ⟨2, ![64, n]⟩) off ![1, n] inb) = rowOf X e := by
  subst ho
  funext j
  unfold View.ld rowOf
  congr 1
  funext a
  match a with
  | 0 => apply Fin.ext; show e.val + 1 * (j 0).val = e.val; have := (j 0).isLt; have h : (![1, n] : Fin 2 → ℕ) 0 = 1 := rfl; simp at this ⊢; omega
  | 1 => apply Fin.ext; show 0 + 1 * (j 1).val = (j 1).val; omega

theorem ld_row2 {n : ℕ} {t : EltTy} (X : (⟨2, ![2, n]⟩ : Shape).Idx → Elt F t) (k : Fin 2) (off : Fin 2 → ℕ) (ho : off = ![k.val, 0])
    (inb : ∀ a, off a + (![1, n] : Fin 2 → ℕ) a ≤ (⟨2, ![2, n]⟩ : Shape).size a) :
    View.ld X (Rect.unit (s := ⟨2, ![2, n]⟩) off ![1, n] inb) = rowOf2 X k := by
  subst ho
  funext j
  unfold View.ld rowOf2
  congr 1
  funext a
  match a with
  | 0 => apply Fin.ext; show k.val + 1 * (j 0).val = k.val; have := (j 0).isLt; simp at this ⊢; omega
  | 1 => apply Fin.ext; show 0 + 1 * (j 1).val = (j 1).val; omega

theorem hz2 : (![0, 0] : Fin 2 → ℕ) = fun _ => 0 := by funext a; match a with | 0 => rfl | 1 => rfl
theorem hz3 : (![0, 0, 0] : Fin 3 → ℕ) = fun _ => 0 := by funext a; match a with | 0 => rfl | 1 => rfl | 2 => rfl

/-- The table's word the point reads is the point's own. -/
theorem off2_idx (i : grid2.Coords) : (Rect.unit (s := S64) (k2_off2 i) S1.size (k2_off2_inb i)).idx (Shape.Idx.first numel1_S1.ge) = ix1 (i 0) := by
  funext a
  match a with
  | 0 =>
    apply Fin.ext
    show (k2_off2 i) 0 + 1 * 0 = (i 0).val
    have h : (i 0).val < 64 := (i 0).isLt
    show (BitVec.ofNat 32 (i 0).val).toNat + 1 * 0 = (i 0).val
    rw [BitVec.toNat_ofNat]; omega

/-- An expert below 64 is a row of the tables of biases. -/
theorem off3_eq (e : Fin 64) : k2_off3 (BitVec.ofNat 32 e.val) = ![e.val, 0] := by
  have h : e.val < 64 := e.isLt
  show ![(BitVec.ofNat 32 e.val).toNat, 0] = _
  rw [BitVec.toNat_ofNat, Nat.mod_eq_of_lt (by omega)]
theorem off4_eq (e : Fin 64) : k2_off4 (BitVec.ofNat 32 e.val) = ![e.val, 0] := off3_eq e
theorem chk_of_lt (i : grid2.Coords) (v3 : BitVec 32) (e : Fin 64) : k2_chk1 i v3 (BitVec.ofNat 32 e.val) := by
  have h : e.val < 64 := e.isLt
  unfold k2_chk1
  rw [off3_eq, off4_eq]
  refine ⟨fun _ a => ?_, fun _ a => ?_⟩ <;> match a with
  | 0 => show e.val + 1 ≤ 64; omega
  | 1 => exact Nat.le_of_eq rfl

section Run

variable (c : Dev nD) (i : grid2.Coords) (pf0 : Vec F S64 .i32) (pf1 : Vec F S16 .i32)
  (M3 : Memref sig .tc .vmem S64x1024 .f32) (h3 : M3.IsWhole) (M4 : Memref sig .tc .vmem S1x1024x512 .f32) (h4 : M4.IsWhole)
  (M5 : Memref sig .tc .vmem S64x512 .f32) (h5 : M5.IsWhole) (M6 : Memref sig .tc .vmem S1x512x512 .f32) (h6 : M6.IsWhole)
  (M7 : Memref sig .tc .vmem S64x512 .f32) (h7 : M7.IsWhole) (M8 : Memref sig .tc .vmem S1x512x1024 .f32) (h8 : M8.IsWhole)
  (M9 : Memref sig .tc .vmem S64x1024 .f32) (h9 : M9.IsWhole) (M10 : Memref sig .tc .vmem S2x64 .i32) (h10 : M10.IsWhole)
  (M11 : Memref sig .tc .vmem S2x64 .f32) (h11 : M11.IsWhole) (M12 : Memref sig .tc .vmem S64x1024 .f32) (h12 : M12.IsWhole)

/-- The kernel's body at a point, on the two tables and the windows' buffers. -/
abbrev ebody : Prog (TpuEff nD τ sig (Elt F) Λ₀ .tc) PUnit :=
  cc2__expert_kernel (F := F) i (Memref.whole main_v5) (Memref.isWhole_whole _) (Memref.whole main_v7) (Memref.isWhole_whole _) M3 h3 M4 h4 M5 h5 M6 h6 M7 h7 M8 h8 M9 h9 M10 h10 M11 h11 M12 h12

/-- The body after its reset: the count read (as `v3`), and, where the point is active, the expert's work. -/
def etail (v3 : Elt F .i32) : Prog (TpuEff nD τ sig (Elt F) Λ₀ .tc) PUnit := do
  if k2_h2 : k2_cond2 i v3 = 1#1 then do
    let ⟨v8, v39, v43⟩ : Σ' (v8 : Elt F .i32) (v39 : FVec F S64x1024 .f32), IVec S1x64 1 ← k2_part1 i (Memref.whole main_v5) (Memref.isWhole_whole _) (Memref.whole main_v7) (Memref.isWhole_whole _) M3 h3 M4 h4 M5 h5 M6 h6 M7 h7 M8 h8 M9 h9 M10 h10 M11 h11 M12 h12 (BitVec.ofNat 32 (i 0).val) v3 k2_h2
    let v44 : Vec F S1x64 .f32 ← Prog.lift (.load M11 (Rect.unit (s := S2x64) ![0, 0] S1x64.size inb_S2x64_S1x64_0_0).toLoadRect (View.loadsAt_vmem h_S1x64))
    let v48 : Vec F S1x64 .i32 ← Prog.lift (.load M10 (Rect.unit (s := S2x64) ![1, 0] S1x64.size inb_S2x64_S1x64_1_0).toLoadRect (View.loadsAt_vmem h_S1x64))
    let v52 : Vec F S1x64 .f32 ← Prog.lift (.load M11 (Rect.unit (s := S2x64) ![1, 0] S1x64.size inb_S2x64_S1x64_1_0).toLoadRect (View.loadsAt_vmem h_S1x64))
    let v64 : Vec F S64x1024 .f32 ← Prog.lift (.load M12 (Rect.unit (s := S64x1024) ![0, 0] S64x1024.size inb_S64x1024_S64x1024_0_0).toLoadRect (View.loadsAt_vmem h_S64x1024))
    let _v68 : Vec F S64x1024 .f32 ← Prog.lift (.load M12 (Rect.unit (s := S64x1024) ![0, 0] S64x1024.size inb_S64x1024_S64x1024_0_0).toLoadRect (View.loadsAt_vmem h_S64x1024))
    Prog.lift (.store M12 (Rect.unit (s := S64x1024) ![0, 0] S64x1024.size inb_S64x1024_S64x1024_0_0) (k2_pay2 v8 v39 v43 v44 v48 v52 v64) Finset.univ (View.stores_vmem_bits_univ h_S64x1024 rfl) (.inl rfl))
    pure ⟨⟩
  else do
    pure ⟨⟩
  pure ⟨⟩

set_option maxHeartbeats 600000 in
theorem etail_active (v3 : Elt F .i32) (e : Fin 64) (hc2 : k2_cond2 i v3 = 1#1)
    (he : pf0 (ix1 (i 0)) = BitVec.ofNat 32 e.val)
    (f3 : Buf (Elt F) (M3.view.loc (c : Thread nD τ))) (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ))) (f11 : Buf (Elt F) (M11.view.loc (c : Thread nD τ)))
    (f12 : Buf (Elt F) (M12.view.loc (c : Thread nD τ))) (Q : PUnit → sProp 𝕄) :
    iprop(pt c (Memref.whole main_v5) pf0 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗
      (iprop(pt c (Memref.whole main_v5) pf0 ∗ pt c M3 f3 ∗ pt c M4 f4 ∗ pt c M5 f5 ∗ pt c M6 f6 ∗ pt c M7 f7 ∗ pt c M8 f8 ∗ pt c M9 f9 ∗ pt c M10 f10 ∗ pt c M11 f11 ∗
        owns (c : Thread nD τ) M12 fullShare (expertAdd e (M3.view.read (Elt F) f3) (M4.view.read (Elt F) f4) (M5.view.read (Elt F) f5) (M6.view.read (Elt F) f6)
          (M7.view.read (Elt F) f7) (M8.view.read (Elt F) f8) (M9.view.read (Elt F) f9) (M10.view.read (Elt F) f10) (M11.view.read (Elt F) f11) (M12.view.read (Elt F) f12))) -∗ Q ⟨⟩))
    ⊢ wp frame (wpE (defs₀ (F := F)) 𝒱₀ (c : Thread nD τ) none) Set.univ (etail (F := F) i M3 h3 M4 h4 M5 h5 M6 h6 M7 h7 M8 h8 M9 h9 M10 h10 M11 h11 M12 h12 v3) Q := by
  unfold etail
  rw [dif_pos hc2, k2_part1_eq_skeleton]
  unfold k2_part1_skel
  unfold smemLoad smemLoadElt
  iintro ⟨Ht, H3, H4, H5, H6, H7, H8, H9, H10, H11, H12, Hk⟩
  sl_exec!
  have hv8 : View.readAt (Elt F) (Memref.whole main_v5).view (Rect.unit (s := S64) (k2_off2 i) S1.size (k2_off2_inb i)).toLoadRect pf0 (Shape.Idx.first numel1_S1.ge) = BitVec.ofNat 32 e.val := by
    rw [← he]
    show pf0 _ = pf0 _
    congr 1
    exact off2_idx i
  generalize View.readAt (Elt F) (Memref.whole main_v5).view (Rect.unit (s := S64) (k2_off2 i) S1.size (k2_off2_inb i)).toLoadRect pf0 (Shape.Idx.first numel1_S1.ge) = v8 at hv8 ⊢
  subst hv8
  have hchk : k2_chk1 i v3 (BitVec.ofNat 32 e.val) := chk_of_lt i v3 e
  sl_exec!
  rw [wp_ret]; imodintro
  iapply Hk
  isplitl [Ht]; · iexact Ht
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  refine owns_of c M12 h12 _ _ ?_
  sl_unfold_words
  rw [View.read_writes_full M12.view]
  unfold expertAdd
  rw [View.readAt_full M3.view, View.readAt_full M4.view, View.readAt_full M6.view, View.readAt_full M8.view, View.readAt_full M12.view]
  simp only [View.readAt_eq_ld]
  have r5 := fun (X : Vec F S64x512 .f32) inb => ld_row (F := F) X e (k2_off3 (BitVec.ofNat 32 e.val)) (off3_eq e) inb
  have r9 := fun (X : Vec F S64x1024 .f32) inb => ld_row (F := F) X e (k2_off4 (BitVec.ofNat 32 e.val)) (off4_eq e) inb
  have r10 := fun (X : Vec F S2x64 .i32) inb => ld_row2 (F := F) (t := .i32) X 0 ![0, 0] rfl inb
  have r11 := fun (X : Vec F S2x64 .f32) inb => ld_row2 (F := F) (t := .f32) X 0 ![0, 0] rfl inb
  have r10' := fun (X : Vec F S2x64 .i32) inb => ld_row2 (F := F) (t := .i32) X 1 ![1, 0] rfl inb
  have r11' := fun (X : Vec F S2x64 .f32) inb => ld_row2 (F := F) (t := .f32) X 1 ![1, 0] rfl inb
  refine congrFun (congr (congr (congr (congr (congrArg _ ?_) ?_) (r11 _ _)) (r10' _ _)) (r11' _ _)) _
  · exact congr (congrFun (congr (congrFun (congrArg _ (r5 _ _)) _) (r5 _ _)) _) (r9 _ _)
  · exact congrArg _ (r10 _ _)

/-- What a point leaves in the accumulator it finds at `acc`: zeroed at the grid's first point, the expert's work added
    where the point is active (its index below the count `n`). -/
def stepAcc (n : Elt F .i32) (e : Fin 64) (x : Vec F S64x1024 .f32) (w1 : Vec F S1x1024x512 .f32) (b1 : Vec F S64x512 .f32) (w2 : Vec F S1x512x512 .f32)
    (b2 : Vec F S64x512 .f32) (w3 : Vec F S1x512x1024 .f32) (b3 : Vec F S64x1024 .f32) (ai : Vec F S2x64 .i32) (wv : Vec F S2x64 .f32)
    (acc : Vec F S64x1024 .f32) : Vec F S64x1024 .f32 :=
  let a0 := if k2_cond1 i = 1#1 then k2_pay1 (F := F) else acc
  if k2_cond2 i n = 1#1 then expertAdd e x w1 b1 w2 b2 w3 b3 ai wv a0 else a0

set_option maxHeartbeats 4000000 in
/-- The body at a point: it runs to its end, everything it reads as it was, the accumulator's buffer stepped. -/
theorem ebody_run (e : Fin 64) (he : pf0 (ix1 (i 0)) = BitVec.ofNat 32 e.val)
    (f3 : Buf (Elt F) (M3.view.loc (c : Thread nD τ))) (f4 : Buf (Elt F) (M4.view.loc (c : Thread nD τ))) (f5 : Buf (Elt F) (M5.view.loc (c : Thread nD τ)))
    (f6 : Buf (Elt F) (M6.view.loc (c : Thread nD τ))) (f7 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ))) (f11 : Buf (Elt F) (M11.view.loc (c : Thread nD τ)))
    (f12 : Buf (Elt F) (M12.view.loc (c : Thread nD τ))) (Q : PUnit → sProp 𝕄) :
    iprop(pt c (Memref.whole main_v5) pf0 ∗ pt c (Memref.whole main_v7) pf1 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗
      (iprop(pt c (Memref.whole main_v5) pf0 ∗ pt c (Memref.whole main_v7) pf1 ∗ pt c M3 f3 ∗ pt c M4 f4 ∗ pt c M5 f5 ∗ pt c M6 f6 ∗ pt c M7 f7 ∗ pt c M8 f8 ∗ pt c M9 f9 ∗ pt c M10 f10 ∗ pt c M11 f11 ∗
        owns (c : Thread nD τ) M12 fullShare (stepAcc (F := F) i (pf1 (ix1 0)) e (M3.view.read (Elt F) f3) (M4.view.read (Elt F) f4) (M5.view.read (Elt F) f5) (M6.view.read (Elt F) f6)
          (M7.view.read (Elt F) f7) (M8.view.read (Elt F) f8) (M9.view.read (Elt F) f9) (M10.view.read (Elt F) f10) (M11.view.read (Elt F) f11) (M12.view.read (Elt F) f12))) -∗ Q ⟨⟩))
    ⊢ wp frame (wpE (defs₀ (F := F)) 𝒱₀ (c : Thread nD τ) none) Set.univ (ebody (F := F) i M3 h3 M4 h4 M5 h5 M6 h6 M7 h7 M8 h8 M9 h9 M10 h10 M11 h11 M12 h12) Q := by
  have htab : View.readAt (Elt F) (Memref.whole main_v7).view (Rect.unit (s := S16) ![0] S1.size inb_S16_S1_0).toLoadRect pf1 (Shape.Idx.first numel1_S1.ge) = pf1 (ix1 0) := by
    show pf1 _ = pf1 _
    congr 1
    funext a
    match a with
    | 0 => rfl
  unfold ebody
  rw [cc2__expert_kernel_eq_skeleton]
  unfold cc2__expert_kernel_skel
  unfold smemLoad smemLoadElt
  iintro ⟨Ht, Hn, H3, H4, H5, H6, H7, H8, H9, H10, H11, H12, Hk⟩
  by_cases hc1 : k2_cond1 i = 1#1
  · rw [dif_pos hc1]
    sl_exec!
    rw [htab]
    by_cases hc2 : k2_cond2 i (pf1 (ix1 0)) = 1#1
    · ihave HF := (etail_active (F := F) c i pf0 M3 h3 M4 h4 M5 h5 M6 h6 M7 h7 M8 h8 M9 h9 M10 h10 M11 h11 M12 h12 (pf1 (ix1 0)) e hc2 he f3 f4 f5 f6 f7 f8 f9 f10 f11 _ Q) $$ [Ht H3 H4 H5 H6 H7 H8 H9 H10 H11 H12 Hn Hk]
      · isplitl [Ht]; · iexact Ht
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iintro ⟨Ht, H3, H4, H5, H6, H7, H8, H9, H10, H11, H12⟩
        iapply Hk
        isplitl [Ht]; · iexact Ht
        isplitl [Hn]; · iexact Hn
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold stepAcc
        simp only [hc1, hc2, if_true]
        sl_unfold_words
        rw [View.read_writes_full M12.view]
        iexact H12
      · iexact HF
    · rw [dif_neg hc2]
      sl_exec!
      rw [wp_ret]; imodintro
      iapply Hk
      isplitl [Ht]; · iexact Ht
      isplitl [Hn]; · iexact Hn
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      refine owns_of c M12 h12 _ _ ?_
      sl_unfold_words
      rw [View.read_writes_full M12.view]
      unfold stepAcc
      simp only [hc1, hc2, if_true, if_false]
  · rw [dif_neg hc1]
    sl_exec!
    rw [htab]
    by_cases hc2 : k2_cond2 i (pf1 (ix1 0)) = 1#1
    · ihave HF := (etail_active (F := F) c i pf0 M3 h3 M4 h4 M5 h5 M6 h6 M7 h7 M8 h8 M9 h9 M10 h10 M11 h11 M12 h12 (pf1 (ix1 0)) e hc2 he f3 f4 f5 f6 f7 f8 f9 f10 f11 f12 Q) $$ [Ht H3 H4 H5 H6 H7 H8 H9 H10 H11 H12 Hn Hk]
      · isplitl [Ht]; · iexact Ht
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iintro ⟨Ht, H3, H4, H5, H6, H7, H8, H9, H10, H11, H12⟩
        iapply Hk
        isplitl [Ht]; · iexact Ht
        isplitl [Hn]; · iexact Hn
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold stepAcc
        simp only [hc1, hc2, if_true, if_false]
        iexact H12
      · iexact HF
    · rw [dif_neg hc2]
      sl_exec!
      rw [wp_ret]; imodintro
      iapply Hk
      isplitl [Ht]; · iexact Ht
      isplitl [Hn]; · iexact Hn
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      refine owns_of c M12 h12 _ _ ?_
      unfold stepAcc
      simp only [hc1, hc2, if_false]

/-- The body at a point, on the windows' buffers by the values they hold. -/
theorem ebody_owns (e : Fin 64) (he : pf0 (ix1 (i 0)) = BitVec.ofNat 32 e.val) (X3 : Vec F S64x1024 .f32) (X4 : Vec F S1x1024x512 .f32) (X5 : Vec F S64x512 .f32) (X6 : Vec F S1x512x512 .f32) (X7 : Vec F S64x512 .f32) (X8 : Vec F S1x512x1024 .f32) (X9 : Vec F S64x1024 .f32) (X10 : Vec F S2x64 .i32) (X11 : Vec F S2x64 .f32) (X12 : Vec F S64x1024 .f32) (Q : PUnit → sProp 𝕄) :
    iprop(pt c (Memref.whole main_v5) pf0 ∗ pt c (Memref.whole main_v7) pf1 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗
      (iprop(pt c (Memref.whole main_v5) pf0 ∗ pt c (Memref.whole main_v7) pf1 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗
        owns (c : Thread nD τ) M12 fullShare (stepAcc (F := F) i (pf1 (ix1 0)) e X3 X4 X5 X6 X7 X8 X9 X10 X11 X12)) -∗ Q ⟨⟩))
    ⊢ wp frame (wpE (defs₀ (F := F)) 𝒱₀ (c : Thread nD τ) none) Set.univ (ebody (F := F) i M3 h3 M4 h4 M5 h5 M6 h6 M7 h7 M8 h8 M9 h9 M10 h10 M11 h11 M12 h12) Q := by
  iintro ⟨Ht, Hn, H3, H4, H5, H6, H7, H8, H9, H10, H11, H12, Hk⟩
  ihave G3 := (Entails.of_eq (owns_eq (F := F) c M3 h3 X3)) $$ H3
  icases G3 with ⟨%f3, %hf3, H3⟩
  subst hf3
  ihave G4 := (Entails.of_eq (owns_eq (F := F) c M4 h4 X4)) $$ H4
  icases G4 with ⟨%f4, %hf4, H4⟩
  subst hf4
  ihave G5 := (Entails.of_eq (owns_eq (F := F) c M5 h5 X5)) $$ H5
  icases G5 with ⟨%f5, %hf5, H5⟩
  subst hf5
  ihave G6 := (Entails.of_eq (owns_eq (F := F) c M6 h6 X6)) $$ H6
  icases G6 with ⟨%f6, %hf6, H6⟩
  subst hf6
  ihave G7 := (Entails.of_eq (owns_eq (F := F) c M7 h7 X7)) $$ H7
  icases G7 with ⟨%f7, %hf7, H7⟩
  subst hf7
  ihave G8 := (Entails.of_eq (owns_eq (F := F) c M8 h8 X8)) $$ H8
  icases G8 with ⟨%f8, %hf8, H8⟩
  subst hf8
  ihave G9 := (Entails.of_eq (owns_eq (F := F) c M9 h9 X9)) $$ H9
  icases G9 with ⟨%f9, %hf9, H9⟩
  subst hf9
  ihave G10 := (Entails.of_eq (owns_eq (F := F) c M10 h10 X10)) $$ H10
  icases G10 with ⟨%f10, %hf10, H10⟩
  subst hf10
  ihave G11 := (Entails.of_eq (owns_eq (F := F) c M11 h11 X11)) $$ H11
  icases G11 with ⟨%f11, %hf11, H11⟩
  subst hf11
  ihave G12 := (Entails.of_eq (owns_eq (F := F) c M12 h12 X12)) $$ H12
  icases G12 with ⟨%f12, %hf12, H12⟩
  subst hf12
  iapply (ebody_run (F := F) c i pf0 pf1 M3 h3 M4 h4 M5 h5 M6 h6 M7 h7 M8 h8 M9 h9 M10 h10 M11 h11 M12 h12 e he f3 f4 f5 f6 f7 f8 f9 f10 f11 f12 Q)
  isplitl [Ht]; · iexact Ht
  isplitl [Hn]; · iexact Hn
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨Ht, Hn, H3, H4, H5, H6, H7, H8, H9, H10, H11, H12⟩
  iapply Hk
  isplitl [Ht]; · iexact Ht
  isplitl [Hn]; · iexact Hn
  isplitl [H3]; · iapply (owns_of (F := F) c M3 h3 f3 _ rfl); iexact H3
  isplitl [H4]; · iapply (owns_of (F := F) c M4 h4 f4 _ rfl); iexact H4
  isplitl [H5]; · iapply (owns_of (F := F) c M5 h5 f5 _ rfl); iexact H5
  isplitl [H6]; · iapply (owns_of (F := F) c M6 h6 f6 _ rfl); iexact H6
  isplitl [H7]; · iapply (owns_of (F := F) c M7 h7 f7 _ rfl); iexact H7
  isplitl [H8]; · iapply (owns_of (F := F) c M8 h8 f8 _ rfl); iexact H8
  isplitl [H9]; · iapply (owns_of (F := F) c M9 h9 f9 _ rfl); iexact H9
  isplitl [H10]; · iapply (owns_of (F := F) c M10 h10 f10 _ rfl); iexact H10
  isplitl [H11]; · iapply (owns_of (F := F) c M11 h11 f11 _ rfl); iexact H11
  iexact H12

end Run

end Cert.Moe

end
-- ==== Proof.Region.lean ====
/- The state of a TensorCore around a pipelined call of a program that also calls the SparseCore: its unscoped buffers at a
   valuation, and what it owes. What a call's proof data says of the recorded waits, and how the two are traded. -/
module

public import proofs.«01_k».proof.Proof.Common
public import Idealize.ShloMosaic.Lib.Pipeline.RegionsLoop

@[expose] public section

noncomputable section

namespace Cert.Moe

open Cert.KernelIdeal hiding ix2
open Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-- The contents of a device's buffers that its TensorCore reaches. -/
abbrev Val1 (F : FTy → Type) [FloatOps F] : Type := (c : Dev nD) → (b : Ref sig .tc) → Buf (Elt F) ((c : Thread nD τ).loc b)

/-- The TensorCore's waits are recorded at or below level `b`. -/
def recd (F : FTy → Type) [FloatOps F] (c : Dev nD) (b : ℕ) : Set (SemLoc sig × HIx 1) := {p | (K (F := F)).lev ((c : Thread nD τ), p.1) p.2 ≤ b}

/-- The TensorCore owes `O`, its waits recorded at or below level `b`. -/
def tcOwes (c : Dev nD) (O : CellTallies nD τ sig (HIx 1)) (b : ℕ) : sProp 𝕄 :=
  iprop(∃ W, ⌜(K (F := F)).WBelow (c : Thread nD τ) W b⌝ ∗ owes (c : Thread nD τ) O W)

theorem tcOwes_within (c : Dev nD) (O : CellTallies nD τ sig (HIx 1)) (b : ℕ) (B : Set (SemLoc sig × HIx 1)) :
    (tcOwes (F := F) c O b : sProp 𝕄) ⊢ Pipeline.owesWithin c O (recd F c b ∪ B) := by
  unfold tcOwes Pipeline.owesWithin
  iintro ⟨%W, %hW, HO⟩
  iexists W
  isplitr; · ipureintro; exact fun p hp => Or.inl (hW p hp)
  iexact HO

theorem within_tcOwes (c : Dev nD) (O : CellTallies nD τ sig (HIx 1)) (b : ℕ) (B : Set (SemLoc sig × HIx 1)) (hB : ∀ p ∈ B, p.2 = none) :
    (Pipeline.owesWithin c O (recd F c b ∪ B) : sProp 𝕄) ⊢ tcOwes (F := F) c O b := by
  unfold tcOwes Pipeline.owesWithin
  iintro ⟨%W, %hW, HO⟩
  iexists W
  isplitr
  · ipureintro
    intro p hp
    rcases hW hp with h | h
    · exact h
    · rw [hB p h]; exact Nat.zero_le _
  iexact HO

/-- Proof data for the pipeline a call does not run: anything. -/
def junkDat [∀ e, Nonempty (Elt F e)] {cfg : Pipeline.Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

end Cert.Moe

end
-- ==== Proof.Experts.lean ====
/- The expert call (the pipelined kernel that prefetches the schedule and the count): its proof data, from any contents of
   the arrays and any admissible tables. The accumulator's buffer after each point is a fold of the points' steps. -/
module

public import proofs.«01_k».proof.Proof.ExpertBody
public import proofs.«01_k».proof.Proof.Region
public import Idealize.ShloMosaic.Lib.Pipeline.RegionsLoop
public import Idealize.ShloMosaic.Lib.Pipeline.Value

@[expose] public section

noncomputable section

namespace Cert.Moe

open Cert.KernelIdeal hiding ix2
open Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-- The schedule read as experts. -/
def SchedIs (A : (pcfg2 (F := F)).Adm) (E : Fin 64 → Fin 64) : Prop := ∀ g : Fin 64, A.1 0 (ix1 g) = BitVec.ofNat 32 (E g).val

section Data

variable (A : (pcfg2 (F := F)).Adm) (E : Fin 64 → Fin 64) (O : CellTallies nD τ sig (HIx 1)) (b : ℕ) (V : Val1 F)

/-- A window's block at a point, of the array's contents at entry. -/
def blkOf (c : Dev nD) (w : Fin 10) (t : Fin grid2.N) : ((cfg2 A).win w).block.Idx → Elt F ((cfg2 A).win w).elt :=
  (((cfg2 A).win w).blk t).view.read (Elt F) (V c (Pipeline.arrRef spec2 w))

/-- The step of point `t`: what it leaves in the accumulator it finds at `acc`. -/
def stepAt (c : Dev nD) (t : Fin grid2.N) (acc : Vec F S64x1024 .f32) : Vec F S64x1024 .f32 :=
  stepAcc (F := F) (grid2.coords t) (A.1 1 (ix1 0)) (E (grid2.coords t 0)) (blkOf A V c 0 t) (blkOf A V c 1 t) (blkOf A V c 2 t) (blkOf A V c 3 t) (blkOf A V c 4 t)
    (blkOf A V c 5 t) (blkOf A V c 6 t) (blkOf A V c 7 t) (blkOf A V c 8 t) acc

/-- The accumulator before point `n`: the steps of the points below `n`, in order. -/
def accAt (c : Dev nD) : ℕ → Vec F S64x1024 .f32
  | 0 => k2_pay1 (F := F)
  | n + 1 => if h : n < grid2.N then stepAt A E V c ⟨n, h⟩ (accAt c n) else accAt c n

/-- The proof data of the expert call: every input's buffer holds the point's block, the accumulator's the fold. -/
def dat2 (c : Dev nD) : Dat τ (Elt F) (HIx 1) ℕ UU ℕ (cfg2 A) c where
  A w := V c (Pipeline.arrRef spec2 w)
  after w t := match w with
    | ⟨0, _⟩ => blkOf A V c 0 t
    | ⟨1, _⟩ => blkOf A V c 1 t
    | ⟨2, _⟩ => blkOf A V c 2 t
    | ⟨3, _⟩ => blkOf A V c 3 t
    | ⟨4, _⟩ => blkOf A V c 4 t
    | ⟨5, _⟩ => blkOf A V c 5 t
    | ⟨6, _⟩ => blkOf A V c 6 t
    | ⟨7, _⟩ => blkOf A V c 7 t
    | ⟨8, _⟩ => blkOf A V c 8 t
    | ⟨9, _⟩ => accAt A E V c (t.val + 1)
  Φ _ := iprop(Pipeline.prefHeld (Ix := HIx 1) (Name := ℕ) (U := UU) (Lvl := ℕ) pre2 c (fun _ => fullShare) A.1
    ∗ Pipeline.scopedRest (Ix := HIx 1) (Name := ℕ) (U := UU) (Lvl := ℕ) (Val := Elt F) spec2 c)
  q _ := fullShare
  owed _ := O
  recorded _ := recd F c b

theorem before_in0 (c : Dev nD) (t : Fin (cfg2 A).N) (d) : (dat2 A E O b V c).before 0 t d = blkOf A V c 0 t :=
  (dat2 A E O b V c).before_in_eq_fetched 0 rfl (fun _ => rfl) (fun _ _ _ => rfl) (fun _ => rfl) t d
theorem before_in1 (c : Dev nD) (t : Fin (cfg2 A).N) (d) : (dat2 A E O b V c).before 1 t d = blkOf A V c 1 t :=
  (dat2 A E O b V c).before_in_eq_fetched 1 rfl (fun _ => rfl) (fun _ _ _ => rfl) (fun _ => rfl) t d
theorem before_in2 (c : Dev nD) (t : Fin (cfg2 A).N) (d) : (dat2 A E O b V c).before 2 t d = blkOf A V c 2 t :=
  (dat2 A E O b V c).before_in_eq_fetched 2 rfl (fun _ => rfl) (fun _ _ _ => rfl) (fun _ => rfl) t d
theorem before_in3 (c : Dev nD) (t : Fin (cfg2 A).N) (d) : (dat2 A E O b V c).before 3 t d = blkOf A V c 3 t :=
  (dat2 A E O b V c).before_in_eq_fetched 3 rfl (fun _ => rfl) (fun _ _ _ => rfl) (fun _ => rfl) t d
theorem before_in4 (c : Dev nD) (t : Fin (cfg2 A).N) (d) : (dat2 A E O b V c).before 4 t d = blkOf A V c 4 t :=
  (dat2 A E O b V c).before_in_eq_fetched 4 rfl (fun _ => rfl) (fun _ _ _ => rfl) (fun _ => rfl) t d
theorem before_in5 (c : Dev nD) (t : Fin (cfg2 A).N) (d) : (dat2 A E O b V c).before 5 t d = blkOf A V c 5 t :=
  (dat2 A E O b V c).before_in_eq_fetched 5 rfl (fun _ => rfl) (fun _ _ _ => rfl) (fun _ => rfl) t d
theorem before_in6 (c : Dev nD) (t : Fin (cfg2 A).N) (d) : (dat2 A E O b V c).before 6 t d = blkOf A V c 6 t :=
  (dat2 A E O b V c).before_in_eq_fetched 6 rfl (fun _ => rfl) (fun _ _ _ => rfl) (fun _ => rfl) t d
theorem before_in7 (c : Dev nD) (t : Fin (cfg2 A).N) (d) : (dat2 A E O b V c).before 7 t d = blkOf A V c 7 t :=
  (dat2 A E O b V c).before_in_eq_fetched 7 rfl (fun _ => rfl) (fun _ _ _ => rfl) (fun _ => rfl) t d
theorem before_in8 (c : Dev nD) (t : Fin (cfg2 A).N) (d) : (dat2 A E O b V c).before 8 t d = blkOf A V c 8 t :=
  (dat2 A E O b V c).before_in_eq_fetched 8 rfl (fun _ => rfl) (fun _ _ _ => rfl) (fun _ => rfl) t d

/-- The accumulator's window is fetched nowhere, -/
theorem fetch9 (t : Fin (cfg2 A).N) : ((cfg2 A).win 9).fetch t = false := rfl
/-- and written back at the last point only. -/
theorem flush9 (t : Fin (cfg2 A).N) (h : t.val + 1 < 64) : ((cfg2 A).win 9).flush t = false := by
  have e := Pipeline.Window.flush_const ((cfg2 A).win 9) rfl (fun _ _ => rfl) (n := 64) (m := 63) N_2 rfl t
  cases hf : ((cfg2 A).win 9).flush t
  · rfl
  · have := e.mp hf; omega
theorem flush9_last (t : Fin (cfg2 A).N) (h : t.val = 63) : ((cfg2 A).win 9).flush t = true :=
  (Pipeline.Window.flush_const ((cfg2 A).win 9) rfl (fun _ _ => rfl) (n := 64) (m := 63) N_2 rfl t).mpr (by omega)

theorem accAt_succ (c : Dev nD) (t : Fin grid2.N) : accAt A E V c (t.val + 1) = stepAt A E V c t (accAt A E V c t.val) := by
  show (if h : t.val < grid2.N then stepAt A E V c ⟨t.val, h⟩ (accAt A E V c t.val) else accAt A E V c t.val) = _
  rw [dif_pos t.isLt]

/-- A point idle for the accumulator leaves it. -/
theorem stepAt_idle (c : Dev nD) (t : Fin grid2.N) (acc : Vec F S64x1024 .f32) (h : (cfg2 A).idle 9 (grid2.coords t) = true) :
    stepAt A E V c t acc = acc := by
  have h' : (!(k2_cond1 (grid2.coords t) == 1#1) && !(k2_cond2 (grid2.coords t) (A.1.atD 1 ![0]) == 1#1)) = true := h
  have ha : A.1.atD 1 ![0] = A.1 1 (ix1 0) := by
    refine (dif_pos (show ∀ a : Fin 1, ![0] a + 1 ≤ (![16] : Fin 1 → ℕ) a by decide)).trans ?_
    exact congrArg (A.1 1) ((eq_ix1 (n0 := 16) _).trans rfl)
  rw [ha] at h'
  simp only [Bool.and_eq_true, Bool.not_eq_true', beq_eq_false_iff_ne, ne_eq] at h'
  unfold stepAt stepAcc
  simp only [h'.1, h'.2, if_false]

/-- The grid's first point. -/
def tz : Fin grid2.N := ⟨0, by rw [N_2]; decide⟩

/-- The grid's first point is not idle, whatever the tables hold: it resets the accumulator, -/
theorem not_idle_zero (t : Fin grid2.N) (h : t.val = 0) : (cfg2 A).idle 9 (grid2.coords t) = false := by
  obtain rfl : t = tz := Fin.ext h
  show (!(k2_cond1 (grid2.coords tz) == 1#1) && !(k2_cond2 (grid2.coords tz) (A.1.atD 1 ![0]) == 1#1)) = false
  rw [show (k2_cond1 (grid2.coords tz) == 1#1) = true by decide]
  rfl
theorem stepAt_zero (c : Dev nD) (t : Fin grid2.N) (h : t.val = 0) (acc acc' : Vec F S64x1024 .f32) : stepAt A E V c t acc = stepAt A E V c t acc' := by
  obtain rfl : t = tz := Fin.ext h
  unfold stepAt stepAcc
  simp only [show k2_cond1 (grid2.coords tz) = 1#1 by decide, if_true]

/-- What the accumulator's buffer holds when the body runs at a point after the first: the fold so far. -/
theorem before9 (c : Dev nD) (d) : ∀ (n : ℕ) (t : Fin (cfg2 A).N), t.val = n + 1 → (dat2 A E O b V c).before 9 t d = accAt A E V c t.val := by
  intro n
  induction n with
  | zero =>
    intro t ht
    have hN : t.val < 64 := by have := t.isLt; have h2 : (cfg2 A).N = 64 := N_2; omega
    rw [(dat2 A E O b V c).before_of_pos 9 t (by omega) (fetch9 A t) d, flush9 A _ (by simp only; omega), if_neg Bool.false_ne_true]
    unfold Dat.left
    rw [not_idle_zero A _ (by simp only; omega)]
    show accAt A E V c (t.val - 1 + 1) = _
    rw [show t.val - 1 + 1 = t.val by omega]
  | succ n ih =>
    intro t ht
    have hN : t.val < 64 := by have := t.isLt; have h2 : (cfg2 A).N = 64 := N_2; omega
    rw [(dat2 A E O b V c).before_of_pos 9 t (by omega) (fetch9 A t) d, flush9 A _ (by simp only; omega), if_neg Bool.false_ne_true]
    unfold Dat.left
    have hprev := ih ⟨t.val - 1, Nat.lt_of_le_of_lt (Nat.sub_le _ _) t.isLt⟩ (by simp only; omega)
    cases hi : (cfg2 A).idle 9 ((cfg2 A).grid.coords ⟨t.val - 1, Nat.lt_of_le_of_lt (Nat.sub_le _ _) t.isLt⟩) with
    | true =>
      show (dat2 A E O b V c).before 9 ⟨t.val - 1, _⟩ d = _
      rw [hprev]
      have hs := accAt_succ A E V c ⟨t.val - 1, Nat.lt_of_le_of_lt (Nat.sub_le _ _) t.isLt⟩
      rw [stepAt_idle A E V c _ _ hi] at hs
      simp only at hs ⊢
      rw [← hs, show t.val - 1 + 1 = t.val by omega]
    | false =>
      show accAt A E V c (t.val - 1 + 1) = _
      rw [show t.val - 1 + 1 = t.val by omega]

/-- Whatever the buffer holds when the body runs, the step leaves the fold. -/
theorem step_before (c : Dev nD) (t : Fin (cfg2 A).N) (d) : stepAt A E V c t ((dat2 A E O b V c).before 9 t d) = accAt A E V c (t.val + 1) := by
  rw [accAt_succ A E V c t]
  by_cases h : t.val = 0
  · exact stepAt_zero A E V c t h _ _
  · rw [before9 A E O b V c d (t.val - 1) t (by omega)]

/-- The two tables held, spelt out. -/
theorem prefHeld_two (c : Dev nD) (pf : pre2.Contents (Elt F)) :
    (Pipeline.prefHeld (Ix := HIx 1) (Name := ℕ) (U := UU) (Lvl := ℕ) pre2 c (fun _ => fullShare) pf : sProp 𝕄)
      = iprop(pt c (Memref.whole main_v5) (pf 0) ∗ pt c (Memref.whole main_v7) (pf 1)) := by
  unfold Pipeline.prefHeld
  rw [show (Finset.univ : Finset (Fin pre2.K)) = insert 0 {1} from by decide, bigSep_insert (by decide), bigSep_singleton]
  rfl

theorem idx_coords (i : grid2.Coords) (hE : SchedIs A E) : A.1 0 (ix1 (i 0)) = BitVec.ofNat 32 (E (i 0)).val := hE (i 0)

set_option maxHeartbeats 1600000 in
/-- The library's obligation of the body: at every point, from the buffers as the pipeline fills them, the run leaves each
    input's as it was and the accumulator's at the fold. -/
theorem body2 (c : Dev nD) (hE : SchedIs A E) : BodyObligation (dat2 A E O b V c) (defs₀ (F := F)) 𝒱₀ (none : HIx 1) Set.univ := fun t => by
  rw [bigSep_W2, bigSep_W2]
  dsimp only
  rw [show (dat2 A E O b V c).Φ t.castSucc = iprop(Pipeline.prefHeld (Ix := HIx 1) (Name := ℕ) (U := UU) (Lvl := ℕ) pre2 c (fun _ => fullShare) A.1
      ∗ Pipeline.scopedRest (Ix := HIx 1) (Name := ℕ) (U := UU) (Lvl := ℕ) (Val := Elt F) spec2 c) from rfl,
    show (dat2 A E O b V c).Φ t.succ = iprop(Pipeline.prefHeld (Ix := HIx 1) (Name := ℕ) (U := UU) (Lvl := ℕ) pre2 c (fun _ => fullShare) A.1
      ∗ Pipeline.scopedRest (Ix := HIx 1) (Name := ℕ) (U := UU) (Lvl := ℕ) (Val := Elt F) spec2 c) from rfl,
    show (dat2 A E O b V c).owesAt (none : HIx 1) t.succ = (dat2 A E O b V c).owesAt (none : HIx 1) t.castSucc from rfl, prefHeld_two]
  iintro ⟨⟨⟨Ht, Hn⟩, HΦ⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (ebody_owns (F := F) c (grid2.coords t) (A.1 0) (A.1 1) (spec2_0.stage ((cfg2 A).slots t 0)) (hstage2_0 (((cfg2 A).slots t 0).cast nbuf2_0)) (spec2_1.stage ((cfg2 A).slots t 1)) (hstage2_1 (((cfg2 A).slots t 1).cast nbuf2_1)) (spec2_2.stage ((cfg2 A).slots t 2)) (hstage2_2 (((cfg2 A).slots t 2).cast nbuf2_2)) (spec2_3.stage ((cfg2 A).slots t 3)) (hstage2_3 (((cfg2 A).slots t 3).cast nbuf2_3)) (spec2_4.stage ((cfg2 A).slots t 4)) (hstage2_4 (((cfg2 A).slots t 4).cast nbuf2_4)) (spec2_5.stage ((cfg2 A).slots t 5)) (hstage2_5 (((cfg2 A).slots t 5).cast nbuf2_5)) (spec2_6.stage ((cfg2 A).slots t 6)) (hstage2_6 (((cfg2 A).slots t 6).cast nbuf2_6)) (spec2_7.stage ((cfg2 A).slots t 7)) (hstage2_7 (((cfg2 A).slots t 7).cast nbuf2_7)) (spec2_8.stage ((cfg2 A).slots t 8)) (hstage2_8 (((cfg2 A).slots t 8).cast nbuf2_8)) (spec2_9.stage ((cfg2 A).slots t 9)) (hstage2_9 (((cfg2 A).slots t 9).cast nbuf2_9))
    (E (grid2.coords t 0)) (hE _) (blkOf A V c 0 t) (blkOf A V c 1 t) (blkOf A V c 2 t) (blkOf A V c 3 t) (blkOf A V c 4 t) (blkOf A V c 5 t) (blkOf A V c 6 t)
    (blkOf A V c 7 t) (blkOf A V c 8 t) ((dat2 A E O b V c).before 9 t d9))
  isplitl [Ht]; · iexact Ht
  isplitl [Hn]; · iexact Hn
  isplitl [H0]
  · iapply (Entails.of_eq (congrArg (owns (c : Thread nD τ) (spec2_0.stage ((cfg2 A).slots t 0)) fullShare) (before_in0 A E O b V c t d0)))
    iexact H0
  isplitl [H1]
  · iapply (Entails.of_eq (congrArg (owns (c : Thread nD τ) (spec2_1.stage ((cfg2 A).slots t 1)) fullShare) (before_in1 A E O b V c t d1)))
    iexact H1
  isplitl [H2]
  · iapply (Entails.of_eq (congrArg (owns (c : Thread nD τ) (spec2_2.stage ((cfg2 A).slots t 2)) fullShare) (before_in2 A E O b V c t d2)))
    iexact H2
  isplitl [H3]
  · iapply (Entails.of_eq (congrArg (owns (c : Thread nD τ) (spec2_3.stage ((cfg2 A).slots t 3)) fullShare) (before_in3 A E O b V c t d3)))
    iexact H3
  isplitl [H4]
  · iapply (Entails.of_eq (congrArg (owns (c : Thread nD τ) (spec2_4.stage ((cfg2 A).slots t 4)) fullShare) (before_in4 A E O b V c t d4)))
    iexact H4
  isplitl [H5]
  · iapply (Entails.of_eq (congrArg (owns (c : Thread nD τ) (spec2_5.stage ((cfg2 A).slots t 5)) fullShare) (before_in5 A E O b V c t d5)))
    iexact H5
  isplitl [H6]
  · iapply (Entails.of_eq (congrArg (owns (c : Thread nD τ) (spec2_6.stage ((cfg2 A).slots t 6)) fullShare) (before_in6 A E O b V c t d6)))
    iexact H6
  isplitl [H7]
  · iapply (Entails.of_eq (congrArg (owns (c : Thread nD τ) (spec2_7.stage ((cfg2 A).slots t 7)) fullShare) (before_in7 A E O b V c t d7)))
    iexact H7
  isplitl [H8]
  · iapply (Entails.of_eq (congrArg (owns (c : Thread nD τ) (spec2_8.stage ((cfg2 A).slots t 8)) fullShare) (before_in8 A E O b V c t d8)))
    iexact H8
  isplitl [H9]; · iexact H9
  iintro ⟨Ht, Hn, H0, H1, H2, H3, H4, H5, H6, H7, H8, H9⟩
  isplitl [Ht Hn HΦ]
  · isplitl [Ht Hn]
    · isplitl [Ht]; · iexact Ht
      iexact Hn
    iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  have hst : stepAcc (F := F) (grid2.coords t) (A.1 1 (ix1 0)) (E (grid2.coords t 0)) (blkOf A V c 0 t) (blkOf A V c 1 t) (blkOf A V c 2 t) (blkOf A V c 3 t) (blkOf A V c 4 t)
      (blkOf A V c 5 t) (blkOf A V c 6 t) (blkOf A V c 7 t) (blkOf A V c 8 t) ((dat2 A E O b V c).before 9 t d9) = accAt A E V c (t.val + 1) := step_before A E O b V c t d9
  cases hi : idle2 A.1 9 ((pcfg2.gridAt A.1).coords t) with
  | false =>
    rw [hst]
    iexact H9
  | true =>
    dsimp only
    split
    · rw [show stepAcc (F := F) (grid2.coords t) (A.1 1 (ix1 0)) (E (grid2.coords t 0)) (blkOf A V c 0 t) (blkOf A V c 1 t) (blkOf A V c 2 t) (blkOf A V c 3 t) (blkOf A V c 4 t)
        (blkOf A V c 5 t) (blkOf A V c 6 t) (blkOf A V c 7 t) (blkOf A V c 8 t) ((dat2 A E O b V c).before 9 t d9) = (dat2 A E O b V c).before 9 t d9 from stepAt_idle A E V c t _ hi]
      iexists d9
      iexact H9
    · rw [hst]
      iexact H9

/-- The accumulator's block at the last point, read off an array, is the array. -/
theorem blk9_read (t : Fin (cfg2 A).N) (G : Vec F S64x1024 .f32) : (((cfg2 A).win 9).blk t).view.read (Elt F) G = G := by
  have hz : (fun a => (win2 A 9).index t a * main_v8.ty.shape.size a) = fun _ => 0 := funext fun a => by fin_cases a <;> rfl
  exact Memref.read_access_unit_zero (Elt F) main_v8 hz (fun a => by rw [congrFun hz a]; simp) G

/-- The accumulator's block is the whole array. -/
theorem cover9 (t : Fin (cfg2 A).N) (i : main_v8.ty.Idx) : i ∈ ((View.whole main_v8).slice ((win2 A 9).rect t)).set := by
  rw [View.set_slice_whole, Rect.mem_set_unit]
  intro a
  have h0 : (i 0 : Nat) < 64 := (i 0).isLt
  have h1 : (i 1 : Nat) < 1024 := (i 1).isLt
  match a with
  | ⟨0, _⟩ => show 0 ≤ (i 0 : Nat) ∧ (i 0 : Nat) < 0 + 64; omega
  | ⟨1, _⟩ => show 0 ≤ (i 1 : Nat) ∧ (i 1 : Nat) < 0 + 1024; omega

/-- The result's array after the call is the fold of every point. -/
theorem final2 (c : Dev nD) : (dat2 A E O b V c).arrAt 9 (cfg2 A).N = accAt A E V c 64 :=
  (dat2 A E O b V c).arrAt_eq_of_cover 9 (accAt A E V c 64) (fun t hf => by
      have h3 : t.val + 1 = 64 := by
        by_contra hne
        have hN : t.val < 64 := lt_of_lt_of_eq t.isLt N_2
        rw [flush9 A t (by omega)] at hf
        exact Bool.false_ne_true hf
      rw [blk9_read]
      show accAt A E V c (t.val + 1) = _
      rw [h3])
    fun i => ⟨⟨63, by rw [show (cfg2 A).N = 64 from N_2]; decide⟩, flush9_last A _ rfl, cover9 A _ i⟩

variable [∀ e, Nonempty (Elt F e)] (adm : (p : Fin 2) → (pcfgs (F := F) p).Adm)

/-- The call's family of proof data: its own at its pipeline. -/
def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 (adm 1) E O b V c

variable (Vp : Val1 F)

set_option backward.isDefEq.respectTransparency.types false in
/-- The expert call as a region of @main: the unscoped buffers at `V` before, at `Vp` after, what the TensorCore owes passed by. -/
def reg2 (hO : ∀ g, O g none = 0) (hE : SchedIs (adm 1) E) (hpf : ∀ c k, V c (pre2.ref k) = (adm 1).1 k)
    (hVp_out : ∀ c, Vp c main_v8 = accAt (adm 1) E V c 64) (hVp_ne : ∀ c (r : Ref sig .tc), r ≠ main_v8 → Vp c r = V c r) :
    Pipeline.RegionSeg (pcfgs (F := F)) adm (pdats2 E O b V adm) (none : HIx 1) defs₀ 𝒱₀ (K (F := F)).L (K (F := F)).lev 1 where
  win := (launch2 (F := F)).win.to₀
  block_pos := (launch2 (F := F)).block_pos
  stage_whole := (launch2 (F := F)).stage_whole
  K := PEmpty
  osem k := k.elim
  ho := Pipeline.OwnSemFacts.none _
  hbody c := (body2 (adm 1) E O b V c hE).loose
  hwaits c := Pipeline.cellsWaits_intro (Pipeline.pin (pcfgs (F := F)) adm) (pdats2 E O b V adm) (none : HIx 1) 1 c
    fun w s t => (K (F := F)).mayWait_none _ hO
  pre c := iprop(unscopedBufs c (V c) ∗ tcOwes (F := F) c O b)
  post c := iprop(unscopedBufs c (Vp c) ∗ tcOwes (F := F) c O b)
  X _ := BI.emp
  Y c := Pipeline.prefHeld (Ix := HIx 1) (Name := ℕ) (U := UU) (Lvl := ℕ) pre2 c (fun _ => fullShare) (adm 1).1
  Z c := iprop(Pipeline.unscopedRestP (Ix := HIx 1) (Name := ℕ) (U := UU) (Lvl := ℕ) pre2 spec2 c (V c))
  hentry c := by
    rw [Pipeline.ownSems0_none]
    have hsplit := Pipeline.arrays_of_unscopedBufs (p := 1) (pcfgs (F := F)) adm (pdats2 E O b V adm) (launch2 (F := F)).win (launch2 (F := F)).arr_whole c
      ((pdats2 E O b V adm 1 c).share_full fun _ => rfl) (V c) fun _ => rfl
    have hur := Pipeline.unscopedRest_split (Ix := HIx 1) (Name := ℕ) (U := UU) (Lvl := ℕ) preFacts2 c (V c)
    rw [show (fun k => V c (pre2.ref k)) = (adm 1).1 from funext (hpf c)] at hur
    iintro ⟨⟨Hub, HO⟩, -, -⟩
    ihave H := hsplit $$ Hub
    icases H with ⟨Ha, Hrest⟩
    ihave Hr := (Entails.of_eq hur) $$ Hrest
    icases Hr with ⟨Hp, Hr⟩
    imodintro
    isplitl [Ha]; · iexact Ha
    isplitl [Hp]; · iexact Hp
    isplitl [HO]
    · iapply (tcOwes_within (F := F) c O b _); iexact HO
    isplitr; · iempintro
    iexact Hr
  hin c := by
    rw [show (pdats2 E O b V adm 1 c).Φ 0 = iprop(Pipeline.prefHeld (Ix := HIx 1) (Name := ℕ) (U := UU) (Lvl := ℕ) pre2 c (fun _ => fullShare) (adm 1).1
      ∗ Pipeline.scopedRest (Ix := HIx 1) (Name := ℕ) (U := UU) (Lvl := ℕ) (Val := Elt F) spec2 c) from rfl]
    iintro ⟨-, Hp, Hr⟩
    isplitl [Hp]; · iexact Hp
    iexact Hr
  hout c := by
    rw [Pipeline.ownSems0_none, show (pdats2 E O b V adm 1 c).Φ (Fin.last _) = iprop(Pipeline.prefHeld (Ix := HIx 1) (Name := ℕ) (U := UU) (Lvl := ℕ) pre2 c (fun _ => fullShare) (adm 1).1
      ∗ Pipeline.scopedRest (Ix := HIx 1) (Name := ℕ) (U := UU) (Lvl := ℕ) (Val := Elt F) spec2 c) from rfl]
    iintro ⟨Hp, Hr⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ) (launch2 (F := F)).win (launch2 (F := F)).arr_whole c
      (pdats2 E O b V adm) ((pdats2 E O b V adm 1 c).share_full fun _ => rfl) (V c) (Vp c) ((pdats2 E O b V adm 1 c).arrAt · (cfg2 (adm 1)).N)
      (fun w => by
        fin_cases w
        · exact ((pdats2 E O b V adm 1 c).arrAt_in 0 rfl _).trans (hVp_ne c main_v0 (by decide)).symm
        · exact ((pdats2 E O b V adm 1 c).arrAt_in 1 rfl _).trans (hVp_ne c main_arg3 (by decide)).symm
        · exact ((pdats2 E O b V adm 1 c).arrAt_in 2 rfl _).trans (hVp_ne c main_arg4 (by decide)).symm
        · exact ((pdats2 E O b V adm 1 c).arrAt_in 3 rfl _).trans (hVp_ne c main_arg5 (by decide)).symm
        · exact ((pdats2 E O b V adm 1 c).arrAt_in 4 rfl _).trans (hVp_ne c main_arg6 (by decide)).symm
        · exact ((pdats2 E O b V adm 1 c).arrAt_in 5 rfl _).trans (hVp_ne c main_arg7 (by decide)).symm
        · exact ((pdats2 E O b V adm 1 c).arrAt_in 6 rfl _).trans (hVp_ne c main_arg8 (by decide)).symm
        · exact ((pdats2 E O b V adm 1 c).arrAt_in 7 rfl _).trans (hVp_ne c main_v3_0 (by decide)).symm
        · exact ((pdats2 E O b V adm 1 c).arrAt_in 8 rfl _).trans (hVp_ne c main_v3_1 (by decide)).symm
        · exact (final2 (adm 1) E O b V c).trans (hVp_out c).symm)
      (fun r hr => hVp_ne c r fun h => hr (h ▸ Finset.mem_image.mpr ⟨9, Finset.mem_univ _, rfl⟩))
    have hur := Pipeline.unscopedRest_split (Ix := HIx 1) (Name := ℕ) (U := UU) (Lvl := ℕ) preFacts2 c (V c)
    rw [show (fun k => V c (pre2.ref k)) = (adm 1).1 from funext (hpf c)] at hur
    iintro ⟨Ha, HO, Hp, Hr⟩
    imodintro
    isplitl [Ha Hp Hr]
    · iapply hjoin
      isplitl [Ha]; · iexact Ha
      iapply (Entails.of_eq hur.symm)
      isplitl [Hp]; · iexact Hp
      iexact Hr
    iapply (within_tcOwes (F := F) c O b ((Pipeline.pin (pcfgs (F := F)) adm 1).waitPairs none) (fun p hp => by obtain ⟨w, s, rfl⟩ := hp; rfl)); iexact HO

end Data

end Cert.Moe

end
-- ==== Proof.Logits.lean ====
/- The logits call (a gridless pipelined kernel): its body run, its proof data, and the region it is of @main's run. -/
module

public import proofs.«01_k».proof.Proof.Region
public import Idealize.ShloMosaic.Lib.Pipeline.Value

@[expose] public section

noncomputable section

namespace Cert.Moe

open Cert.KernelIdeal hiding ix2
open Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]

local notation "𝕄" => MT nD τ sig (HIx 1) (Elt F) ℕ UU ℕ

/-- A memref's buffer held whole. -/
abbrev ptL (c : Dev nD) {sp : Space} {S : Shape} {e : EltTy} (M : Memref sig .tc sp S e) (f : Buf (Elt F) (M.view.loc (c : Thread nD τ))) : sProp 𝕄 :=
  M.view.loc (c : Thread nD τ) ↦{fullShare} f

/-- The body runs to its end, its operands as they were, the result's buffer at some contents that read as the logits. -/
theorem lbody_run (c : Dev nD) (M0 : Memref sig .tc .vmem S64x1024 .f32) (h0 : M0.IsWhole) (M1 : Memref sig .tc .vmem S1024x64 .f32) (h1 : M1.IsWhole)
    (M2 : Memref sig .tc .vmem S64x1 .f32) (h2 : M2.IsWhole) (M3 : Memref sig .tc .vmem S64x64 .f32) (h3 : M3.IsWhole)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (Q : PUnit → sProp 𝕄) :
    iprop(ptL c M0 f0 ∗ ptL c M1 f1 ∗ ptL c M2 f2 ∗ ptL c M3 f3 ∗
      (iprop(ptL c M0 f0 ∗ ptL c M1 f1 ∗ ptL c M2 f2 ∗ (∃ f, ⌜M3.view.read (Elt F) f = k0_pay1 (F := F) (M1.view.read (Elt F) f1) (M0.view.read (Elt F) f0) (M2.view.read (Elt F) f2)⌝ ∗ ptL c M3 f)) -∗ Q ⟨⟩))
    ⊢ wp frame (wpE (defs₀ (F := F)) 𝒱₀ (c : Thread nD τ) none) Set.univ (cc0__logits_kernel (F := F) M0 h0 M1 h1 M2 h2 M3 h3) Q := by
  rw [cc0__logits_kernel_eq_skeleton]
  unfold cc0__logits_kernel_skel
  iintro ⟨H0, H1, H2, H3, Hk⟩
  sl_exec!
  sl_step
  iapply Hk
  isplitl [H0]; · iexact H0
  isplitl [H1]; · iexact H1
  isplitl [H2]; · iexact H2
  iexists _
  isplitr; swap; · iexact H3
  ipureintro
  sl_unfold_words
  rw [View.read_writes_full M3.view, View.readAt_full M0.view, View.readAt_full M1.view, View.readAt_full M2.view]

section Data

variable (O : CellTallies nD τ sig (HIx 1)) (b : ℕ) (V : Val1 F)

/-- The logits, expert by token, of the contents at entry. -/
def logitsOf (c : Dev nD) : Vec F S64x64 .f32 := k0_pay1 (F := F) (V c main_arg1) (V c main_v0) (V c main_v1)

/-- The proof data of the logits call. -/
def dat0 (c : Dev nD) : Dat τ (Elt F) (HIx 1) ℕ UU ℕ cfg0 c where
  A w := V c (Pipeline.arrRef spec0 w)
  after w _ := match w with
    | ⟨0, _⟩ => V c main_v0
    | ⟨1, _⟩ => V c main_arg1
    | ⟨2, _⟩ => V c main_v1
    | ⟨3, _⟩ => logitsOf V c
  Φ _ := Pipeline.scopedRest (Ix := HIx 1) (Name := ℕ) (U := UU) (Lvl := ℕ) (Val := Elt F) spec0 c
  q _ := fullShare
  owed _ := O
  recorded _ := recd F c b

theorem lbefore0 (c : Dev nD) (d) : (dat0 O b V c).before 0 t0_0 d = V c main_v0 := by
  unfold Dat.before; rw [if_pos (by decide)]
  have hz : (fun a => win0_0.index t0_0 a * main_v0.ty.shape.size a) = fun _ => 0 := funext fun a => by fin_cases a <;> decide
  exact Memref.read_access_unit_zero (Elt F) main_v0 hz (fun a => by rw [congrFun hz a]; simp) (V c main_v0)
theorem lbefore1 (c : Dev nD) (d) : (dat0 O b V c).before 1 t0_0 d = V c main_arg1 := by
  unfold Dat.before; rw [if_pos (by decide)]
  have hz : (fun a => win0_1.index t0_0 a * main_arg1.ty.shape.size a) = fun _ => 0 := funext fun a => by fin_cases a <;> decide
  exact Memref.read_access_unit_zero (Elt F) main_arg1 hz (fun a => by rw [congrFun hz a]; simp) (V c main_arg1)
theorem lbefore2 (c : Dev nD) (d) : (dat0 O b V c).before 2 t0_0 d = V c main_v1 := by
  unfold Dat.before; rw [if_pos (by decide)]
  have hz : (fun a => win0_2.index t0_0 a * main_v1.ty.shape.size a) = fun _ => 0 := funext fun a => by fin_cases a <;> decide
  exact Memref.read_access_unit_zero (Elt F) main_v1 hz (fun a => by rw [congrFun hz a]; simp) (V c main_v1)

/-- The library's obligation of the body. -/
theorem body0 (c : Dev nD) : BodyObligation (dat0 O b V c) (defs₀ (F := F)) 𝒱₀ (none : HIx 1) Set.univ := fun t => by
  obtain rfl := fin_N0 t
  rw [bigSep_W0, bigSep_W0]
  simp only [owns_whole_eq]
  rw [show (dat0 O b V c).Φ t0_0.succ = (dat0 O b V c).Φ t0_0.castSucc from rfl, show (dat0 O b V c).owesAt (none : HIx 1) t0_0.succ = (dat0 O b V c).owesAt (none : HIx 1) t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [lbefore0] at hf0
  rw [lbefore1] at hf1
  rw [lbefore2] at hf2
  iapply (lbody_run (F := F) c (win0_0.stage (cfg0.slots t0_0 0)) (hstage0_0 0) (win0_1.stage (cfg0.slots t0_0 1)) (hstage0_1 0) (win0_2.stage (cfg0.slots t0_0 2)) (hstage0_2 0)
    (win0_3.stage (cfg0.slots t0_0 3)) (hstage0_3 0) f0 f1 f2 f3)
  isplitl [H0]; · iexact H0
  isplitl [H1]; · iexact H1
  isplitl [H2]; · iexact H2
  isplitl [H3]; · iexact H3
  iintro ⟨H0, H1, H2, ⟨%g3, %hg3, H3⟩⟩
  isplitl [HΦ]; · iexact HΦ
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists g3; isplitr; swap; (· iexact H3); ipureintro
  rw [hf0, hf1, hf2] at hg3
  exact hg3

/-- The result's array after the call is the logits. -/
theorem final0 (c : Dev nD) : (dat0 O b V c).arrAt 3 cfg0.N = logitsOf V c :=
  (dat0 O b V c).arrAt_eq_of_cover 3 (logitsOf V c) (fun t _ => by
      obtain rfl := fin_N0 t
      have hz : (fun a => win0_3.index t0_0 a * main_v2.ty.shape.size a) = fun _ => 0 := funext fun a => by fin_cases a <;> decide
      exact (Memref.read_access_unit_zero (Elt F) main_v2 hz (fun a => by rw [congrFun hz a]; simp) (logitsOf V c)).symm)
    fun i => ⟨t0_0, by decide, by
      show i ∈ ((View.whole main_v2).slice (win0_3.rect t0_0)).set
      rw [View.set_slice_whole, Rect.mem_set_unit]
      intro a
      have h0 : (i 0 : Nat) < 64 := (i 0).isLt
      have h1 : (i 1 : Nat) < 64 := (i 1).isLt
      match a with
      | ⟨0, _⟩ => show 0 ≤ (i 0 : Nat) ∧ (i 0 : Nat) < 0 + 64; omega
      | ⟨1, _⟩ => show 0 ≤ (i 1 : Nat) ∧ (i 1 : Nat) < 0 + 64; omega⟩

variable [∀ e, Nonempty (Elt F e)] (adm : (p : Fin 2) → (pcfgs (F := F) p).Adm)

/-- The call's family of proof data: its own at its pipeline. -/
def pdats0 : (p : Fin 2) → (c : Dev nD) → Dat τ (Elt F) (HIx 1) ℕ UU ℕ (Pipeline.pin (pcfgs (F := F)) adm p) c
  | ⟨0, _⟩ => fun c => dat0 O b V c
  | ⟨1, _⟩ => fun c => junkDat c

variable (Vp : Val1 F)

set_option backward.isDefEq.respectTransparency.types false in
/-- The logits call as a region of @main: the unscoped buffers at `V` before, at `Vp` after, what the TensorCore owes passed by. -/
def reg0 (hO : ∀ g, O g none = 0) (hVp_out : ∀ c, Vp c main_v2 = logitsOf V c) (hVp_ne : ∀ c (r : Ref sig .tc), r ≠ main_v2 → Vp c r = V c r) :
    Pipeline.RegionSeg (pcfgs (F := F)) adm (pdats0 O b V adm) (none : HIx 1) defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := (body0 O b V c).loose
  hwaits c := Pipeline.cellsWaits_intro (Pipeline.pin (pcfgs (F := F)) adm) (pdats0 O b V adm) (none : HIx 1) 0 c
    fun w s t => (K (F := F)).mayWait_none _ hO
  pre c := iprop(unscopedBufs c (V c) ∗ tcOwes (F := F) c O b)
  post c := iprop(unscopedBufs c (Vp c) ∗ tcOwes (F := F) c O b)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats0 O b V adm) (launch0 (F := F)).win (launch0 (F := F)).arr_whole c
      ((pdats0 O b V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (tcOwes_within (F := F) c O b _); iexact HO
    isplitr; · iempintro
    iexact Hrest
  hin c := by
    rw [show (pdats0 O b V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats0 O b V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0 (F := F)).win (launch0 (F := F)).arr_whole c
      (pdats0 O b V adm) ((pdats0 O b V adm 0 c).share_full fun _ => rfl) (V c) (Vp c) ((pdats0 O b V adm 0 c).arrAt · cfg0.N)
      (fun w => by
        fin_cases w
        · exact ((pdats0 O b V adm 0 c).arrAt_in 0 rfl _).trans (hVp_ne c main_v0 (by decide)).symm
        · exact ((pdats0 O b V adm 0 c).arrAt_in 1 rfl _).trans (hVp_ne c main_arg1 (by decide)).symm
        · exact ((pdats0 O b V adm 0 c).arrAt_in 2 rfl _).trans (hVp_ne c main_v1 (by decide)).symm
        · exact (final0 O b V c).trans (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    iapply (within_tcOwes (F := F) c O b ((Pipeline.pin (pcfgs (F := F)) adm 0).waitPairs none) (fun p hp => by obtain ⟨w, s, rfl⟩ := hp; rfl)); iexact HO

end Data

end Cert.Moe

end
-- ==== Proof.Launch.lean ====
/- The launch of the SparseCore call: what the TensorCore hands its first vector subcore and gets back, the task's
   obligation on every subcore, and the split of what is handed over among the subcores. -/
module

public import proofs.«01_k».proof.Proof.Router3
public import proofs.«01_k».proof.Proof.Experts
public import proofs.«01_k».proof.Proof.Logits
public import Idealize.ShloMosaic.Lib.Pipeline.RegionsOwned

@[expose] public section

noncomputable section

namespace Cert.Moe

open Cert.KernelIdeal hiding ix2
open Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents of the buffers along @main -/

/-- A reference of the TensorCore as a buffer of its device. -/
abbrev tcb (r : Ref sig .tc) : DevRef τ sig := Proc.devRef (τ := τ) .tc r

theorem tcb_ne {r s : Ref sig .tc} (h : r ≠ s) : tcb r ≠ tcb s := fun e => h (Proc.devRef_injective _ e)

abbrev op0 : HloOp τ sig (Elt F) := StableHlo.reshape main_arg0 main_v0 (rfl : (.f32 : EltTy) = .f32) shapeCasts_S64x1x1024_S64x1024
abbrev op1 : HloOp τ sig (Elt F) := StableHlo.reshape main_arg2 main_v1 (rfl : (.f32 : EltTy) = .f32) shapeCasts_S64_S64x1
abbrev op2 : HloOp τ sig (Elt F) := StableHlo.reshape main_v3_2 main_v4 (rfl : (.i32 : EltTy) = .i32) shapeCasts_S64_S1x64
abbrev op3 : HloOp τ sig (Elt F) := StableHlo.reshape main_v4 main_v5 (rfl : (.i32 : EltTy) = .i32) shapeCasts_S1x64_S64
abbrev op4 : HloOp τ sig (Elt F) := StableHlo.reshape main_v3_3 main_v6 (rfl : (.i32 : EltTy) = .i32) shapeCasts_S16_S1x16
abbrev op5 : HloOp τ sig (Elt F) := StableHlo.reshape main_v6 main_v7 (rfl : (.i32 : EltTy) = .i32) shapeCasts_S1x16_S16
abbrev op6 : HloOp τ sig (Elt F) := StableHlo.reshape main_v8 main_v9 (rfl : (.f32 : EltTy) = .f32) shapeCasts_S64x1024_S64x1x1024

variable (m : (ℓ : Loc nD τ sig) → Buf (Elt F) ℓ)

/-- At the launch. -/
def W0 (d : Dev nD) : Valuation τ sig (Elt F) := fun b => m (d, b)
/-- After the two reshapes of arguments. -/
def W2 (d : Dev nD) : Valuation τ sig (Elt F) := (op1 (F := F)).result ((op0 (F := F)).result (W0 m d))
abbrev V2 : Val1 F := fun d b => W2 m d (tcb b)
/-- The logits. -/
def ltM (d : Dev nD) : S64x64.Idx → F .f32 := logitsOf (V2 m) d
/-- After the logits call. -/
def W3 (d : Dev nD) : Valuation τ sig (Elt F) := Function.update (W2 m d) (tcb main_v2) (ltM m d)
/-- After the SparseCore call. -/
def W4 (d : Dev nD) : Valuation τ sig (Elt F) :=
  Function.update (Function.update (Function.update (Function.update (W3 m d) (tcb main_v3_0) (aiOf (ltM m d)))
    (tcb main_v3_1) (wvOf (ltM m d))) (tcb main_v3_2) (schedOf (ltM m d))) (tcb main_v3_3) (nactOf (ltM m d))
/-- After the four reshapes of the two tables. -/
def W8 (d : Dev nD) : Valuation τ sig (Elt F) :=
  (op5 (F := F)).result ((op4 (F := F)).result ((op3 (F := F)).result ((op2 (F := F)).result (W4 m d))))
abbrev V8 : Val1 F := fun d b => W8 m d (tcb b)

theorem W3_v2 (d : Dev nD) : W3 m d (tcb main_v2) = ltM m d := by unfold W3; exact Function.update_self ..
theorem W3_ne (d : Dev nD) (r : Ref sig .tc) (h : r ≠ main_v2) : W3 m d (tcb r) = W2 m d (tcb r) := by
  unfold W3; exact Function.update_of_ne (tcb_ne h) _ _

theorem W4_ne (d : Dev nD) (r : Ref sig .tc) (h0 : r ≠ main_v3_0) (h1 : r ≠ main_v3_1) (h2 : r ≠ main_v3_2) (h3 : r ≠ main_v3_3) :
    W4 m d (tcb r) = W3 m d (tcb r) := by
  unfold W4
  rw [Function.update_of_ne (tcb_ne h3), Function.update_of_ne (tcb_ne h2), Function.update_of_ne (tcb_ne h1), Function.update_of_ne (tcb_ne h0)]
theorem W4_v3_3 (d : Dev nD) : W4 m d (tcb main_v3_3) = nactOf (ltM m d) := by unfold W4; exact Function.update_self ..
theorem W4_v3_2 (d : Dev nD) : W4 m d (tcb main_v3_2) = schedOf (ltM m d) := by
  unfold W4; rw [Function.update_of_ne (tcb_ne (by decide))]; exact Function.update_self ..
theorem W4_v3_1 (d : Dev nD) : W4 m d (tcb main_v3_1) = wvOf (ltM m d) := by
  unfold W4; rw [Function.update_of_ne (tcb_ne (by decide)), Function.update_of_ne (tcb_ne (by decide))]; exact Function.update_self ..
theorem W4_v3_0 (d : Dev nD) : W4 m d (tcb main_v3_0) = aiOf (ltM m d) := by
  unfold W4; rw [Function.update_of_ne (tcb_ne (by decide)), Function.update_of_ne (tcb_ne (by decide)), Function.update_of_ne (tcb_ne (by decide))]; exact Function.update_self ..

/-! ## The payloads -/

instance Tabs_storable (d : Dev nD) (x : S64x64.Idx → F .f32) (a : S2x64.Idx → BitVec 32) (w : S2x64.Idx → F .f32) (s : S64.Idx → BitVec 32) (n : S16.Idx → BitVec 32) :
    BI.Storable (upEmb : UEmb _ 𝕄) (Tabs d x a w s n) := by unfold Tabs; infer_instance

/-- What the call takes, and what it gives back. -/
def tabsIn (d : Dev nD) : sProp 𝕄 :=
  Tabs d (ltM m d) (W3 m d (tcb main_v3_0)) (W3 m d (tcb main_v3_1)) (W3 m d (tcb main_v3_2)) (W3 m d (tcb main_v3_3))
def tabsOut (d : Dev nD) : sProp 𝕄 :=
  Tabs d (ltM m d) (aiOf (ltM m d)) (wvOf (ltM m d)) (schedOf (ltM m d)) (nactOf (ltM m d))

instance tabsIn_storable (d : Dev nD) : BI.Storable (upEmb : UEmb _ 𝕄) (tabsIn m d) := by unfold tabsIn; infer_instance
instance tabsOut_storable (d : Dev nD) : BI.Storable (upEmb : UEmb _ 𝕄) (tabsOut m d) := by unfold tabsOut; infer_instance

/-- The first subcore's share of a payload is all of it. -/
def first (X : sProp 𝕄) (i : ℕ) : sProp 𝕄 := if i = 0 then X else iprop(emp)

instance first_storable (X : sProp 𝕄) [BI.Storable (upEmb : UEmb _ 𝕄) X] (i : ℕ) : BI.Storable (upEmb : UEmb _ 𝕄) (first X i) := by
  unfold first; split <;> infer_instance

def P : (K (F := F)).Pay (nD := nD) (Val := Elt F) (Name := ℕ) (U := UU) where
  st := fun q d _ => match q with | 0 => tabsIn m d
  dn := fun q d _ => match q with | 0 => tabsOut m d
  go := fun q d _ i => match q with | 0 => first (tabsIn m d) i.val
  td := fun q d _ i => match q with | 0 => first (tabsOut m d) i.val
  x := fun _ _ => iprop(emp)

instance P_storable : (P (F := F) m).IsStorable where
  st q d _ := match q with | 0 => (inferInstance : BI.Storable (upEmb : UEmb _ 𝕄) (tabsIn m d))
  dn q d _ := match q with | 0 => (inferInstance : BI.Storable (upEmb : UEmb _ 𝕄) (tabsOut m d))
  go q d _ i := match q with | 0 => (inferInstance : BI.Storable (upEmb : UEmb _ 𝕄) (first (tabsIn m d) i.val))
  td q d _ i := match q with | 0 => (inferInstance : BI.Storable (upEmb : UEmb _ 𝕄) (first (tabsOut m d) i.val))

/-! ## The obligation -/

local notation "xV" => (Memref.whole Cert.KernelIdeal.main_v2_scv : Memref Cert.KernelIdeal.sig Kind.scVector Space.hbm Cert.KernelIdeal.S64x64 EltTy.f32)
local notation "oA" => (Memref.whole Cert.KernelIdeal.main_v3_0_scv : Memref Cert.KernelIdeal.sig Kind.scVector Space.hbm Cert.KernelIdeal.S2x64 EltTy.i32)
local notation "oW" => (Memref.whole Cert.KernelIdeal.main_v3_1_scv : Memref Cert.KernelIdeal.sig Kind.scVector Space.hbm Cert.KernelIdeal.S2x64 EltTy.f32)
local notation "oS" => (Memref.whole Cert.KernelIdeal.main_v3_2_scv : Memref Cert.KernelIdeal.sig Kind.scVector Space.hbm Cert.KernelIdeal.S64 EltTy.i32)
local notation "oN" => (Memref.whole Cert.KernelIdeal.main_v3_3_scv : Memref Cert.KernelIdeal.sig Kind.scVector Space.hbm Cert.KernelIdeal.S16 EltTy.i32)
local notation "s0" => (Memref.whole Cert.KernelIdeal.cc1_scratch0 : Memref Cert.KernelIdeal.sig Kind.scVector Space.vmem Cert.KernelIdeal.S64x64 EltTy.f32)
local notation "s1" => (Memref.whole Cert.KernelIdeal.cc1_scratch1 : Memref Cert.KernelIdeal.sig Kind.scVector Space.vmem Cert.KernelIdeal.S64 EltTy.f32)
local notation "s2" => (Memref.whole Cert.KernelIdeal.cc1_scratch2 : Memref Cert.KernelIdeal.sig Kind.scVector Space.vmem Cert.KernelIdeal.S2x64 EltTy.i32)
local notation "s3" => (Memref.whole Cert.KernelIdeal.cc1_scratch3 : Memref Cert.KernelIdeal.sig Kind.scVector Space.vmem Cert.KernelIdeal.S2x64 EltTy.f32)
local notation "s4" => (Memref.whole Cert.KernelIdeal.cc1_scratch4 : Memref Cert.KernelIdeal.sig Kind.scVector Space.vmem Cert.KernelIdeal.S64 EltTy.i32)
local notation "s5" => (Memref.whole Cert.KernelIdeal.cc1_scratch5 : Memref Cert.KernelIdeal.sig Kind.scVector Space.vmem Cert.KernelIdeal.S16 EltTy.i32)

/-- A subcore's coordinates in the call's grid. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_router_body (coordsV c s)
          xV (Memref.isWhole_whole _) oA (Memref.isWhole_whole _) oW (Memref.isWhole_whole _) oS (Memref.isWhole_whole _) oN (Memref.isWhole_whole _)
          s0 (Memref.isWhole_whole _) s1 (Memref.isWhole_whole _) s2 (Memref.isWhole_whole _) s3 (Memref.isWhole_whole _) s4 (Memref.isWhole_whole _) s5 (Memref.isWhole_whole _)
          cc1_scoped0 cc1_scoped1 cc1_scoped2 cc1_scoped3 cc1_scoped4) ⟨⟩ c s := rfl

theorem cond1_zero (c : Fin (grid1.bound 0)) (s : Fin (grid1.bound 1)) (h : s.val = 0) : k1_cond1 (coordsV c s) = 1#1 := by
  obtain rfl : s = ⟨0, by decide⟩ := Fin.ext h
  revert c; decide
theorem cond1_pos (c : Fin (grid1.bound 0)) (s : Fin (grid1.bound 1)) (h : s.val ≠ 0) : ¬ k1_cond1 (coordsV c s) = 1#1 := by
  revert h; revert s; revert c; decide

/-- The task on every subcore, with the first subcore's share of the tables. -/
theorem tile_body (hF : (K (F := F)).Facts) (d : Dev nD) (c : Fin (grid1.bound 0)) (s : Fin (grid1.bound 1))
    (O : CellTallies nD τ sig (HIx 1)) (W : Waits sig (HIx 1)) (hO : ∀ g, O g none = 0) :
    iprop(levAts (K (F := F)).L (K (F := F)).lev ∗ emp ∗ first (tabsIn m d) s.val
        ∗ scopedBufs (tV d (coordsV c s)) ∗ scopedSems0 (tV d (coordsV c s)) ∗ owes (tV d (coordsV c s)) O W)
      ⊢ wp frame (wpE (defs₀ (F := F)) 𝒱₀ (tV d (coordsV c s)) none) Set.univ
          (cc1__sc_router_body (coordsV c s) xV (Memref.isWhole_whole _) oA (Memref.isWhole_whole _) oW (Memref.isWhole_whole _) oS (Memref.isWhole_whole _) oN (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scoped0 cc1_scoped1 cc1_scoped2 cc1_scoped3 cc1_scoped4)
          fun _ => iprop(first (tabsOut m d) s.val
            ∗ scopedBufs (tV d (coordsV c s)) ∗ scopedSems0 (tV d (coordsV c s))
            ∗ ∃ W', ⌜∀ p ∈ W', p ∈ W ∨ p.2 = none ∨ p.2 = some (0 : Fin 1)⌝ ∗ owes (tV d (coordsV c s)) O W') := by
  by_cases h : s.val = 0
  · unfold first tabsIn tabsOut
    rw [if_pos h, if_pos h]
    exact body_on d (coordsV c s) (ltM m d) hF (cond1_zero c s h) O W hO _ _ _ _
  · unfold first
    rw [if_neg h, if_neg h]
    exact body_off d (coordsV c s) (cond1_pos c s h) O W

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF d ⟨_, hci.1⟩ ⟨_, hci.2⟩ O W hO

/-! ## The split -/

theorem first_split (X : sProp 𝕄) : (bigSep Finset.univ fun i : Fin 16 => first X i.val) = X := by
  rw [SparseCore.bigSep_erase' (Finset.mem_univ (0 : Fin 16)),
    show (bigSep ((Finset.univ : Finset (Fin 16)).erase 0) fun i : Fin 16 => first X i.val) = bigSep ((Finset.univ : Finset (Fin 16)).erase 0) fun _ => iprop(emp) from
      bigSep_congr fun i hi => if_neg fun e => Finset.ne_of_mem_erase hi (Fin.ext e),
    show first X ((0 : Fin 16) : ℕ) = X from if_pos rfl]
  exact (congrArg (fun Y : sProp 𝕄 => iprop(X ∗ Y)) (bigSep_emp_const _)).trans (equiv_iff.mp BI.sep_emp)

theorem vecSplit : (K (F := F)).VecSplit' (P m) 0 := by
  intro d c
  show tabsIn m d ⊢ |={Set.univ}=> iprop(
      (bigSep Finset.univ fun i : Fin 16 => first (tabsIn m d) i.val)
      ∗ ((bigSep Finset.univ fun i : Fin 16 => first (tabsOut m d) i.val) -∗ tabsOut m d))
  rw [first_split, first_split]
  iintro H; imodintro
  isplitl [H]; · iexact H
  iintro H; iexact H

theorem st0_eq (d : Dev nD) : (bigSep Finset.univ fun c : Fin ((K (F := F)).nCore 0) => (P m).st 0 d c) = tabsIn m d :=
  bigSep_univ_of_subsingleton (0 : Fin 1)
theorem dn0_eq (d : Dev nD) : (bigSep Finset.univ fun c : Fin ((K (F := F)).nCore 0) => (P m).dn 0 d c) = tabsOut m d :=
  bigSep_univ_of_subsingleton (0 : Fin 1)

end Cert.Moe

end
-- ==== Proof.Main.lean ====
/- @main on the TensorCore, from the launch's split of the tokens to what every buffer holds at the end; the whole run. -/
module

public import proofs.«01_k».proof.Proof.Launch

@[expose] public section

noncomputable section

namespace Cert.Moe

open Cert.KernelIdeal hiding ix2
open Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The two tables -/

theorem W8_v5 (d : Dev nD) : W8 m d (tcb main_v5) = schedOf (ltM m d) := by
  unfold W8
  refine (StableHlo.reshape_result_ne _ _ _ _ _ _ _ (show main_v5 ≠ main_v7 by decide)).trans ?_
  refine (StableHlo.reshape_result_ne _ _ _ _ _ _ _ (show main_v5 ≠ main_v6 by decide)).trans ?_
  refine (StableHlo.reshape_result' _ _ _ _ _).trans ?_
  refine (congrArg (fun v : S1x64.Idx → BitVec 32 => shapeCast S64 v shapeCasts_S1x64_S64) (StableHlo.reshape_result' _ _ _ _ _)).trans ?_
  refine (shapeCast_shapeCast (W4 m d (tcb main_v3_2) : S64.Idx → BitVec 32) shapeCasts_S64_S1x64 shapeCasts_S1x64_S64).trans ?_
  exact W4_v3_2 m d
theorem W8_v7 (d : Dev nD) : W8 m d (tcb main_v7) = nactOf (ltM m d) := by
  unfold W8
  refine (StableHlo.reshape_result' _ _ _ _ _).trans ?_
  refine (congrArg (fun v : S1x16.Idx → BitVec 32 => shapeCast S16 v shapeCasts_S1x16_S16) (StableHlo.reshape_result' _ _ _ _ _)).trans ?_
  refine (shapeCast_shapeCast _ shapeCasts_S16_S1x16 shapeCasts_S1x16_S16).trans ?_
  refine (StableHlo.reshape_result_ne _ _ _ _ _ _ _ (show main_v3_3 ≠ main_v5 by decide)).trans ?_
  refine (StableHlo.reshape_result_ne _ _ _ _ _ _ _ (show main_v3_3 ≠ main_v4 by decide)).trans ?_
  exact W4_v3_3 m d

/-- The expert at each place of the schedule. -/
def expM (d : Dev nD) (g : Fin 64) : Fin 64 := ⟨(schedOf (ltM m d) (ix1 g)).toNat, schedOf_lt (ltM m d) g⟩

/-- The tables as the expert call finds them. -/
def tabM : pre2.Contents (Elt F) := fun k => W8 m 0 (tcb (pre2.ref k))

theorem tabM_zero : tabM m 0 = schedOf (ltM m 0) := W8_v5 m 0
theorem tabM_one : tabM m 1 = nactOf (ltM m 0) := W8_v7 m 0

theorem tabM_lt (j : S64.Idx) : (tabM m 0 j : BitVec 32).toNat < 64 := by
  rw [tabM_zero, eq_ix1 (n0 := 64) j]; exact schedOf_lt _ _

/-- Every block the tables send a window to lies in its array. -/
theorem ok_tabM : ok2 (F := F) (tabM m) := by
  unfold ok2
  refine ⟨fun i => ⟨?_, Or.inl rfl⟩, fun i => ⟨?_, Or.inl rfl⟩, fun i => ⟨?_, Or.inl rfl⟩⟩
  · intro a
    have h := tabM_lt m ((Rect.unit (s := S64) (k2_off1 i) S1.size (k2_off1_inb i)).emb (Shape.Idx.first (numel1_S1.symm ▸ Nat.one_pos)))
    have aux : ∀ v : BitVec 32, v.toNat < 64 → ∀ a : Fin 3, ((![v.toNat, 0, 0] : Fin 3 → Nat) a + 1) * S1x1024x512.size a ≤ S64x1024x512.size a := by
      intro v hv a
      match a with
      | 0 => show (v.toNat + 1) * 1 ≤ 64; omega
      | 1 => show (0 + 1) * 1024 ≤ 1024; omega
      | 2 => show (0 + 1) * 512 ≤ 512; omega
    exact aux _ h a
  · intro a
    have h := tabM_lt m ((Rect.unit (s := S64) (k2_off1 i) S1.size (k2_off1_inb i)).emb (Shape.Idx.first (numel1_S1.symm ▸ Nat.one_pos)))
    have aux : ∀ v : BitVec 32, v.toNat < 64 → ∀ a : Fin 3, ((![v.toNat, 0, 0] : Fin 3 → Nat) a + 1) * S1x512x512.size a ≤ S64x512x512.size a := by
      intro v hv a
      match a with
      | 0 => show (v.toNat + 1) * 1 ≤ 64; omega
      | 1 => show (0 + 1) * 512 ≤ 512; omega
      | 2 => show (0 + 1) * 512 ≤ 512; omega
    exact aux _ h a
  · intro a
    have h := tabM_lt m ((Rect.unit (s := S64) (k2_off1 i) S1.size (k2_off1_inb i)).emb (Shape.Idx.first (numel1_S1.symm ▸ Nat.one_pos)))
    have aux : ∀ v : BitVec 32, v.toNat < 64 → ∀ a : Fin 3, ((![v.toNat, 0, 0] : Fin 3 → Nat) a + 1) * S1x512x1024.size a ≤ S64x512x1024.size a := by
      intro v hv a
      match a with
      | 0 => show (v.toNat + 1) * 1 ≤ 64; omega
      | 1 => show (0 + 1) * 512 ≤ 512; omega
      | 2 => show (0 + 1) * 1024 ≤ 1024; omega
    exact aux _ h a

/-- The tables each pipelined call is entered at. -/
def admM : (p : Fin 2) → (pcfgs (F := F) p).Adm := fun
  | ⟨0, _⟩ => cfg0.toPCfg_adm
  | ⟨1, _⟩ => ⟨tabM m, ok_tabM m⟩
  | ⟨_ + 2, h⟩ => absurd h (by simp)

theorem schedIs_M : SchedIs (F := F) (admM m 1) (expM m 0) := by
  intro g
  show tabM m 0 (ix1 g) = _
  rw [tabM_zero]
  apply BitVec.eq_of_toNat_eq
  rw [BitVec.toNat_ofNat]
  exact (Nat.mod_eq_of_lt (lt_trans (schedOf_lt (ltM m 0) g) (by decide))).symm

/-! ## The contents after the expert call and at the end -/

/-- After the expert call. -/
def W9 (d : Dev nD) : Valuation τ sig (Elt F) := Function.update (W8 m d) (tcb main_v8) (accAt (F := F) (admM m 1) (expM m 0) (V8 m) d 64)
/-- At the end. -/
def W10 (d : Dev nD) : Valuation τ sig (Elt F) := (op6 (F := F)).result (W9 m d)

/-! ## A pipelined call's step of @main -/

variable [∀ e, Nonempty (Elt F e)]

/-- A pipelined call of @main, run from the boundary, its own ghost state and its record's state before. -/
theorem wp_region {p : Fin 2} {adm : (p : Fin 2) → (pcfgs (F := F) p).Adm}
    {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD) (Φ : PUnit → sProp 𝕄) :
    iprop((iprop(boundary (SparseCore.T d) ∗ R.post d) -∗ Φ ⟨⟩)
        ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (.op (.customCall (Pipeline.entry p) ()) .ret) Φ)
  refine BI.Entails.trans ?_ (Pipeline.RegionSeg.wp (pcfgs (F := F)) adm pdats (none : HIx 1) (cellOf_inj adm) EP defs₀ 𝒱₀ (K (F := F)).L (K (F := F)).lev R d none (by simp) .ret Φ)
  change (BIBase.Entails (PROP := sProp 𝕄) _ _)
  iintro ⟨Hk, Hb, Hpre, Hl, Hg, Ht⟩
  isplitl [Hk]
  · iintro H
    rw [wp_ret]
    imodintro
    iapply Hk; iexact H
  isplitl [Hb]; · iexact Hb
  isplitl [Hpre]; · iexact Hpre
  isplitl [Hl]; · iexact Hl
  isplitl [Hg]; · iexact Hg
  iexact Ht

/-! ## The launch element -/

def u₀ : UU := (initOf (K (F := F)).hsCells (K (F := F)).hsToks,
  (initOf (Pipeline.cells (nD := nD) (τ := τ) (Pipeline.pin (pcfgs (F := F)) (admM m)) (cellOf_inj (admM m)))
    (Pipeline.launchToks (Pipeline.pin (pcfgs (F := F)) (admM m)) (cellOf_inj (admM m))), 1))

/-- What the launch deals @main for its two pipelined calls. -/
def G (d : Dev nD) : sProp 𝕄 :=
  iprop((bigSep Finset.univ fun p => Pipeline.cellsGhost (Pipeline.pin (pcfgs (F := F)) (admM m)) EP p d)
    ∗ bigSep Finset.univ fun p => Pipeline.toksInit (Pipeline.pin (pcfgs (F := F)) (admM m)) EP p d)

theorem hu₀ : (ownU (u₀ (F := F) m) : sProp 𝕄)
    ⊢ |={Set.univ}=> iprop(BI.own (EH (initOf (K (F := F)).hsCells (K (F := F)).hsToks)) ∗ (bigSep Finset.univ fun d : Dev nD => G m d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) (admM m)) EP (cellOf_inj (admM m))) $$ HP with ⟨Hg, Ht⟩
  imodintro
  isplitl [HH]; · iexact HH
  isplitl [Hg Ht]
  · unfold G
    rw [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const (M := 𝕄) (Finset.univ : Finset (Thread nD τ))).symm)
  iempintro

/-! ## @main -/

/-- The buffers the SparseCore call takes, out of the unscoped ones. -/
abbrev Rsc : Finset (Ref sig .tc) := {main_v2, main_v3_0, main_v3_1, main_v3_2, main_v3_3}

theorem unscoped_tabs (d : Dev nD) (W : Valuation τ sig (Elt F)) :
    (unscopedBufs d (fun b => W (tcb b)) : sProp 𝕄)
      = iprop(Tabs d (W (tcb main_v2)) (W (tcb main_v3_0)) (W (tcb main_v3_1)) (W (tcb main_v3_2)) (W (tcb main_v3_3))
          ∗ Pipeline.unscopedBufsBut Rsc d (fun b => W (tcb b))) := by
  rw [Pipeline.unscopedBufs_sdiff Rsc (by decide) d (fun b => W (tcb b))]
  unfold Rsc
  rw [SparseCore.bigSep_insert' (by decide), SparseCore.bigSep_insert' (by decide), SparseCore.bigSep_insert' (by decide), SparseCore.bigSep_insert' (by decide), bigSep_singleton]
  rfl

/-- Around the SparseCore call: its five buffers out, and back as it leaves them. -/
theorem tabs_out (d : Dev nD) :
    (unscopedBufs d (fun b => W3 m d (tcb b)) : sProp 𝕄) ⊢ iprop(tabsIn m d ∗ Pipeline.unscopedBufsBut Rsc d (fun b => W3 m d (tcb b))) := by
  rw [unscoped_tabs, W3_v2]; exact BI.Entails.refl _
theorem tabs_in (d : Dev nD) :
    iprop(tabsOut m d ∗ Pipeline.unscopedBufsBut Rsc d (fun b => W3 m d (tcb b))) ⊢ (unscopedBufs d (fun b => W4 m d (tcb b)) : sProp 𝕄) := by
  rw [unscoped_tabs, W4_v3_0, W4_v3_1, W4_v3_2, W4_v3_3, W4_ne m d main_v2 (by decide) (by decide) (by decide) (by decide), W3_v2]
  have h : (Pipeline.unscopedBufsBut Rsc d (fun b => W4 m d (tcb b)) : sProp 𝕄) = Pipeline.unscopedBufsBut Rsc d (fun b => W3 m d (tcb b)) := by
    unfold Pipeline.unscopedBufsBut
    refine bigSep_congr fun b hb => ?_
    have hn := (Finset.mem_sdiff.mp hb).2
    simp only [Rsc, Finset.mem_insert, Finset.mem_singleton, not_or] at hn
    beta_reduce
    rw [W4_ne m d b hn.2.1 hn.2.2.1 hn.2.2.2.1 hn.2.2.2.2]
  rw [h]; exact BI.Entails.refl _

/-- The unscoped buffers as the set a host operation runs within. -/
theorem ub_held (d : Dev nD) (W : Valuation τ sig (Elt F)) :
    (unscopedBufs d (fun b => W (tcb b)) : sProp 𝕄) = StableHlo.held (d.tc : Thread nD τ) (Pipeline.ucRefs τ sig) W :=
  Pipeline.unscopedBufs_held d W

/-- The same of the contents at the launch. -/
theorem ub_start (d : Dev nD) : (unscopedBufs d (fun b => m ((SparseCore.T d).loc b)) : sProp 𝕄)
    = StableHlo.held (d.tc : Thread nD τ) (Pipeline.ucRefs τ sig) (W0 m d) := ub_held d (W0 m d)

theorem ub_two (d : Dev nD) : (StableHlo.held (d.tc : Thread nD τ) (Pipeline.ucRefs τ sig) ((op1 (F := F)).result ((op0 (F := F)).result (W0 m d))) : sProp 𝕄)
    = unscopedBufs d (fun b => W2 m d (tcb b)) := (ub_held d (W2 m d)).symm
theorem ub_eight (d : Dev nD) : (StableHlo.held (d.tc : Thread nD τ) (Pipeline.ucRefs τ sig)
      ((op5 (F := F)).result ((op4 (F := F)).result ((op3 (F := F)).result ((op2 (F := F)).result (W4 m d))))) : sProp 𝕄)
    = unscopedBufs d (fun b => W8 m d (tcb b)) := (ub_held d (W8 m d)).symm

theorem tcSt_open (d : Dev nD) (n : ℕ) : ∃ (b : ℕ) (R : sProp 𝕄), ((K (F := F)).tcSt EH d n : sProp 𝕄)
    = iprop(tcOwes (F := F) d ((K (F := F)).Otc d n) b ∗ R) := ⟨_, _, rfl⟩

theorem ghosts (d : Dev nD) : (G m d : sProp 𝕄) ⊢
    iprop((Pipeline.cellsGhost (Pipeline.pin (pcfgs (F := F)) (admM m)) EP 0 d ∗ Pipeline.toksInit (Pipeline.pin (pcfgs (F := F)) (admM m)) EP 0 d)
      ∗ (Pipeline.cellsGhost (Pipeline.pin (pcfgs (F := F)) (admM m)) EP 1 d ∗ Pipeline.toksInit (Pipeline.pin (pcfgs (F := F)) (admM m)) EP 1 d)) := by
  unfold G
  rw [show (Finset.univ : Finset (Fin 2)) = {0, 1} by decide, SparseCore.bigSep_insert' (by decide), SparseCore.bigSep_insert' (by decide), bigSep_singleton, bigSep_singleton]
  iintro ⟨⟨A, B⟩, C, E⟩
  isplitl [A C]
  · isplitl [A]; · iexact A
    iexact C
  isplitl [B]; · iexact B
  iexact E

/-- What every unscoped buffer holds at the end. -/
abbrev FIN (d : Dev nD) : sProp 𝕄 := StableHlo.held (d.tc : Thread nD τ) (Pipeline.ucRefs τ sig) (W10 m d)

/-- The two calls' records, at the contents @main reaches them with. -/
def regA (d : Dev nD) (b : ℕ) := reg0 (F := F) ((K (F := F)).Otc d 0) b (V2 m) (admM m) (fun d b => W3 m d (tcb b))
  (fun g => Otc_none d 0 g) (fun c => W3_v2 m c) (fun c r h => W3_ne m c r h)

theorem W9_v8 (d : Dev nD) : W9 m d (tcb main_v8) = accAt (F := F) (admM m 1) (expM m 0) (V8 m) d 64 := by unfold W9; exact Function.update_self ..
theorem W9_ne (d : Dev nD) (r : Ref sig .tc) (h : r ≠ main_v8) : W9 m d (tcb r) = W8 m d (tcb r) := by
  unfold W9; exact Function.update_of_ne (tcb_ne h) _ _

def regB (d : Dev nD) (b : ℕ) := reg2 (F := F) (expM m 0) ((K (F := F)).Otc d 1) b (V8 m) (admM m) (fun d b => W9 m d (tcb b))
  (fun g => Otc_none d 1 g) (schedIs_M m) (fun c k => by obtain rfl : c = 0 := Subsingleton.elim _ _; rfl) (fun c => W9_v8 m c) (fun c r h => W9_ne m c r h)

theorem regA_pre (d : Dev nD) (b : ℕ) : (iprop(unscopedBufs d (fun b => W2 m d (tcb b)) ∗ tcOwes (F := F) d ((K (F := F)).Otc d 0) b) : sProp 𝕄) = (regA m d b).pre d := rfl
theorem regA_post (d : Dev nD) (b : ℕ) : (regA m d b).post d = (iprop(unscopedBufs d (fun b => W3 m d (tcb b)) ∗ tcOwes (F := F) d ((K (F := F)).Otc d 0) b) : sProp 𝕄) := rfl

theorem regB_pre (d : Dev nD) (b : ℕ) : (iprop(unscopedBufs d (fun b => W8 m d (tcb b)) ∗ tcOwes (F := F) d ((K (F := F)).Otc d 1) b) : sProp 𝕄) = (regB m d b).pre d := rfl
theorem regB_post (d : Dev nD) (b : ℕ) : (regB m d b).post d = (iprop(unscopedBufs d (fun b => W9 m d (tcb b)) ∗ tcOwes (F := F) d ((K (F := F)).Otc d 1) b) : sProp 𝕄) := rfl

theorem hmain (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨b0, R0, e0⟩ := tcSt_open (F := F) d 0
  obtain ⟨b1, R1, e1⟩ := tcSt_open (F := F) d 1
  unfold SparseCore.Cfg.tcRes SparseCore.Cfg.tcEnd
  simp only [main, wp_bind, wp_pure]
  iintro ⟨#Hctx, Hst, ⟨Hb, Hbufs, Hts, -⟩, HG⟩
  ihave #Hlv := (SparseCore.Cfg.ctx_levAts (K := K (F := F)) κ) $$ Hctx
  ihave HG' := (ghosts m d) $$ HG
  icases HG' with ⟨⟨Hg0, Ht0⟩, Hg1, Ht1⟩
  ihave Hh := (Entails.of_eq (ub_start m d)) $$ Hbufs
  iapply (StableHlo.wp_hlo_within 𝒱 (d.tc : Thread nD τ) none Set.univ (op := op0 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  iapply (StableHlo.wp_hlo_within 𝒱 (d.tc : Thread nD τ) none Set.univ (op := op1 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  ihave Hbufs := (Entails.of_eq (ub_two m d)) $$ Hh
  ihave Hst' := (Entails.of_eq e0) $$ Hst
  icases Hst' with ⟨HO, HR⟩
  iapply (wp_region (regA m d b0) d _)
  isplitr [Hb Hbufs HO Hg0 Ht0]
  swap
  · isplitl [Hb]; · iexact Hb
    isplitl [Hbufs HO]
    · iapply (Entails.of_eq (regA_pre m d b0))
      isplitl [Hbufs]; · iexact Hbufs
      iexact HO
    isplitr; · iexact Hlv
    isplitl [Hg0]; · iexact Hg0
    iexact Ht0
  iintro ⟨Hb, Hpost⟩
  ihave Hpost' := (Entails.of_eq (regA_post m d b0)) $$ Hpost
  icases Hpost' with ⟨Hbufs, HO⟩
  ihave Hst := (Entails.of_eq e0.symm) $$ [HO HR]
  · isplitl [HO]; · iexact HO
    iexact HR
  ihave Hx := (tabs_out m d) $$ Hbufs
  icases Hx with ⟨Htabs, Hrest⟩
  iapply ((K (F := F)).wp_run (D (F := F)) 𝒱 (EH := EH) (P := P m) κ d 0)
  isplitr; · iexact Hctx
  isplitl [Hst]; · iexact Hst
  isplitl [Htabs]; · rw [st0_eq]; iexact Htabs
  iintro ⟨Hst, Hdn⟩
  ihave Hdn' := (Entails.of_eq (dn0_eq m d)) $$ Hdn
  ihave Hbufs := (tabs_in m d) $$ [Hdn' Hrest]
  · isplitl [Hdn']; · iexact Hdn'
    iexact Hrest
  ihave Hh := (Entails.of_eq (ub_held (F := F) d (W4 m d))) $$ Hbufs
  iapply (StableHlo.wp_hlo_within 𝒱 (d.tc : Thread nD τ) none Set.univ (op := op2 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  iapply (StableHlo.wp_hlo_within 𝒱 (d.tc : Thread nD τ) none Set.univ (op := op3 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  iapply (StableHlo.wp_hlo_within 𝒱 (d.tc : Thread nD τ) none Set.univ (op := op4 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  iapply (StableHlo.wp_hlo_within 𝒱 (d.tc : Thread nD τ) none Set.univ (op := op5 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  ihave Hbufs := (Entails.of_eq (ub_eight m d)) $$ Hh
  ihave Hst' := (Entails.of_eq ((rfl : ((K (F := F)).tcSt EH d ((0 : Fin 1).val + 1) : sProp 𝕄) = (K (F := F)).tcSt EH d 1).trans e1)) $$ Hst
  icases Hst' with ⟨HO, HR⟩
  iapply (wp_region (regB m d b1) d _)
  isplitr [Hb Hbufs HO Hg1 Ht1]
  swap
  · isplitl [Hb]; · iexact Hb
    isplitl [Hbufs HO]
    · iapply (Entails.of_eq (regB_pre m d b1))
      isplitl [Hbufs]; · iexact Hbufs
      iexact HO
    isplitr; · iexact Hlv
    isplitl [Hg1]; · iexact Hg1
    iexact Ht1
  iintro ⟨Hb, Hpost⟩
  ihave Hpost' := (Entails.of_eq (regB_post m d b1)) $$ Hpost
  icases Hpost' with ⟨Hbufs, HO⟩
  ihave Hst := (Entails.of_eq e1.symm) $$ [HO HR]
  · isplitl [HO]; · iexact HO
    iexact HR
  ihave Hh := (Entails.of_eq (ub_held (F := F) d (W9 m d))) $$ Hbufs
  iapply (StableHlo.wp_hlo_within 𝒱 (d.tc : Thread nD τ) none Set.univ (op := op6 (F := F)) (Pipeline.sub_ucRefs _ (StableHlo.reshape_bufs_sub _ _ _ _ _ _))) $$ [Hb Hh]
  · isplitl [Hb]; · iexact Hb
    iexact Hh
  iintro ⟨Hb, Hh⟩
  rw [wp_ret]; imodintro
  imodintro
  isplitl [Hst]; · iexact Hst
  isplitl [Hh]; · iexact Hh
  isplitl [Hb]; · iexact Hb
  iexact Hts

/-! ## The run -/

def fq (d : Dev nD) (s' : Phys nD τ sig (Elt F)) : Prop := ∀ b ∈ Pipeline.ucRefs τ sig, s'.mem.mem (d, b) = W10 m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro; exact h

/-- Every unscoped buffer of every device holds its final contents, and every counter reads zero. -/
def QC : PUnit × MemSt nD τ sig (Elt F) → Prop := fun r => (∀ d : Dev nD, ∀ b ∈ Pipeline.ucRefs τ sig, r.2.mem (d, b) = W10 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (G m) (FIN m) (u₀ (F := F) m) (sep_elim_left.trans (hu₀ m)) (hmain m ρ) (fq m) (hfin m) (QC m) (fun _ h hz => ⟨h, hz⟩)

end Cert.Moe

end
-- ==== Proof.Frames.lean ====
/- What the whole run says of the arguments and of the result, and the two frames of the kernel: one run at any float
   values, read at the hardware's words and at the extended reals. -/
module

public import proofs.«01_k».proof.Proof.Main
public import proofs.«01_k».proof.Proof.Gen.Kernel

@[expose] public section

noncomputable section

namespace Cert.Moe

open Cert.KernelIdeal hiding ix2
open Cert.KernelIdeal.Gen
open Idealize.ShloMosaic
open Idealize.ShloMosaic.TcCoe
open Idealize.SL.Sem

variable {F : FTy → Type} [FloatOps F]

variable (m : (ℓ : Loc nD τ sig) → Buf (Elt F) ℓ) (ρ : Dev nD → PrngReg)

/-- A reference that nothing before the logits call writes, -/
theorem W2_kept (d : Dev nD) (r : Ref sig .tc) (h0 : r ≠ main_v0) (h1 : r ≠ main_v1) : W2 m d (tcb r) = m (d, tcb r) := by
  unfold W2
  refine (StableHlo.reshape_result_ne _ _ _ _ _ _ _ h1).trans ?_
  exact StableHlo.reshape_result_ne _ _ _ _ _ _ _ h0

/-- nor the SparseCore call nor the reshapes of its tables, -/
theorem W8_kept (d : Dev nD) (r : Ref sig .tc) (h4 : r ≠ main_v4) (h5 : r ≠ main_v5) (h6 : r ≠ main_v6) (h7 : r ≠ main_v7) :
    W8 m d (tcb r) = W4 m d (tcb r) := by
  unfold W8
  refine (StableHlo.reshape_result_ne _ _ _ _ _ _ _ h7).trans ?_
  refine (StableHlo.reshape_result_ne _ _ _ _ _ _ _ h6).trans ?_
  refine (StableHlo.reshape_result_ne _ _ _ _ _ _ _ h5).trans ?_
  exact StableHlo.reshape_result_ne _ _ _ _ _ _ _ h4

theorem W8_W2 (d : Dev nD) (r : Ref sig .tc) (h2 : r ≠ main_v2)
    (h30 : r ≠ main_v3_0) (h31 : r ≠ main_v3_1) (h32 : r ≠ main_v3_2) (h33 : r ≠ main_v3_3)
    (h4 : r ≠ main_v4) (h5 : r ≠ main_v5) (h6 : r ≠ main_v6) (h7 : r ≠ main_v7) : W8 m d (tcb r) = W2 m d (tcb r) :=
  ((W8_kept m d r h4 h5 h6 h7).trans (W4_ne m d r h30 h31 h32 h33)).trans (W3_ne m d r h2)

/-- nor anything after: it ends as it began. -/
theorem W10_kept [∀ e, Nonempty (Elt F e)] (d : Dev nD) (r : Ref sig .tc) (h0 : r ≠ main_v0) (h1 : r ≠ main_v1) (h2 : r ≠ main_v2)
    (h30 : r ≠ main_v3_0) (h31 : r ≠ main_v3_1) (h32 : r ≠ main_v3_2) (h33 : r ≠ main_v3_3)
    (h4 : r ≠ main_v4) (h5 : r ≠ main_v5) (h6 : r ≠ main_v6) (h7 : r ≠ main_v7) (h8 : r ≠ main_v8) (h9 : r ≠ main_v9) :
    W10 m d (tcb r) = m (d, tcb r) := by
  unfold W10
  refine (StableHlo.reshape_result_ne _ _ _ _ _ _ _ h9).trans ?_
  exact ((W9_ne m d r h8).trans (W8_W2 m d r h2 h30 h31 h32 h33 h4 h5 h6 h7)).trans (W2_kept m d r h0 h1)

theorem mem_uc (r : Ref sig .tc) (h : r.isScoped = false) : tcb r ∈ Pipeline.ucRefs τ sig :=
  Finset.mem_filter.mpr ⟨StableHlo.devRef_mem_tcRefs r, fun h' => Bool.false_ne_true (h.symm.trans h')⟩

/-- Every argument ends unchanged. -/
theorem args_kept [∀ e, Nonempty (Elt F e)] (r : PUnit × MemSt nD τ sig (Elt F)) (h : QC m r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) := by
  have key : ∀ b : Ref sig .tc, b.isScoped = false → b ≠ main_v0 → b ≠ main_v1 → b ≠ main_v2 → b ≠ main_v3_0 → b ≠ main_v3_1 → b ≠ main_v3_2 → b ≠ main_v3_3
      → b ≠ main_v4 → b ≠ main_v5 → b ≠ main_v6 → b ≠ main_v7 → b ≠ main_v8 → b ≠ main_v9 → r.2.mem ((c : Thread nD τ).loc b) = m ((c : Thread nD τ).loc b) :=
    fun b hs h0 h1 h2 h30 h31 h32 h33 h4 h5 h6 h7 h8 h9 => (h.1 c (tcb b) (mem_uc b hs)).trans (W10_kept m c b h0 h1 h2 h30 h31 h32 h33 h4 h5 h6 h7 h8 h9)
  refine ⟨?_, ?_, ?_, ?_, ?_, ?_, ?_, ?_, ?_⟩ <;>
    exact key _ (by decide) (by decide) (by decide) (by decide) (by decide) (by decide) (by decide) (by decide) (by decide) (by decide) (by decide) (by decide) (by decide) (by decide)

/-- The result: the expert call's accumulator, reshaped. -/
theorem result_end [∀ e, Nonempty (Elt F e)] (r : PUnit × MemSt nD τ sig (Elt F)) (h : QC m r) (c : Dev nD) :
    r.2.mem ((c : Thread nD τ).loc main_v9)
      = shapeCast S64x1x1024 (accAt (F := F) (admM m 1) (expM m 0) (V8 m) c 64) shapeCasts_S64x1024_S64x1x1024 := by
  refine (h.1 c (tcb main_v9) (mem_uc main_v9 (by decide))).trans ?_
  unfold W10
  refine (StableHlo.reshape_result' _ _ _ _ _).trans ?_
  exact congrArg (fun v : S64x1024.Idx → F .f32 => shapeCast S64x1x1024 v shapeCasts_S64x1024_S64x1x1024) (W9_v8 m c)

/-- Both programs hand their pipelines the same configurations. -/
theorem same_pcfgs : @Cert.Kernel.pcfgs Bits _ _ = @Cert.KernelIdeal.pcfgs Bits _ _ := rfl

set_option maxHeartbeats 1000000 in
/-- Both programs run the same bodies, label by label. -/
theorem same_bodies : @Cert.Kernel.defs₀ Bits _ _ = @Cert.KernelIdeal.defs₀ Bits _ _ := by
  funext a b c
  unfold Cert.Kernel.defs₀ Cert.KernelIdeal.defs₀
  match a, b, c with
  | .tc, ⟨0, _⟩, (t, s) => rfl
  | .tc, ⟨1, _⟩, _ => rfl
  | .tc, ⟨2, _⟩, (t, s) => rfl
  | .scScalar _, ⟨0, _⟩, _ => rfl
  | .scScalar _, ⟨1, _⟩, _ => rfl
  | .scScalar _, ⟨2, _⟩, _ => rfl
  | .scVector _ _, ⟨0, _⟩, _ => rfl
  | .scVector _ _, ⟨1, _⟩, _ => rfl
  | .scVector _ _, ⟨2, _⟩, _ => rfl

/-- Over any float values, the run leaves every argument as it found it and every counter at zero. -/
theorem run_kept [∀ e, Nonempty (Elt F e)] (ρ : Dev nD → PrngReg) :
    θ_run (Cert.KernelIdeal.defs (F := F)) Cert.KernelIdeal.threads ⟨m, fun _ => 0, ρ⟩ (fun r =>
      (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run Cert.KernelIdeal.defs _ _).mono (fun r h => ⟨fun c => args_kept m r h c, h.2⟩) (run_main m ρ)

set_option maxHeartbeats 4000000 in
/-- The kernel's frame: the same run, once the configurations and the bodies are seen to be the same. -/
theorem frame_kernel : Cert.quiescent_Kernel := by
  intro m ρ _
  have h := run_kept (F := Bits) m ρ
  unfold Cert.Kernel.defs Cert.Kernel.threads Cert.Kernel.main Cert.Kernel.sc
  unfold Cert.KernelIdeal.defs Cert.KernelIdeal.threads Cert.KernelIdeal.main Cert.KernelIdeal.sc at h
  rw [same_pcfgs, same_bodies]
  exact h

/-- The idealized kernel's frame. -/
theorem frame_ideal : Cert.quiescent_KernelIdeal := fun m ρ _ => run_kept (F := Ideal) m ρ

end Cert.Moe

end
-- ==== Proof.RefTerm.lean ====
/- The reference's composed term by stages: the logits, their softmax, its two greatest, the weights, the indices as the
   gather takes them, the experts' products, and the sum. -/
module

public import proofs.«01_k».proof.Proof.Gen.ReferenceIdeal.Run

@[expose] public section

noncomputable section

namespace Cert.Moe.Ref

open Cert.ReferenceIdeal Cert.ReferenceIdeal.Gen Idealize.ShloMosaic Idealize.ShloMosaic.TcCoe Idealize.SL.Sem

variable {F : FTy → Type} [FloatOps F]

/-- The logits. -/
def lgt (x : FVec F S64x1x1024 .f32) (wr : FVec F S1024x64 .f32) (br : FVec F S64 .f32) : FVec F S64x1x64 .f32 :=
  addf (Host.dotGeneral dot_S64x1x1024_S1024x64_S64x1x64_2_0_01_1_n_n none x wr)
    (broadcastInDim S64x1x64 ![0, 1, 2] bcast_S1x1x64_S64x1x64_0_1_2 (broadcastInDim S1x1x64 ![2] bcast_S64_S1x1x64_2 br))

/-- The exponentials of the logits less their maximum. -/
def expo (l : FVec F S64x1x64 .f32) : FVec F S64x1x64 .f32 :=
  Host.exp (subf l (broadcastInDim S64x1x64 ![0, 1, 2] bcast_S64x1x1_S64x1x64_0_1_2 (broadcastInDim S64x1x1 ![0, 1] bcast_S64x1_S64x1x1_0_1
    (maximumf (broadcastInDim S64x1 ![] bcast_S_S64x1 (constant S_ .f32 0xFF800000#32))
      (Host.reduce FloatOps.maximumf l (constant S_ .f32 0xFF800000#32) reducesTo_S64x1x64_S64x1_d2 h_S_)))))

/-- The softmax. -/
def prob (l : FVec F S64x1x64 .f32) : FVec F S64x1x64 .f32 :=
  Host.divf (expo l) (broadcastInDim S64x1x64 ![0, 1, 2] bcast_S64x1x1_S64x1x64_0_1_2 (broadcastInDim S64x1x1 ![0, 1] bcast_S64x1_S64x1x1_0_1
    (Host.reduceAdd (expo l) (constant S_ .f32 0x00000000#32) reducesTo_S64x1x64_S64x1_d2 h_S_)))

/-- The two greatest of each token and their experts. -/
def two (p : FVec F S64x1x64 .f32) : FVec F S64x1x2 .f32 × IVec S64x1x2 32 :=
  Host.topK S64x1x2 2 (FloatOps.cmpfTotal .gt) p sliceFits_S64x1x64_S64x1x2

/-- The weights: the two made to sum to one. -/
def wts (v : FVec F S64x1x2 .f32) : FVec F S64x1x2 .f32 :=
  Host.divf v (broadcastInDim S64x1x2 ![0, 1, 2] bcast_S64x1x1_S64x1x2_0_1_2 (broadcastInDim S64x1x1 ![0, 1] bcast_S64x1_S64x1x1_0_1
    (Host.reduceAdd v (constant S_ .f32 0x00000000#32) reducesTo_S64x1x2_S64x1_d2 h_S_)))

/-- The experts as the gather takes them: a negative one moved up by 64. -/
def idxs (i : IVec S64x1x2 32) : IVec S64x2x1 32 :=
  shapeCast _ (select (cmpi .slt (broadcastInDim S64x1x2x1 ![0, 1, 2] bcast_S64x1x2_S64x1x2x1_0_1_2 i) (broadcastInDim S64x1x2x1 ![] bcast_S_S64x1x2x1 (constantI S_ 32 0#32)))
    (addi (broadcastInDim S64x1x2x1 ![0, 1, 2] bcast_S64x1x2_S64x1x2x1_0_1_2 i) (broadcastInDim S64x1x2x1 ![] bcast_S_S64x1x2x1 (constantI S_ 32 64#32)))
    (broadcastInDim S64x1x2x1 ![0, 1, 2] bcast_S64x1x2_S64x1x2x1_0_1_2 i)) shapeCasts_S64x1x2x1_S64x2x1

/-- Which of them are in range. -/
def inr (i : IVec S64x2x1 32) : IVec S64x2 1 :=
  Host.reduce IntOp.andi (andi (cmpi .sge i (broadcastInDim S64x2x1 ![] bcast_S_S64x2x1 (constantI S_ 32 0#32)))
    (cmpi .sle i (broadcastInDim S64x2x1 ![0, 1, 2] bcast_S1x1x1_S64x2x1_0_1_2 (broadcastInDim S1x1x1 ![2] bcast_S1_S1x1x1_2 (constantI S1 32 63#32)))))
    (constantI S_ 1 1#1) reducesTo_S64x2x1_S64x2_d2 h_S_

/-- The second layer, of every token under every expert. -/
def hid (x : FVec F S64x1x1024 .f32) (w1 : FVec F S64x1024x512 .f32) (b1 : FVec F S64x512 .f32) (w2 : FVec F S64x512x512 .f32) (b2 : FVec F S64x512 .f32) :
    FVec F S64x1x64x512 .f32 :=
  addf (transpose S64x1x64x512 [2, 3, 0, 1] (Host.dotGeneral dot_S64x512x512_S64x1x64x512_S64x512x64x1_1_3_2_01_0_2 none w2
      (addf (Host.dotGeneral dot_S64x1x1024_S64x1024x512_S64x1x64x512_2_1_01_02_n_n none x w1)
        (broadcastInDim S64x1x64x512 ![0, 1, 2, 3] bcast_S1x1x64x512_S64x1x64x512_0_1_2_3 (broadcastInDim S1x1x64x512 ![2, 3] bcast_S64x512_S1x1x64x512_2_3 b1))))
      transposes_S64x512x64x1_S64x1x64x512_2_3_0_1)
    (broadcastInDim S64x1x64x512 ![0, 1, 2, 3] bcast_S1x1x64x512_S64x1x64x512_0_1_2_3 (broadcastInDim S1x1x64x512 ![2, 3] bcast_S64x512_S1x1x64x512_2_3 b2))

/-- The third layer, of the second's gated values. -/
def outs (h : FVec F S64x1x64x512 .f32) (w3 : FVec F S64x512x1024 .f32) (b3 : FVec F S64x1024 .f32) : FVec F S64x1x64x1024 .f32 :=
  addf (transpose S64x1x64x1024 [2, 3, 0, 1] (Host.dotGeneral dot_S64x512x1024_S64x1x64x512_S64x1024x64x1_1_3_2_01_0_2 none w3
      (mulf h (Host.divf (broadcastInDim S64x1x64x512 ![] bcast_S_S64x1x64x512 (constant S_ .f32 0x3F800000#32))
        (addf (broadcastInDim S64x1x64x512 ![] bcast_S_S64x1x64x512 (constant S_ .f32 0x3F800000#32)) (Host.exp (Host.negf h))))))
      transposes_S64x1024x64x1_S64x1x64x1024_2_3_0_1)
    (broadcastInDim S64x1x64x1024 ![0, 1, 2, 3] bcast_S1x1x64x1024_S64x1x64x1024_0_1_2_3 (broadcastInDim S1x1x64x1024 ![2, 3] bcast_S64x1024_S1x1x64x1024_2_3 b3))

/-- The two products the token's experts gave, a junk value where the index is out of range. -/
def sel (i : IVec S64x2x1 32) (y : FVec F S64x1x64x1024 .f32) : FVec F S64x1x2x1024 .f32 :=
  select (broadcastInDim S64x1x2x1024 ![0, 2] bcast_S64x2_S64x1x2x1024_0_2 (inr i))
    (Host.gather gather_S64x1x64x1024_S64x2x1_S64x1x2x1024_13_2_0_0_2_2_1111024 y i)
    (broadcastInDim S64x1x2x1024 ![] bcast_S_S64x1x2x1024 (constant S_ .f32 0x7FC00000#32))

/-- The weighted sum. -/
def sumw (w : FVec F S64x1x2 .f32) (s : FVec F S64x1x2x1024 .f32) : FVec F S64x1x1024 .f32 :=
  Host.reduceAdd (mulf (broadcastInDim S64x1x2x1024 ![0, 1, 2, 3] bcast_S64x1x2x1_S64x1x2x1024_0_1_2_3
    (broadcastInDim S64x1x2x1 ![0, 1, 2] bcast_S64x1x2_S64x1x2x1_0_1_2 w)) s) (constant S_ .f32 0x00000000#32) reducesTo_S64x1x2x1024_S64x1x1024_d2 h_S_

/-- The reference's result, of its nine arguments. -/
def val (x : FVec F S64x1x1024 .f32) (wr : FVec F S1024x64 .f32) (br : FVec F S64 .f32) (w1 : FVec F S64x1024x512 .f32) (b1 : FVec F S64x512 .f32)
    (w2 : FVec F S64x512x512 .f32) (b2 : FVec F S64x512 .f32) (w3 : FVec F S64x512x1024 .f32) (b3 : FVec F S64x1024 .f32) : FVec F S64x1x1024 .f32 :=
  sumw (wts (two (prob (lgt x wr br))).1) (sel (idxs (two (prob (lgt x wr br))).2) (outs (hid x w1 b1 w2 b2) w3 b3))

set_option maxRecDepth 8192 in
theorem out_eq (m : (ℓ : Loc nD τ sig) → Buf (Elt F) ℓ) (c : Dev nD) :
    Value.res_out0 m c = val (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_out0 Value.res_main_v39 val sumw sel outs hid inr idxs wts two prob expo lgt
  rfl

end Cert.Moe.Ref

end
-- ==== Proof.Reads.lean ====
/- The payloads and the reference's stages over the extended reals, read at an index. -/
module

public import proofs.«01_k».proof.Proof.RefTerm
public import proofs.«01_k».proof.Proof.Logits
public import Idealize.ShloMosaic.Lib.Pointwise
public import Idealize.ShloMosaic.Lib.Tactic.CleanTypes

@[expose] public section

noncomputable section

namespace Cert.Moe

open Cert.KernelIdeal hiding ix2
open Cert.KernelIdeal.Gen
open Idealize.ShloMosaic

set_option maxRecDepth 16384
set_option maxHeartbeats 1000000

/-- The transposed logits. -/
theorem lgtT_at (wr : FVec Ideal S1024x64 .f32) (x : FVec Ideal S64x1024 .f32) (b : FVec Ideal S64x1 .f32) (e t : Fin 64) :
    k0_pay1 (F := Ideal) wr x b (ix2 e t) = (∑ k : Fin 1024, (wr (ix2 k e) : EReal) * x (ix2 t k)) + b (ix2 e 0) := by
  pointwise! [k0_pay1]

/-- The reference's. -/
theorem Ref.lgt_at (x : FVec Ideal S64x1x1024 .f32) (wr : FVec Ideal S1024x64 .f32) (b : FVec Ideal S64 .f32) (t e : Fin 64) :
    Ref.lgt (F := Ideal) x wr b (ix3 t 0 e) = (∑ k : Fin 1024, (x (ix3 t 0 k) : EReal) * wr (ix2 k e)) + b (ix1 e) := by
  pointwise! [Ref.lgt]

/-- The gate. -/
def gate (h : EReal) : EReal := h * Ideal.div 1 (1 + Ideal.exp (-h))

/-- The second layer's value. -/
def hidAt (x : Fin 1024 → EReal) (w1 : Fin 1024 → Fin 512 → EReal) (b1 : Fin 512 → EReal) (w2 : Fin 512 → Fin 512 → EReal) (b2 : Fin 512 → EReal) (g : Fin 512) : EReal :=
  (∑ h : Fin 512, ((∑ k : Fin 1024, x k * w1 k h) + b1 h) * w2 h g) + b2 g
/-- The third layer's value. -/
def ffnAt (x : Fin 1024 → EReal) (w1 : Fin 1024 → Fin 512 → EReal) (b1 : Fin 512 → EReal) (w2 : Fin 512 → Fin 512 → EReal) (b2 : Fin 512 → EReal)
    (w3 : Fin 512 → EReal) (b3 : EReal) : EReal :=
  (∑ g : Fin 512, gate (hidAt x w1 b1 w2 b2 g) * w3 g) + b3

theorem ffn_at (x : FVec Ideal S64x1024 .f32) (w1 : FVec Ideal S1x1024x512 .f32) (b1 : FVec Ideal S1x512 .f32) (w2 : FVec Ideal S1x512x512 .f32)
    (b2 : FVec Ideal S1x512 .f32) (w3 : FVec Ideal S1x512x1024 .f32) (b3 : FVec Ideal S1x1024 .f32) (t : Fin 64) (d : Fin 1024) :
    k2_pay3 (F := Ideal) x w1 b1 w2 b2 w3 b3 (ix2 t d)
      = ffnAt (fun k => x (ix2 t k)) (fun k h => w1 (ix3 0 k h)) (fun h => b1 (ix2 0 h)) (fun h g => w2 (ix3 0 h g)) (fun g => b2 (ix2 0 g))
          (fun g => w3 (ix3 0 g d)) (b3 (ix2 0 d)) := by
  unfold ffnAt gate hidAt
  pointwise! [k2_pay3]
  simp only [zero_sub]

theorem Ref.hid_at (x : FVec Ideal S64x1x1024 .f32) (w1 : FVec Ideal S64x1024x512 .f32) (b1 : FVec Ideal S64x512 .f32) (w2 : FVec Ideal S64x512x512 .f32)
    (b2 : FVec Ideal S64x512 .f32) (t e : Fin 64) (g : Fin 512) :
    Ref.hid (F := Ideal) x w1 b1 w2 b2 (ix4 t 0 e g)
      = hidAt (fun k => x (ix3 t 0 k)) (fun k h => w1 (ix3 e k h)) (fun h => b1 (ix2 e h)) (fun h g => w2 (ix3 e h g)) (fun g => b2 (ix2 e g)) g := by
  unfold hidAt
  pointwise! [Ref.hid]

theorem Ref.outs_at (h : FVec Ideal Cert.ReferenceIdeal.S64x1x64x512 .f32) (w3 : FVec Ideal S64x512x1024 .f32) (b3 : FVec Ideal S64x1024 .f32) (t e : Fin 64) (d : Fin 1024) :
    Ref.outs (F := Ideal) h w3 b3 (ix4 t 0 e d) = (∑ g : Fin 512, gate (h (ix4 t 0 e g)) * w3 (ix3 e g d)) + b3 (ix2 e d) := by
  unfold gate
  pointwise! [Ref.outs]

theorem Ref.sumw_at (w : FVec Ideal Cert.ReferenceIdeal.S64x1x2 .f32) (s : FVec Ideal Cert.ReferenceIdeal.S64x1x2x1024 .f32) (t : Fin 64) (d : Fin 1024) :
    Ref.sumw (F := Ideal) w s (ix3 t 0 d) = (w (ix3 t 0 0) : EReal) * s (ix4 t 0 0 d) + w (ix3 t 0 1) * s (ix4 t 0 1 d) := by
  pointwise [Ref.sumw]
  rw [Fin.sum_univ_two]

theorem Ref.wts_at (v : FVec Ideal Cert.ReferenceIdeal.S64x1x2 .f32) (t : Fin 64) (k : Fin 2) :
    Ref.wts (F := Ideal) v (ix3 t 0 k) = Ideal.div (v (ix3 t 0 k)) (v (ix3 t 0 0) + v (ix3 t 0 1)) := by
  pointwise [Ref.wts]
  rw [Fin.sum_univ_two]

theorem Ref.expo_at (l : FVec Ideal Cert.ReferenceIdeal.S64x1x64 .f32) (t e : Fin 64) :
    Ref.expo (F := Ideal) l (ix3 t 0 e)
      = Ideal.exp (l (ix3 t 0 e) - max (Ideal.ofBits .f32 0xFF800000#32) (Finset.univ.fold max (Ideal.ofBits .f32 0xFF800000#32) fun k : Fin 64 => (l (ix3 t 0 k) : EReal))) := by
  pointwise [Ref.expo]

theorem Ref.prob_at (l : FVec Ideal Cert.ReferenceIdeal.S64x1x64 .f32) (t e : Fin 64) :
    Ref.prob (F := Ideal) l (ix3 t 0 e)
      = Ideal.div (Ref.expo (F := Ideal) l (ix3 t 0 e)) (∑ k : Fin 64, (Ref.expo (F := Ideal) l (ix3 t 0 k) : EReal)) := by
  pointwise [Ref.prob]

end Cert.Moe

end
-- ==== Proof.Expand.lean ====
/- What a point of the expert call adds, over the extended reals: the expert's feed-forward scaled by the weight the token gave it. -/
module

public import proofs.«01_k».proof.Proof.Reads
public import proofs.«01_k».proof.Proof.ExpertBody
public import proofs.«01_k».proof.Proof.Top2

@[expose] public section

noncomputable section

namespace Cert.Moe

open Cert.KernelIdeal hiding ix2
open Cert.KernelIdeal.Gen
open Idealize.ShloMosaic

set_option maxRecDepth 16384
set_option maxHeartbeats 1000000

theorem zeros_at (t : Fin 64) (d : Fin 1024) : k2_pay1 (F := Ideal) (ix2 t d) = (0 : EReal) := by
  pointwise! [k2_pay1]

/-- The weight a token gives an expert: its two weights where the two picks are the expert, zero elsewhere. -/
def coef (e : Fin 64) (ai : Vec Ideal S2x64 .i32) (wv : Vec Ideal S2x64 .f32) (t : Fin 64) : EReal :=
  (if ai (ix2 0 t) = BitVec.ofNat 32 e.val then (wv (ix2 0 t) : EReal) else 0) + (if ai (ix2 1 t) = BitVec.ofNat 32 e.val then (wv (ix2 1 t) : EReal) else 0)

theorem select_eq {α : Type} (x y : BitVec 32) (a b : α) : Scalar.select (IntOp.cmpi .eq x y) a b = if x = y then a else b := by
  unfold Scalar.select
  by_cases h : x = y
  · subst h; simp [IntOp.cmpi]
  · have hb : (x == y) = false := beq_eq_false_iff_ne.mpr h
    simp [IntOp.cmpi, h, hb]

/-- The diagonal matrix by a matrix scales its rows. -/
theorem diag_sum (t : Fin 64) (c : Fin 64 → EReal) (y : Fin 64 → EReal) :
    (∑ k : Fin 64, (if BitVec.ofNat 32 t.val = BitVec.ofNat 32 k.val then c k else 0) * y k) = c t * y t := by
  rw [Finset.sum_eq_single t]
  · rw [if_pos rfl]
  · intro k _ hk
    rw [if_neg, zero_mul]
    intro h
    apply hk
    have h' := congrArg BitVec.toNat h
    simp only [BitVec.toNat_ofNat] at h'
    exact Fin.ext (by omega)
  · exact fun h => absurd (Finset.mem_univ t) h

theorem scaled_at (e : Fin 64) (y : FVec Ideal S64x1024 .f32) (ai : Vec Ideal S2x64 .i32) (wv : Vec Ideal S2x64 .f32) (acc : Vec Ideal S64x1024 .f32) (t : Fin 64) (d : Fin 1024) :
    k2_pay2 (F := Ideal) (BitVec.ofNat 32 e.val) y (k2_pay4 (F := Ideal) (BitVec.ofNat 32 e.val) (rowOf2 ai 0)) (rowOf2 wv 0) (rowOf2 ai 1) (rowOf2 wv 1) acc (ix2 t d)
      = (acc (ix2 t d) : EReal) + coef e ai wv t * y (ix2 t d) := by
  pointwise [k2_pay2, k2_pay4, rowOf2, select_eq]
  exact congrArg (fun z : EReal => (acc (ix2 t d) : EReal) + z) (diag_sum t (fun k => coef e ai wv k) fun k => y (ix2 k d))

theorem add_at (e : Fin 64) (x : Vec Ideal S64x1024 .f32) (w1 : Vec Ideal S1x1024x512 .f32) (b1 : Vec Ideal S64x512 .f32) (w2 : Vec Ideal S1x512x512 .f32)
    (b2 : Vec Ideal S64x512 .f32) (w3 : Vec Ideal S1x512x1024 .f32) (b3 : Vec Ideal S64x1024 .f32) (ai : Vec Ideal S2x64 .i32) (wv : Vec Ideal S2x64 .f32)
    (acc : Vec Ideal S64x1024 .f32) (t : Fin 64) (d : Fin 1024) :
    expertAdd (F := Ideal) e x w1 b1 w2 b2 w3 b3 ai wv acc (ix2 t d)
      = (acc (ix2 t d) : EReal) + coef e ai wv t * ffnAt (fun k => x (ix2 t k)) (fun k h => w1 (ix3 0 k h)) (fun h => b1 (ix2 e h)) (fun h g => w2 (ix3 0 h g)) (fun g => b2 (ix2 e g))
          (fun g => w3 (ix3 0 g d)) (b3 (ix2 e d)) := by
  unfold expertAdd
  rw [scaled_at, ffn_at]
  rfl

end Cert.Moe

end
-- ==== Proof.Blocks.lean ====
/- The blocks the expert call's windows read: the whole array, or the scheduled expert's matrix. -/
module

public import proofs.«01_k».proof.Proof.Experts
public import Idealize.ShloMosaic.Lib.Pointwise

@[expose] public section

noncomputable section

namespace Cert.Moe

open Cert.KernelIdeal hiding ix2
open Cert.KernelIdeal.Gen
open Idealize.ShloMosaic
open Idealize.ShloMosaic.TcCoe

variable {F : FTy → Type} [FloatOps F]
variable (A : (pcfg2 (F := F)).Adm) (E : Fin 64 → Fin 64) (V : Val1 F)

theorem blk0 (c : Dev nD) (t : Fin grid2.N) : blkOf A V c 0 t = V c main_v0 := by
  have hz : (fun a => (win2 A 0).index t a * main_v0.ty.shape.size a) = fun _ => 0 := funext fun a => by fin_cases a <;> rfl
  exact Memref.read_access_unit_zero (Elt F) main_v0 hz (fun a => by rw [congrFun hz a]; simp) (V c main_v0)
theorem blk2 (c : Dev nD) (t : Fin grid2.N) : blkOf A V c 2 t = V c main_arg4 := by
  have hz : (fun a => (win2 A 2).index t a * main_arg4.ty.shape.size a) = fun _ => 0 := funext fun a => by fin_cases a <;> rfl
  exact Memref.read_access_unit_zero (Elt F) main_arg4 hz (fun a => by rw [congrFun hz a]; simp) (V c main_arg4)
theorem blk4 (c : Dev nD) (t : Fin grid2.N) : blkOf A V c 4 t = V c main_arg6 := by
  have hz : (fun a => (win2 A 4).index t a * main_arg6.ty.shape.size a) = fun _ => 0 := funext fun a => by fin_cases a <;> rfl
  exact Memref.read_access_unit_zero (Elt F) main_arg6 hz (fun a => by rw [congrFun hz a]; simp) (V c main_arg6)
theorem blk6 (c : Dev nD) (t : Fin grid2.N) : blkOf A V c 6 t = V c main_arg8 := by
  have hz : (fun a => (win2 A 6).index t a * main_arg8.ty.shape.size a) = fun _ => 0 := funext fun a => by fin_cases a <;> rfl
  exact Memref.read_access_unit_zero (Elt F) main_arg8 hz (fun a => by rw [congrFun hz a]; simp) (V c main_arg8)
theorem blk7 (c : Dev nD) (t : Fin grid2.N) : blkOf A V c 7 t = V c main_v3_0 := by
  have hz : (fun a => (win2 A 7).index t a * main_v3_0.ty.shape.size a) = fun _ => 0 := funext fun a => by fin_cases a <;> rfl
  exact Memref.read_access_unit_zero (Elt F) main_v3_0 hz (fun a => by rw [congrFun hz a]; simp) (V c main_v3_0)
theorem blk8 (c : Dev nD) (t : Fin grid2.N) : blkOf A V c 8 t = V c main_v3_1 := by
  have hz : (fun a => (win2 A 8).index t a * main_v3_1.ty.shape.size a) = fun _ => 0 := funext fun a => by fin_cases a <;> rfl
  exact Memref.read_access_unit_zero (Elt F) main_v3_1 hz (fun a => by rw [congrFun hz a]; simp) (V c main_v3_1)

/-- The table's place a point's windows read is the point's own. -/
theorem off1_idx (i : grid2.Coords) (h : 0 < S1.numel) : (Rect.unit (s := S64) (k2_off1 i) S1.size (k2_off1_inb i)).emb (Shape.Idx.first h) = ix1 (i 0) := by
  funext a
  match a with
  | 0 =>
    apply Fin.ext
    show (BitVec.ofNat 32 (i 0).val).toNat + 1 * 0 = (i 0).val
    have h : (i 0).val < 64 := (i 0).isLt
    rw [BitVec.toNat_ofNat]; omega

/-- The schedule's word at a point. -/
theorem sched_word (hE : SchedIs A E) (g : Fin 64) (j : S64.Idx) (hj : j = ix1 g) : (A.1 0 j : BitVec 32).toNat = (E g).val := by
  subst hj
  refine (congrArg BitVec.toNat (hE g)).trans ?_
  rw [BitVec.toNat_ofNat]
  have := (E g).isLt
  omega

theorem index1 (hE : SchedIs A E) (t : Fin grid2.N) : (win2 A 1).index t = ![(E (grid2.coords t 0)).val, 0, 0] := by
  funext a
  match a with
  | 0 => exact sched_word A E hE (grid2.coords t 0) _ (off1_idx (grid2.coords t) _)
  | 1 => rfl
  | 2 => rfl
theorem blk1_at (hE : SchedIs A E) (c : Dev nD) (t : Fin grid2.N) (k : Fin 1024) (h : Fin 512) :
    (blkOf A V c 1 t : S1x1024x512.Idx → F .f32) (ix3 0 k h) = (V c main_arg3 : S64x1024x512.Idx → F .f32) (ix3 (E (grid2.coords t 0)) k h) := by
  show (V c main_arg3 : S64x1024x512.Idx → F .f32) (((win2 A 1).rect t).emb (ix3 0 k h)) = _
  refine congrArg (V c main_arg3 : S64x1024x512.Idx → F .f32) (funext fun a => Fin.ext ?_)
  have hi := index1 A E hE t
  match a with
  | 0 => show (win2 A 1).index t 0 * 1 + 1 * 0 = _; rw [hi]; show (E (grid2.coords t 0)).val * 1 + 1 * 0 = (E (grid2.coords t 0)).val; omega
  | 1 => show (win2 A 1).index t 1 * 1024 + 1 * k.val = _; rw [hi]; show 0 * 1024 + 1 * k.val = k.val; omega
  | 2 => show (win2 A 1).index t 2 * 512 + 1 * h.val = _; rw [hi]; show 0 * 512 + 1 * h.val = h.val; omega

theorem index3 (hE : SchedIs A E) (t : Fin grid2.N) : (win2 A 3).index t = ![(E (grid2.coords t 0)).val, 0, 0] := by
  funext a
  match a with
  | 0 => exact sched_word A E hE (grid2.coords t 0) _ (off1_idx (grid2.coords t) _)
  | 1 => rfl
  | 2 => rfl
theorem blk3_at (hE : SchedIs A E) (c : Dev nD) (t : Fin grid2.N) (k : Fin 512) (h : Fin 512) :
    (blkOf A V c 3 t : S1x512x512.Idx → F .f32) (ix3 0 k h) = (V c main_arg5 : S64x512x512.Idx → F .f32) (ix3 (E (grid2.coords t 0)) k h) := by
  show (V c main_arg5 : S64x512x512.Idx → F .f32) (((win2 A 3).rect t).emb (ix3 0 k h)) = _
  refine congrArg (V c main_arg5 : S64x512x512.Idx → F .f32) (funext fun a => Fin.ext ?_)
  have hi := index3 A E hE t
  match a with
  | 0 => show (win2 A 3).index t 0 * 1 + 1 * 0 = _; rw [hi]; show (E (grid2.coords t 0)).val * 1 + 1 * 0 = (E (grid2.coords t 0)).val; omega
  | 1 => show (win2 A 3).index t 1 * 512 + 1 * k.val = _; rw [hi]; show 0 * 512 + 1 * k.val = k.val; omega
  | 2 => show (win2 A 3).index t 2 * 512 + 1 * h.val = _; rw [hi]; show 0 * 512 + 1 * h.val = h.val; omega

theorem index5 (hE : SchedIs A E) (t : Fin grid2.N) : (win2 A 5).index t = ![(E (grid2.coords t 0)).val, 0, 0] := by
  funext a
  match a with
  | 0 => exact sched_word A E hE (grid2.coords t 0) _ (off1_idx (grid2.coords t) _)
  | 1 => rfl
  | 2 => rfl
theorem blk5_at (hE : SchedIs A E) (c : Dev nD) (t : Fin grid2.N) (k : Fin 512) (h : Fin 1024) :
    (blkOf A V c 5 t : S1x512x1024.Idx → F .f32) (ix3 0 k h) = (V c main_arg7 : S64x512x1024.Idx → F .f32) (ix3 (E (grid2.coords t 0)) k h) := by
  show (V c main_arg7 : S64x512x1024.Idx → F .f32) (((win2 A 5).rect t).emb (ix3 0 k h)) = _
  refine congrArg (V c main_arg7 : S64x512x1024.Idx → F .f32) (funext fun a => Fin.ext ?_)
  have hi := index5 A E hE t
  match a with
  | 0 => show (win2 A 5).index t 0 * 1 + 1 * 0 = _; rw [hi]; show (E (grid2.coords t 0)).val * 1 + 1 * 0 = (E (grid2.coords t 0)).val; omega
  | 1 => show (win2 A 5).index t 1 * 512 + 1 * k.val = _; rw [hi]; show 0 * 512 + 1 * k.val = k.val; omega
  | 2 => show (win2 A 5).index t 2 * 1024 + 1 * h.val = _; rw [hi]; show 0 * 1024 + 1 * h.val = h.val; omega

end Cert.Moe

end
-- ==== Proof.TopTwo.lean ====
/- The running top two over the extended reals: after sixty-four experts, with every logit above minus infinity, the state
   names the greatest logit and the greatest of the rest, the lower expert first among equals. -/
module

public import proofs.«01_k».proof.Proof.Top2
public import Idealize.ShloMosaic.PureOps.Ideal.Laws

@[expose] public section

noncomputable section

namespace Cert.Moe

open Cert.KernelIdeal hiding ix2
open Cert.KernelIdeal.Gen
open Idealize.ShloMosaic

/-- Expert `a` comes before expert `b`: its value is the greater, or they are equal and `a` is the lower. -/
def Bef (v : Fin 64 → EReal) (a b : Fin 64) : Prop := v b < v a ∨ (v a = v b ∧ a < b)

/-- `a` comes before all others, and `b` before all but `a`. -/
def Firsts (v : Fin 64 → EReal) (a b : Fin 64) : Prop :=
  a ≠ b ∧ (∀ e, e ≠ a → Bef v a e) ∧ ∀ e, e ≠ a → e ≠ b → Bef v b e

theorem gt_iff (x y : EReal) : (FloatOps.cmpf (F := Ideal) (φ := .f32) .ogt x y : BitVec 1) = 1 ↔ y < x := by
  show BitVec.ofBool (decide (y < x)) = 1 ↔ _
  by_cases h : y < x <;> simp [h]

theorem select_gt {α : Type} (x y : EReal) (a b : α) :
    Scalar.select (FloatOps.cmpf (F := Ideal) (φ := .f32) .ogt x y) a b = if y < x then a else b := by
  unfold Scalar.select
  exact if_congr (gt_iff x y) rfl rfl

theorem step1_ideal (e : BitVec 32) (v m1 m2 : EReal) (a1 a2 : BitVec 32) :
    step1 (F := Ideal) e v (m1, a1, m2, a2) = if m1 < v then (v, e, m1, a1) else if m2 < v then (m1, a1, v, e) else (m1, a1, m2, a2) := by
  unfold step1
  simp only [select_gt]
  split <;> [rfl; split <;> rfl]

theorem ninf_eq : (ninf : Ideal .f32) = (⊥ : EReal) := by
  show Ideal.ofBits .f32 0xFF800000#32 = ⊥
  simp [Ideal.ofBits, Ideal.ieee]

/-- The state after the first `n + 2` experts. -/
theorem top_inv (lt : S64x64.Idx → Ideal .f32) (t : Fin 64) (hf : ∀ e : Fin 64, (⊥ : EReal) < lt (ix2 e t)) (n : ℕ) (hn : n + 2 ≤ 64) :
    ∃ a b : Fin 64, a.val < n + 2 ∧ b.val < n + 2 ∧ top lt t (n + 2) = (lt (ix2 a t), BitVec.ofNat 32 a.val, lt (ix2 b t), BitVec.ofNat 32 b.val)
      ∧ a ≠ b ∧ (∀ e : Fin 64, e.val < n + 2 → e ≠ a → Bef (fun e => lt (ix2 e t)) a e)
      ∧ (∀ e : Fin 64, e.val < n + 2 → e ≠ a → e ≠ b → Bef (fun e => lt (ix2 e t)) b e) := by
  induction n with
  | zero =>
    have e0 : top lt t 0 = (⊥, 0#32, ⊥, 0#32) := by show ((ninf : Ideal .f32), 0#32, (ninf : Ideal .f32), 0#32) = _; rw [ninf_eq]
    have e1 : top lt t 1 = (lt (ix2 0 t), 0#32, ⊥, 0#32) := by
      rw [top_succ lt t 0 (by omega), e0, step1_ideal, if_pos (hf _)]; rfl
    have e2 : top lt t 2 = _ := top_succ lt t 1 (by omega)
    rw [e1, step1_ideal] at e2
    by_cases h : (lt (ix2 0 t) : EReal) < lt (ix2 1 t)
    · refine ⟨1, 0, by decide, by decide, e2.trans (if_pos h), by decide, ?_, ?_⟩
      · intro e he hne
        obtain rfl : e = 0 := by apply Fin.ext; have : e.val ≠ 1 := fun h => hne (Fin.ext h); show e.val = 0; omega
        exact .inl h
      · intro e he h1 h0
        exact absurd (Fin.ext (by have : e.val ≠ 1 := fun h => h1 (Fin.ext h); show e.val = 0; omega)) h0
    · refine ⟨0, 1, by decide, by decide, (e2.trans (if_neg h)).trans (if_pos (hf _)), by decide, ?_, ?_⟩
      · intro e he hne
        obtain rfl : e = 1 := by apply Fin.ext; have : e.val ≠ 0 := fun h => hne (Fin.ext h); show e.val = 1; omega
        rcases lt_or_eq_of_le (not_lt.mp h) with h | h
        · exact .inl h
        · exact .inr ⟨h.symm, by decide⟩
      · intro e he h0 h1
        exact absurd (Fin.ext (by have : e.val ≠ 0 := fun h => h0 (Fin.ext h); show e.val = 1; omega)) h1
  | succ n ih =>
    obtain ⟨a, b, ha, hb, hs, hab, h1, h2⟩ := ih (by omega)
    have hlt : n + 2 < 64 := by omega
    have e2 : top lt t (n + 1 + 2) = _ := top_succ lt t (n + 2) hlt
    rw [hs, step1_ideal] at e2
    have hna : (⟨n + 2, hlt⟩ : Fin 64) ≠ a := fun h => by rw [← h] at ha; exact absurd ha (lt_irrefl _)
    have hnb : (⟨n + 2, hlt⟩ : Fin 64) ≠ b := fun h => by rw [← h] at hb; exact absurd hb (lt_irrefl _)
    have split : ∀ e : Fin 64, e.val < n + 1 + 2 → e.val < n + 2 ∨ e = ⟨n + 2, hlt⟩ := fun e he => by
      rcases Nat.lt_or_ge e.val (n + 2) with h | h
      · exact .inl h
      · exact .inr (Fin.ext (by show e.val = n + 2; omega))
    have le1 : ∀ e : Fin 64, e.val < n + 2 → (lt (ix2 e t) : EReal) ≤ lt (ix2 a t) := fun e he => by
      by_cases h : e = a
      · rw [h]
      · rcases h1 e he h with h | ⟨h, _⟩
        · exact h.le
        · exact h.ge
    have le2 : ∀ e : Fin 64, e.val < n + 2 → e ≠ a → (lt (ix2 e t) : EReal) ≤ lt (ix2 b t) := fun e he hne => by
      by_cases h : e = b
      · rw [h]
      · rcases h2 e he hne h with h | ⟨h, _⟩
        · exact h.le
        · exact h.ge
    by_cases c1 : (lt (ix2 a t) : EReal) < lt (ix2 ⟨n + 2, hlt⟩ t)
    · refine ⟨⟨n + 2, hlt⟩, a, by simp, by omega, e2.trans (if_pos c1), hna, ?_, ?_⟩
      · intro e he hne
        rcases split e he with h | h
        · exact .inl ((le1 e h).trans_lt c1)
        · exact absurd h hne
      · intro e he hne hea
        rcases split e he with h | h
        · exact h1 e h hea
        · exact absurd h hne
    · by_cases c2 : (lt (ix2 b t) : EReal) < lt (ix2 ⟨n + 2, hlt⟩ t)
      · refine ⟨a, ⟨n + 2, hlt⟩, by omega, by simp, (e2.trans (if_neg c1)).trans (if_pos c2), hna.symm, ?_, ?_⟩
        · intro e he hne
          rcases split e he with h | rfl
          · exact h1 e h hne
          · rcases lt_or_eq_of_le (not_lt.mp c1) with h | h
            · exact .inl h
            · exact .inr ⟨h.symm, ha⟩
        · intro e he hea hen
          rcases split e he with h | h
          · exact .inl ((le2 e h hea).trans_lt c2)
          · exact absurd h hen
      · refine ⟨a, b, by omega, by omega, (e2.trans (if_neg c1)).trans (if_neg c2), hab, ?_, ?_⟩
        · intro e he hne
          rcases split e he with h | rfl
          · exact h1 e h hne
          · rcases lt_or_eq_of_le (not_lt.mp c1) with h | h
            · exact .inl h
            · exact .inr ⟨h.symm, ha⟩
        · intro e he hea heb
          rcases split e he with h | rfl
          · exact h2 e h hea heb
          · rcases lt_or_eq_of_le (not_lt.mp c2) with h | h
            · exact .inl h
            · exact .inr ⟨h.symm, hb⟩

theorem toNat_expert (a : Fin 64) : (BitVec.ofNat 32 a.val).toNat = a.val := by
  rw [BitVec.toNat_ofNat]; exact Nat.mod_eq_of_lt (by omega)

/-- What the router keeps of a token: the values and numbers of its two picks, which are the first two. -/
theorem top_picks (lt : S64x64.Idx → Ideal .f32) (t : Fin 64) (hf : ∀ e : Fin 64, (⊥ : EReal) < lt (ix2 e t)) :
    top lt t 64 = (lt (ix2 (pick1 lt t) t), BitVec.ofNat 32 (pick1 lt t).val, lt (ix2 (pick2 lt t) t), BitVec.ofNat 32 (pick2 lt t).val)
      ∧ Firsts (fun e => lt (ix2 e t)) (pick1 lt t) (pick2 lt t) := by
  obtain ⟨a, b, _, _, hs, hab, h1, h2⟩ := top_inv lt t hf 62 (by omega)
  have p1 : pick1 lt t = a := Fin.ext (by show (top lt t (62 + 2)).2.1.toNat = _; rw [hs]; exact toNat_expert a)
  have p2 : pick2 lt t = b := Fin.ext (by show (top lt t (62 + 2)).2.2.2.toNat = _; rw [hs]; exact toNat_expert b)
  rw [p1, p2]
  exact ⟨hs, hab, fun e => h1 e e.isLt, fun e => h2 e e.isLt⟩

end Cert.Moe

end
-- ==== Proof.SchedSum.lean ====
/- The sum over the scheduled experts is the sum over a token's two picks. -/
module

public import proofs.«01_k».proof.Proof.Sched
public import proofs.«01_k».proof.Proof.TopTwo
public import Idealize.ShloMosaic.Lib.Pointwise

@[expose] public section

noncomputable section

namespace Cert.Moe

open Cert.KernelIdeal hiding ix2
open Cert.KernelIdeal.Gen
open Idealize.ShloMosaic
open Idealize.ShloMosaic.TcCoe

/-- Below the number of those that hold, every rank is taken. -/
theorem rank_taken (p : ℕ → Prop) [DecidablePred p] (g : ℕ) : ∀ n : ℕ, g < Nat.count p n → ∃ e, e < n ∧ p e ∧ Nat.count p e = g := by
  intro n
  induction n with
  | zero => intro h; simp at h
  | succ n ih =>
    intro h
    rw [Nat.count_succ] at h
    by_cases hn : g < Nat.count p n
    · obtain ⟨e, he, h1, h2⟩ := ih hn
      exact ⟨e, by omega, h1, h2⟩
    · by_cases hp : p n
      · rw [if_pos hp] at h
        exact ⟨n, by omega, hp, by omega⟩
      · rw [if_neg hp] at h
        omega

section

variable (lt : S64x64.Idx → Ideal .f32)

/-- A pick is active. -/
theorem on_of_pick (t : Fin 64) (e : Fin 64) (h : pick1 lt t = e ∨ pick2 lt t = e) : On lt e.val := by
  refine ⟨e.isLt, ?_⟩
  have ha : actOf lt (ix1 ⟨e.val, e.isLt⟩) = oneW := by
    unfold actOf
    exact if_pos ⟨t, h.imp (congrArg Fin.val) (congrArg Fin.val)⟩
  rw [ha]
  have h1 : (oneW : Ideal .f32) = (1 : EReal) := Ideal.ofBits_one_f32
  have h2 : (halfW : Ideal .f32) = (((1 : ℝ) / 2 : ℝ) : EReal) := by
    show Ideal.ofBits .f32 0x3F000000#32 = _
    simp [Ideal.ofBits, Ideal.ieee]
    norm_num
    rw [← EReal.coe_mul, EReal.coe_eq_coe_iff]
    norm_num
  rw [h1, h2]
  show BitVec.ofBool (decide ((((1 : ℝ) / 2 : ℝ) : EReal) < 1)) = 1
  rw [decide_eq_true]
  · rfl
  · rw [← EReal.coe_one, EReal.coe_lt_coe_iff]; norm_num

/-- What a scheduled place adds. -/
def placed (E : Fin 64 → Fin 64) (n : ℕ) (f : Fin 64 → EReal) (g : ℕ) : EReal := if h : g < 64 then (if g < n then f (E ⟨g, h⟩) else 0) else 0

theorem sched_sum (E : Fin 64 → Fin 64) (hE : ∀ g, schedOf lt (ix1 g) = BitVec.ofNat 32 (E g).val) (f : Fin 64 → EReal) (a b : Fin 64) (hab : a ≠ b)
    (ha : On lt a.val) (hb : On lt b.val) (h0 : ∀ e, e ≠ a → e ≠ b → f e = 0) :
    (∑ g ∈ Finset.range 64, placed E (Nat.count (On lt) 64) f g) = f a + f b := by
  have inj : ∀ a b : Fin 64, BitVec.ofNat 32 a.val = BitVec.ofNat 32 b.val → a = b := fun a b h => by
    have h' := congrArg BitVec.toNat h
    rw [toNat_expert, toNat_expert] at h'
    exact Fin.ext h'
  have below : ∀ e : Fin 64, On lt e.val → Nat.count (On lt) e.val < Nat.count (On lt) 64 := fun e h => Nat.count_strict_mono h e.isLt
  have top : Nat.count (On lt) 64 ≤ 64 := Nat.count_le _
  have at' : ∀ e : Fin 64, On lt e.val → placed E (Nat.count (On lt) 64) f (Nat.count (On lt) e.val) = f e := fun e h => by
    have hlt := below e h
    have hg : Nat.count (On lt) e.val < 64 := by omega
    unfold placed
    rw [dif_pos hg, if_pos hlt]
    exact congrArg f (inj _ _ ((hE _).symm.trans (schedOf_on lt e h ⟨_, hg⟩ rfl)))
  rw [Finset.sum_eq_add_of_mem (Nat.count (On lt) a.val) (Nat.count (On lt) b.val) (Finset.mem_range.mpr (by have := below a ha; omega))
    (Finset.mem_range.mpr (by have := below b hb; omega)) (fun h => hab (Fin.ext (Nat.count_injective ha hb h))), at' a ha, at' b hb]
  rintro g hg ⟨hga, hgb⟩
  have hg' : g < 64 := Finset.mem_range.mp hg
  unfold placed
  rw [dif_pos hg']
  by_cases hn : g < Nat.count (On lt) 64
  · rw [if_pos hn]
    obtain ⟨e, he, h1, h2⟩ := rank_taken (On lt) g 64 hn
    have hs : E ⟨g, hg'⟩ = ⟨e, he⟩ := inj _ _ ((hE _).symm.trans (schedOf_on lt ⟨e, he⟩ h1 ⟨g, hg'⟩ h2))
    rw [hs]
    refine h0 _ (fun h => hga ?_) (fun h => hgb ?_)
    · rw [← h, ← h2]
    · rw [← h, ← h2]
  · rw [if_neg hn]

end

end Cert.Moe

end
-- ==== Proof.Steps.lean ====
/- The accumulator of the expert call, over the extended reals: the sum of what the points below it add. -/
module

public import proofs.«01_k».proof.Proof.Expand
public import proofs.«01_k».proof.Proof.Blocks
public import proofs.«01_k».proof.Proof.SchedSum

@[expose] public section

noncomputable section

namespace Cert.Moe

open Cert.KernelIdeal hiding ix2
open Cert.KernelIdeal.Gen
open Idealize.ShloMosaic
open Idealize.ShloMosaic.TcCoe

variable (A : (pcfg2 (F := Ideal)).Adm) (E : Fin 64 → Fin 64) (V : Val1 Ideal)

theorem coords_at (t : Fin grid2.N) : (grid2.coords t 0).val = t.val := by
  have h : ∀ n : Fin 64, (grid2.coords (n.cast N_2.symm) 0).val = n.val := by decide
  exact h (t.cast N_2)

theorem cond1_at (t : Fin grid2.N) (h : k2_cond1 (grid2.coords t) = 1#1) : t.val = 0 := by
  have h' : ∀ n : Fin 64, k2_cond1 (grid2.coords (n.cast N_2.symm)) = 1#1 → n.val = 0 := by decide
  exact h' (t.cast N_2) h

theorem cond2_at (t : Fin grid2.N) (n : ℕ) (hn : n ≤ 64) : k2_cond2 (grid2.coords t) (BitVec.ofNat 32 n) = 1#1 ↔ t.val < n := by
  have hc := coords_at t
  have ht : t.val < 64 := lt_of_lt_of_eq t.isLt N_2
  unfold k2_cond2
  rw [hc]
  have hs : (BitVec.ofNat 32 t.val).slt (BitVec.ofNat 32 n) = decide (t.val < n) := by
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp
  show (IntOp.cmpi .ne (BitVec.setWidth 32 (BitVec.ofBool ((BitVec.ofNat 32 t.val).slt (BitVec.ofNat 32 n)))) 0#32) = 1#1 ↔ _
  rw [hs]
  by_cases h : t.val < n <;> simp [h, IntOp.cmpi]

/-- An expert's feed-forward of a token, of the arrays the call finds. -/
def yAt (c : Dev nD) (e t : Fin 64) (d : Fin 1024) : EReal :=
  ffnAt (fun k => (V c main_v0 : S64x1024.Idx → EReal) (ix2 t k)) (fun k h => (V c main_arg3 : S64x1024x512.Idx → EReal) (ix3 e k h))
    (fun h => (V c main_arg4 : S64x512.Idx → EReal) (ix2 e h)) (fun h g => (V c main_arg5 : S64x512x512.Idx → EReal) (ix3 e h g))
    (fun g => (V c main_arg6 : S64x512.Idx → EReal) (ix2 e g)) (fun g => (V c main_arg7 : S64x512x1024.Idx → EReal) (ix3 e g d))
    ((V c main_arg8 : S64x1024.Idx → EReal) (ix2 e d))

/-- What an expert adds to a token. -/
def addsAt (c : Dev nD) (t : Fin 64) (d : Fin 1024) (e : Fin 64) : EReal := coef e (V c main_v3_0) (V c main_v3_1) t * yAt V c e t d

theorem step_at (hE : SchedIs A E) (c : Dev nD) (n : ℕ) (hn : n ≤ 64) (hA : A.1 1 (ix1 0) = BitVec.ofNat 32 n) (p : Fin grid2.N) (acc : Vec Ideal S64x1024 .f32)
    (hacc : p.val = 0 → acc = k2_pay1 (F := Ideal)) (t : Fin 64) (d : Fin 1024) :
    (stepAt A E V c p acc (ix2 t d) : EReal) = (acc (ix2 t d) : EReal) + placed E n (addsAt V c t d) p.val := by
  have hp : p.val < 64 := lt_of_lt_of_eq p.isLt N_2
  have hg : grid2.coords p 0 = (⟨p.val, hp⟩ : Fin 64) := Fin.ext (coords_at p)
  have h0 : (if k2_cond1 (grid2.coords p) = 1#1 then k2_pay1 (F := Ideal) else acc) = acc := by
    split
    · exact (hacc (cond1_at p (by assumption))).symm
    · rfl
  unfold stepAt stepAcc placed
  rw [dif_pos hp]
  simp only [h0]
  rw [hA]
  by_cases hc : p.val < n
  · rw [if_pos ((cond2_at p n hn).mpr hc), if_pos hc, add_at, blk0, blk2, blk4, blk6, blk7, blk8]
    simp only [blk1_at A E V hE, blk3_at A E V hE, blk5_at A E V hE]
    rw [hg]
    rfl
  · rw [if_neg (fun h => hc ((cond2_at p n hn).mp h)), if_neg hc, add_zero]

theorem acc_at (hE : SchedIs A E) (c : Dev nD) (n : ℕ) (hn : n ≤ 64) (hA : A.1 1 (ix1 0) = BitVec.ofNat 32 n) (t : Fin 64) (d : Fin 1024) (q : ℕ) (hq : q ≤ 64) :
    (accAt A E V c q (ix2 t d) : EReal) = ∑ g ∈ Finset.range q, placed E n (addsAt V c t d) g := by
  induction q with
  | zero => exact zeros_at t d
  | succ q ih =>
    have hN : q < grid2.N := by rw [N_2]; omega
    rw [Finset.sum_range_succ, ← ih (by omega)]
    refine (congrFun (accAt_succ A E V c ⟨q, hN⟩) (ix2 t d)).trans (step_at A E V hE c n hn hA ⟨q, hN⟩ _ (fun h => ?_) t d)
    have h' : q = 0 := h
    subst h'
    rfl

end Cert.Moe

end
-- ==== Proof.Softmax.lean ====
/- The softmax of finite logits: a positive real at each expert, greater where the logit is; the two chosen weights are the logistic of
   the logits' difference and its complement. -/
module

public import proofs.«01_k».proof.Proof.Reads
public import proofs.«01_k».proof.Proof.TopTwo

@[expose] public section

noncomputable section

namespace Cert.Moe

open Idealize.ShloMosaic

/-- A maximum over finitely many reals, begun at the least value, is a real. -/
theorem fold_real (l : Fin 64 → ℝ) : ∃ M : ℝ, (Finset.univ.fold max (⊥ : EReal) fun k : Fin 64 => ((l k : ℝ) : EReal)) = (M : EReal) := by
  classical
  have h : ∀ s : Finset (Fin 64), (s.fold max (⊥ : EReal) fun k => ((l k : ℝ) : EReal)) = ⊥ ∨ ∃ M : ℝ, (s.fold max (⊥ : EReal) fun k => ((l k : ℝ) : EReal)) = (M : EReal) := by
    intro s
    induction s using Finset.induction_on with
    | empty => exact Or.inl rfl
    | insert a s ha ih =>
      rw [Finset.fold_insert ha]
      right
      rcases ih with h | ⟨M, h⟩
      · exact ⟨l a, by rw [h]; exact max_eq_left bot_le⟩
      · exact ⟨max (l a) M, by rw [h]; exact (EReal.coe_strictMono.monotone.map_max).symm⟩
  rcases h Finset.univ with h | h
  · have : ((l 0 : ℝ) : EReal) ≤ (Finset.univ.fold max (⊥ : EReal) fun k : Fin 64 => ((l k : ℝ) : EReal)) :=
      (Finset.le_fold_max _).mpr (Or.inr ⟨0, Finset.mem_univ _, le_rfl⟩)
    rw [h] at this
    exact absurd (le_bot_iff.mp this) (EReal.coe_ne_bot _)
  · exact h

theorem sum_real {n : ℕ} (f : Fin n → ℝ) : (∑ k, ((f k : ℝ) : EReal)) = ((∑ k, f k : ℝ) : EReal) := by
  have h : ∀ s : Finset (Fin n), (∑ k ∈ s, ((f k : ℝ) : EReal)) = ((∑ k ∈ s, f k : ℝ) : EReal) := by
    classical
    intro s
    induction s using Finset.induction_on with
    | empty => rfl
    | insert a s ha ih => rw [Finset.sum_insert ha, Finset.sum_insert ha, ih, EReal.coe_add]
  exact h _

theorem div_real (x y : ℝ) (h : y ≠ 0) : Ideal.div (x : EReal) (y : EReal) = ((x / y : ℝ) : EReal) := by
  unfold Ideal.div
  rw [if_neg (by simpa using h), ← EReal.coe_inv, ← EReal.coe_mul, div_eq_mul_inv]

theorem exp_real (x : ℝ) : Ideal.exp (x : EReal) = ((Real.exp x : ℝ) : EReal) := rfl

/-- The softmax of reals. -/
theorem prob_real (L : FVec Ideal Cert.ReferenceIdeal.S64x1x64 .f32) (t : Fin 64) (l : Fin 64 → ℝ) (h : ∀ e, L (ix3 t 0 e) = ((l e : ℝ) : EReal)) :
    ∃ M S : ℝ, 0 < S ∧ ∀ e, Ref.prob (F := Ideal) L (ix3 t 0 e) = ((Real.exp (l e - M) / S : ℝ) : EReal) := by
  obtain ⟨M, hM⟩ := fold_real l
  have ex : ∀ e, Ref.expo (F := Ideal) L (ix3 t 0 e) = ((Real.exp (l e - M) : ℝ) : EReal) := fun e => by
    have hf : (fun k : Fin 64 => (L (ix3 t 0 k) : EReal)) = fun k => ((l k : ℝ) : EReal) := funext fun k => h k
    rw [Ref.expo_at, (show Ideal.ofBits .f32 0xFF800000#32 = (⊥ : EReal) from ninf_eq), hf, hM, max_eq_right bot_le, h e, ← EReal.coe_sub, exp_real]
  refine ⟨M, ∑ k : Fin 64, Real.exp (l k - M), Finset.sum_pos (fun k _ => Real.exp_pos _) ⟨0, Finset.mem_univ _⟩, fun e => ?_⟩
  have hs : (fun k : Fin 64 => (Ref.expo (F := Ideal) L (ix3 t 0 k) : EReal)) = fun k => ((Real.exp (l k - M) : ℝ) : EReal) := funext ex
  rw [Ref.prob_at, hs, ex e, sum_real, div_real _ _ (Finset.sum_pos (fun k _ => Real.exp_pos _) ⟨0, Finset.mem_univ _⟩).ne']

/-- The softmax keeps the logits' order. -/
theorem prob_firsts (L : FVec Ideal Cert.ReferenceIdeal.S64x1x64 .f32) (t : Fin 64) (l : Fin 64 → ℝ) (h : ∀ e, L (ix3 t 0 e) = ((l e : ℝ) : EReal)) (a b : Fin 64)
    (hf : Firsts (fun e => L (ix3 t 0 e)) a b) : Firsts (fun e => Ref.prob (F := Ideal) L (ix3 t 0 e)) a b := by
  obtain ⟨M, S, hS, hp⟩ := prob_real L t l h
  have key : ∀ a b, Bef (fun e => (L (ix3 t 0 e) : EReal)) a b → Bef (fun e => (Ref.prob (F := Ideal) L (ix3 t 0 e) : EReal)) a b := by
    intro a b hb
    rcases hb with hb | ⟨hb, hl⟩
    · left
      show (Ref.prob (F := Ideal) L (ix3 t 0 b) : EReal) < Ref.prob (F := Ideal) L (ix3 t 0 a)
      have hb' : (L (ix3 t 0 b) : EReal) < L (ix3 t 0 a) := hb
      rw [h a, h b, EReal.coe_lt_coe_iff] at hb'
      rw [hp a, hp b, EReal.coe_lt_coe_iff]
      exact div_lt_div_of_pos_right (Real.exp_lt_exp.mpr (by linarith)) hS
    · right
      refine ⟨?_, hl⟩
      show (Ref.prob (F := Ideal) L (ix3 t 0 a) : EReal) = Ref.prob (F := Ideal) L (ix3 t 0 b)
      have hb' : (L (ix3 t 0 a) : EReal) = L (ix3 t 0 b) := hb
      rw [h a, h b, EReal.coe_eq_coe_iff] at hb'
      rw [hp a, hp b, hb']
  exact ⟨hf.1, fun e he => key _ _ (hf.2.1 e he), fun e h1 h2 => key _ _ (hf.2.2 e h1 h2)⟩

/-- The logistic of the difference. -/
def logi (u v : EReal) : EReal := Ideal.div 1 (1 + Ideal.exp (v - u))

/-- The two weights. -/
theorem weights_real (L : FVec Ideal Cert.ReferenceIdeal.S64x1x64 .f32) (t : Fin 64) (l : Fin 64 → ℝ) (h : ∀ e, L (ix3 t 0 e) = ((l e : ℝ) : EReal)) (a b : Fin 64) :
    Ideal.div (Ref.prob (F := Ideal) L (ix3 t 0 a)) (Ref.prob (F := Ideal) L (ix3 t 0 a) + Ref.prob (F := Ideal) L (ix3 t 0 b)) = logi (L (ix3 t 0 a)) (L (ix3 t 0 b))
    ∧ Ideal.div (Ref.prob (F := Ideal) L (ix3 t 0 b)) (Ref.prob (F := Ideal) L (ix3 t 0 a) + Ref.prob (F := Ideal) L (ix3 t 0 b)) = 1 - logi (L (ix3 t 0 a)) (L (ix3 t 0 b)) := by
  obtain ⟨M, S, hS, hp⟩ := prob_real L t l h
  have e1 := Real.exp_pos (l a - M)
  have e2 := Real.exp_pos (l b - M)
  have e3 := Real.exp_pos (l b - l a)
  have hq : Real.exp (l b - M) = Real.exp (l b - l a) * Real.exp (l a - M) := by rw [← Real.exp_add]; congr 1; ring
  have hd : Real.exp (l a - M) / S + Real.exp (l b - M) / S ≠ 0 := (add_pos (div_pos e1 hS) (div_pos e2 hS)).ne'
  have hl : logi (L (ix3 t 0 a)) (L (ix3 t 0 b)) = ((1 / (1 + Real.exp (l b - l a)) : ℝ) : EReal) := by
    unfold logi
    rw [h a, h b, ← EReal.coe_sub, exp_real, ← EReal.coe_one, ← EReal.coe_add, div_real _ _ (by positivity)]
  rw [hl, hp a, hp b, ← EReal.coe_add, div_real _ _ hd, div_real _ _ hd, ← EReal.coe_one, ← EReal.coe_sub]
  constructor
  · rw [EReal.coe_eq_coe_iff, hq]; field_simp
  · rw [EReal.coe_eq_coe_iff, hq]; field_simp; ring

end Cert.Moe

end
-- ==== Proof.KernelValue.lean ====
/- The kernel's result, over the extended reals, of its arguments: each token's two experts' feed-forwards, weighted. -/
module

public import proofs.«01_k».proof.Proof.Steps
public import proofs.«01_k».proof.Proof.Softmax
public import proofs.«01_k».proof.Proof.Frames

@[expose] public section

noncomputable section

namespace Cert.Moe

open Cert.KernelIdeal hiding ix2
open Cert.KernelIdeal.Gen
open Idealize.ShloMosaic
open Idealize.ShloMosaic.TcCoe

variable (m : (ℓ : Loc nD τ sig) → Buf (Elt Ideal) ℓ)

/-- The arguments, by position. -/
abbrev argX (c : Dev nD) : S64x1x1024.Idx → EReal := m ((c.tc : Thread nD τ).loc main_arg0)
abbrev argWr (c : Dev nD) : S1024x64.Idx → EReal := m ((c.tc : Thread nD τ).loc main_arg1)
abbrev argBr (c : Dev nD) : S64.Idx → EReal := m ((c.tc : Thread nD τ).loc main_arg2)
abbrev argW1 (c : Dev nD) : S64x1024x512.Idx → EReal := m ((c.tc : Thread nD τ).loc main_arg3)
abbrev argB1 (c : Dev nD) : S64x512.Idx → EReal := m ((c.tc : Thread nD τ).loc main_arg4)
abbrev argW2 (c : Dev nD) : S64x512x512.Idx → EReal := m ((c.tc : Thread nD τ).loc main_arg5)
abbrev argB2 (c : Dev nD) : S64x512.Idx → EReal := m ((c.tc : Thread nD τ).loc main_arg6)
abbrev argW3 (c : Dev nD) : S64x512x1024.Idx → EReal := m ((c.tc : Thread nD τ).loc main_arg7)
abbrev argB3 (c : Dev nD) : S64x1024.Idx → EReal := m ((c.tc : Thread nD τ).loc main_arg8)

/-- The tokens as the calls find them. -/
theorem W2_v0 (d : Dev nD) : (W2 m d (tcb main_v0) : S64x1024.Idx → EReal) = shapeCast S64x1024 (argX m d) shapeCasts_S64x1x1024_S64x1024 := by
  unfold W2
  refine (StableHlo.reshape_result_ne _ _ _ _ _ _ _ (show main_v0 ≠ main_v1 by decide)).trans ?_
  exact StableHlo.reshape_result' _ _ _ _ _
theorem W2_v1 (d : Dev nD) : (W2 m d (tcb main_v1) : S64x1.Idx → EReal) = shapeCast S64x1 (argBr m d) shapeCasts_S64_S64x1 := by
  unfold W2
  refine (StableHlo.reshape_result' _ _ _ _ _).trans ?_
  exact congrArg (fun v : S64.Idx → EReal => shapeCast S64x1 v shapeCasts_S64_S64x1) (StableHlo.reshape_result_ne _ _ _ _ _ _ _ (show main_arg2 ≠ main_v0 by decide))

theorem cast_x (v : S64x1x1024.Idx → EReal) (t : Fin 64) (k : Fin 1024) : shapeCast S64x1024 v shapeCasts_S64x1x1024_S64x1024 (ix2 t k) = v (ix3 t 0 k) := by
  pointwise
theorem cast_b (v : S64.Idx → EReal) (e : Fin 64) : shapeCast S64x1 v shapeCasts_S64_S64x1 (ix2 e 0) = v (ix1 e) := by
  pointwise
theorem cast_out (v : S64x1024.Idx → EReal) (t : Fin 64) (d : Fin 1024) : shapeCast S64x1x1024 v shapeCasts_S64x1024_S64x1x1024 (ix3 t 0 d) = v (ix2 t d) := by
  pointwise

/-- The logits of the arguments. -/
theorem ltM_at (c : Dev nD) (e t : Fin 64) :
    (ltM m c (ix2 e t) : EReal) = (∑ k : Fin 1024, argWr m c (ix2 k e) * argX m c (ix3 t 0 k)) + argBr m c (ix1 e) := by
  unfold ltM logitsOf
  have h1 : V2 m c main_arg1 = argWr m c := W2_kept m c main_arg1 (by decide) (by decide)
  have h0 : V2 m c main_v0 = shapeCast S64x1024 (argX m c) shapeCasts_S64x1x1024_S64x1024 := W2_v0 m c
  have hb : V2 m c main_v1 = shapeCast S64x1 (argBr m c) shapeCasts_S64_S64x1 := W2_v1 m c
  rw [h1, h0, hb, lgtT_at]
  simp only [cast_x, cast_b]

/-- An expert's feed-forward of a token, of the arguments. -/
def yArg (c : Dev nD) (e t : Fin 64) (d : Fin 1024) : EReal :=
  ffnAt (fun k => argX m c (ix3 t 0 k)) (fun k h => argW1 m c (ix3 e k h)) (fun h => argB1 m c (ix2 e h)) (fun h g => argW2 m c (ix3 e h g))
    (fun g => argB2 m c (ix2 e g)) (fun g => argW3 m c (ix3 e g d)) (argB3 m c (ix2 e d))

theorem V8_arg (c : Dev nD) (r : Ref sig .tc) (h0 : r ≠ main_v0) (h1 : r ≠ main_v1) (h2 : r ≠ main_v2)
    (h30 : r ≠ main_v3_0) (h31 : r ≠ main_v3_1) (h32 : r ≠ main_v3_2) (h33 : r ≠ main_v3_3)
    (h4 : r ≠ main_v4) (h5 : r ≠ main_v5) (h6 : r ≠ main_v6) (h7 : r ≠ main_v7) : W8 m c (tcb r) = m (c, tcb r) :=
  (W8_W2 m c r h2 h30 h31 h32 h33 h4 h5 h6 h7).trans (W2_kept m c r h0 h1)

theorem yAt_arg (c : Dev nD) (e t : Fin 64) (d : Fin 1024) : yAt (V8 m) c e t d = yArg m c e t d := by
  unfold yAt yArg
  have h0 : (V8 m c main_v0 : S64x1024.Idx → EReal) = shapeCast S64x1024 (argX m c) shapeCasts_S64x1x1024_S64x1024 :=
    (W8_W2 m c main_v0 (by decide) (by decide) (by decide) (by decide) (by decide) (by decide) (by decide) (by decide) (by decide)).trans (W2_v0 m c)
  have h3 : (V8 m c main_arg3 : S64x1024x512.Idx → EReal) = argW1 m c :=
    V8_arg m c main_arg3 (by decide) (by decide) (by decide) (by decide) (by decide) (by decide) (by decide) (by decide) (by decide) (by decide) (by decide)
  have h4 : (V8 m c main_arg4 : S64x512.Idx → EReal) = argB1 m c :=
    V8_arg m c main_arg4 (by decide) (by decide) (by decide) (by decide) (by decide) (by decide) (by decide) (by decide) (by decide) (by decide) (by decide)
  have h5 : (V8 m c main_arg5 : S64x512x512.Idx → EReal) = argW2 m c :=
    V8_arg m c main_arg5 (by decide) (by decide) (by decide) (by decide) (by decide) (by decide) (by decide) (by decide) (by decide) (by decide) (by decide)
  have h6 : (V8 m c main_arg6 : S64x512.Idx → EReal) = argB2 m c :=
    V8_arg m c main_arg6 (by decide) (by decide) (by decide) (by decide) (by decide) (by decide) (by decide) (by decide) (by decide) (by decide) (by decide)
  have h7 : (V8 m c main_arg7 : S64x512x1024.Idx → EReal) = argW3 m c :=
    V8_arg m c main_arg7 (by decide) (by decide) (by decide) (by decide) (by decide) (by decide) (by decide) (by decide) (by decide) (by decide) (by decide)
  have h8 : (V8 m c main_arg8 : S64x1024.Idx → EReal) = argB3 m c :=
    V8_arg m c main_arg8 (by decide) (by decide) (by decide) (by decide) (by decide) (by decide) (by decide) (by decide) (by decide) (by decide) (by decide)
  rw [h0, h3, h4, h5, h6, h7, h8]
  simp only [cast_x]

/-- The weights the two picks have, and none other. -/
theorem coef_picks (lt : S64x64.Idx → Ideal .f32) (t : Fin 64) (hf : ∀ e : Fin 64, (⊥ : EReal) < lt (ix2 e t)) :
    coef (pick1 lt t) (aiOf lt) (wvOf lt) t = logi (lt (ix2 (pick1 lt t) t)) (lt (ix2 (pick2 lt t) t))
    ∧ coef (pick2 lt t) (aiOf lt) (wvOf lt) t = 1 - logi (lt (ix2 (pick1 lt t) t)) (lt (ix2 (pick2 lt t) t))
    ∧ ∀ e, e ≠ pick1 lt t → e ≠ pick2 lt t → coef e (aiOf lt) (wvOf lt) t = 0 := by
  obtain ⟨ht, hfs⟩ := top_picks lt t hf
  have inj : ∀ a b : Fin 64, BitVec.ofNat 32 a.val = BitVec.ofNat 32 b.val → a = b := fun a b h => by
    have h' := congrArg BitVec.toNat h
    rw [toNat_expert, toNat_expert] at h'
    exact Fin.ext h'
  have a0 : aiOf lt (ix2 0 t) = BitVec.ofNat 32 (pick1 lt t).val := by show (top lt t 64).2.1 = _; rw [ht]
  have a1 : aiOf lt (ix2 1 t) = BitVec.ofNat 32 (pick2 lt t).val := by show (top lt t 64).2.2.2 = _; rw [ht]
  have one : (oneW : Ideal .f32) = (1 : EReal) := Ideal.ofBits_one_f32
  have hw : (wgt lt t : EReal) = logi (lt (ix2 (pick1 lt t) t)) (lt (ix2 (pick2 lt t) t)) := by
    unfold wgt logi
    rw [ht, one]
    rfl
  have w0 : (wvOf lt (ix2 0 t) : EReal) = logi (lt (ix2 (pick1 lt t) t)) (lt (ix2 (pick2 lt t) t)) := by
    rw [← hw]; rfl
  have w1 : (wvOf lt (ix2 1 t) : EReal) = 1 - logi (lt (ix2 (pick1 lt t) t)) (lt (ix2 (pick2 lt t) t)) := by
    rw [← hw, ← one]; rfl
  have hne := hfs.1
  unfold coef
  rw [a0, a1, w0, w1]
  refine ⟨?_, ?_, fun e h1 h2 => ?_⟩
  · rw [if_pos rfl, if_neg (fun h => hne (inj _ _ h).symm), add_zero]
  · rw [if_pos rfl, if_neg (fun h => hne (inj _ _ h)), zero_add]
  · rw [if_neg (fun h => h1 (inj _ _ h).symm), if_neg (fun h => h2 (inj _ _ h).symm), add_zero]

/-- The result at an element. -/
theorem result_at (t : Fin 64) (d : Fin 1024) (hf : ∀ e : Fin 64, (⊥ : EReal) < ltM m 0 (ix2 e t)) :
    (accAt (F := Ideal) (admM m 1) (expM m 0) (V8 m) 0 64 (ix2 t d) : EReal)
      = logi (ltM m 0 (ix2 (pick1 (ltM m 0) t) t)) (ltM m 0 (ix2 (pick2 (ltM m 0) t) t)) * yArg m 0 (pick1 (ltM m 0) t) t d
        + (1 - logi (ltM m 0 (ix2 (pick1 (ltM m 0) t) t)) (ltM m 0 (ix2 (pick2 (ltM m 0) t) t))) * yArg m 0 (pick2 (ltM m 0) t) t d := by
  have hA : (admM m 1).1 1 (ix1 0) = BitVec.ofNat 32 (Nat.count (On (ltM m 0)) 64) :=
    (congrFun (tabM_one m) (ix1 0)).trans (nactOf_at (ltM m 0) 0)
  have hv0 : (V8 m 0 main_v3_0 : S2x64.Idx → BitVec 32) = aiOf (ltM m 0) :=
    (W8_kept m 0 main_v3_0 (by decide) (by decide) (by decide) (by decide)).trans (W4_v3_0 m 0)
  have hv1 : (V8 m 0 main_v3_1 : S2x64.Idx → EReal) = wvOf (ltM m 0) :=
    (W8_kept m 0 main_v3_1 (by decide) (by decide) (by decide) (by decide)).trans (W4_v3_1 m 0)
  obtain ⟨c1, c2, c3⟩ := coef_picks (ltM m 0) t hf
  have hadd : ∀ e, addsAt (V8 m) 0 t d e = coef e (aiOf (ltM m 0)) (wvOf (ltM m 0)) t * yArg m 0 e t d := fun e => by
    unfold addsAt
    rw [hv0, hv1, yAt_arg]
  rw [acc_at (admM m 1) (expM m 0) (V8 m) (schedIs_M m) 0 _ (Nat.count_le _) hA t d 64 le_rfl,
    sched_sum (ltM m 0) (expM m 0) (fun g => (congrFun (tabM_zero m) (ix1 g)).symm.trans (schedIs_M m g)) (addsAt (V8 m) 0 t d) (pick1 (ltM m 0) t) (pick2 (ltM m 0) t)
      (top_picks (ltM m 0) t hf).2.1 (on_of_pick _ t _ (Or.inl rfl)) (on_of_pick _ t _ (Or.inr rfl))
      (fun e h1 h2 => by rw [hadd, c3 e h1 h2, zero_mul]), hadd, hadd, c1, c2]

end Cert.Moe

end
-- ==== Proof.RefTop.lean ====
/- The reference's router over the extended reals: the softmax of finite logits orders the experts as the logits do, so its two
   greatest are the logits' first two, and the two weights are the logistic of the two logits' difference and its complement. -/
module

public import proofs.«01_k».proof.Proof.RefTerm
public import proofs.«01_k».proof.Proof.TopTwo
public import Idealize.ShloMosaic.Lib.Pointwise
public import Idealize.ShloMosaic.Lib.SortPrefix
public import Idealize.ShloMosaic.Lib.Tactic.CleanTypes

@[expose] public section

noncomputable section

namespace Cert.Moe.Ref

open Cert.ReferenceIdeal
open Cert.ReferenceIdeal.Gen Idealize.ShloMosaic

/-! ## The two greatest -/

/-- A stable sort of increasing positions asks its order only of a later position against an earlier one. -/
theorem stableSort_later {n : ℕ} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : ℕ} (R R' : Fin n → Fin n → Bool) (h : ∀ a b : Fin n, a < b → R b a = R' b a) : sortedFrom R = sortedFrom R' := by
  have e : sortPositions n R = sortPositions n R' := stableSort_later R R' h _ (List.pairwise_lt_finRange n)
  funext k
  unfold sortedFrom
  rw [List.get_of_eq e]
  rfl

/-- The first two of the sort by "greater first" are the first two. -/
theorem sorted_firsts (v : Fin 64 → EReal) (a b : Fin 64) (h : Firsts v a b) :
    sortedFrom (fun k k' => FloatOps.cmpfTotal (F := Ideal) (φ := .f32) .gt (v k) (v k') == 1#1) (0 : Fin 64) = a
    ∧ sortedFrom (fun k k' => FloatOps.cmpfTotal (F := Ideal) (φ := .f32) .gt (v k) (v k') == 1#1) (1 : Fin 64) = b := by
  classical
  have key := StrictTotalBefore.of_key_then_position (n := 64) (fun x y : EReal => decide (y < x)) v
    (fun a => by simp) (fun a b c h1 h2 => by simp only [decide_eq_true_eq] at *; exact h2.trans h1)
    (fun a b => by simp only [decide_eq_true_eq]; rcases lt_trichotomy a b with h | h | h <;> simp [h])
  rw [sortedFrom_later _ (fun k k' : Fin 64 => decide (v k' < v k) || (decide (v k = v k') && decide (k < k'))) (fun a b hab => by
    have e : (FloatOps.cmpfTotal (F := Ideal) (φ := .f32) .gt (v b) (v a) == 1#1) = decide (v a < v b) := by
      show (BitVec.ofBool (decide (v a < v b)) == 1#1) = _
      by_cases h : v a < v b <;> simp [h]
    rw [e]
    simp [hab.not_gt])]
  have nb : ∀ a b : Fin 64, Bef v a b → (decide (v a < v b) || (decide (v b = v a) && decide (b < a))) = false := by
    intro a b h
    rcases h with h | ⟨h, h'⟩
    · simp [h.le.not_gt, h.ne]
    · simp [h, h'.not_gt]
  obtain ⟨hab, h1, h2⟩ := h
  have main := key.sortedFrom_eq_of_prefix (k := 2) (by omega) ![a, b]
    (by intro i j hij; fin_cases i <;> fin_cases j <;> first | rfl | exact absurd hij hab | exact absurd hij hab.symm)
    (by
      intro i j hij
      fin_cases i <;> fin_cases j <;> first | exact absurd hij (by decide) | exact nb a b (h1 b hab.symm))
    (by
      intro i p hp
      have pa : p ≠ a := fun h => hp 0 h.symm
      have pb : p ≠ b := fun h => hp 1 h.symm
      fin_cases i
      · exact nb a p (h1 p pa)
      · exact nb b p (h2 p pa pb))
  exact ⟨main 0, main 1⟩

theorem two_val (p : FVec Ideal S64x1x64 .f32) (t : Fin 64) (k : Fin 2) :
    (two p).1 (ix3 t 0 k) = p (ix3 t 0 (sortedFrom (fun k k' : Fin 64 => FloatOps.cmpfTotal (F := Ideal) (φ := .f32) .gt (p (ix3 t 0 k)) (p (ix3 t 0 k')) == 1#1) (k.castLE (by omega))))
    ∧ (two p).2 (ix3 t 0 k) = BitVec.ofNat 32 (sortedFrom (fun k k' : Fin 64 => FloatOps.cmpfTotal (F := Ideal) (φ := .f32) .gt (p (ix3 t 0 k)) (p (ix3 t 0 k')) == 1#1) (k.castLE (by omega))).val := by
  have al : ∀ (k0 k : Fin 64), Shape.Idx.along (s := S64x1x64) (ix3 t 0 k0) 2 k = ix3 t 0 k := fun k0 k => by
    rw [eq_ix3 (Shape.Idx.along (s := S64x1x64) (ix3 t 0 k0) 2 k)]; rfl
  have hr : 2 < S64x1x64.rank := by decide
  constructor
  · simp only [two, Host.topK, Host.sort2, dif_pos hr]
    pointwise
    rw [al]
    simp only [al]
    rfl
  · simp only [two, Host.topK, Host.sort2, dif_pos hr]
    pointwise
    rw [al]
    simp only [al]
    rfl

/-- The two greatest, where the first two are known. -/
theorem two_at (p : FVec Ideal S64x1x64 .f32) (t : Fin 64) (a b : Fin 64) (h : Firsts (fun e => p (ix3 t 0 e)) a b) :
    (two p).1 (ix3 t 0 0) = p (ix3 t 0 a) ∧ (two p).1 (ix3 t 0 1) = p (ix3 t 0 b)
    ∧ (two p).2 (ix3 t 0 0) = BitVec.ofNat 32 a.val ∧ (two p).2 (ix3 t 0 1) = BitVec.ofNat 32 b.val := by
  obtain ⟨h0, h1⟩ := sorted_firsts _ a b h
  refine ⟨?_, ?_, ?_, ?_⟩
  · rw [(two_val p t 0).1]; exact congrArg (fun e : Fin 64 => p (ix3 t 0 e)) h0
  · rw [(two_val p t 1).1]; exact congrArg (fun e : Fin 64 => p (ix3 t 0 e)) h1
  · rw [(two_val p t 0).2]; exact congrArg (fun e : Fin 64 => BitVec.ofNat 32 e.val) h0
  · rw [(two_val p t 1).2]; exact congrArg (fun e : Fin 64 => BitVec.ofNat 32 e.val) h1

end Cert.Moe.Ref

end
-- ==== Proof.RefSel.lean ====
/- The reference's gather of the chosen experts' products, read at an index. -/
module

public import proofs.«01_k».proof.Proof.RefTerm
public import Idealize.ShloMosaic.Lib.Pointwise
public import Idealize.ShloMosaic.Lib.ReduceAll
public import Idealize.ShloMosaic.Lib.Affine

@[expose] public section

noncomputable section

namespace Cert.Moe.Ref

open Cert.ReferenceIdeal Cert.ReferenceIdeal.Gen Idealize.ShloMosaic

variable {F : FTy → Type} [FloatOps F]

set_option maxRecDepth 16384

theorem word_small (a : Fin 64) : IntOp.cmpi .slt (BitVec.ofNat 32 a.val) 0#32 = 0#1 ∧ IntOp.cmpi .sge (BitVec.ofNat 32 a.val) 0#32 = 1#1
    ∧ IntOp.cmpi .sle (BitVec.ofNat 32 a.val) 63#32 = 1#1 ∧ (BitVec.ofNat 32 a.val).toInt = a.val := by
  revert a; decide

/-- An expert's word is not moved. -/
theorem idxs_at (i : IVec S64x1x2 32) (t : Fin 64) (k : Fin 2) (a : Fin 64) (h : i (ix3 t 0 k) = BitVec.ofNat 32 a.val) :
    idxs i (ix3 t k 0) = BitVec.ofNat 32 a.val := by
  pointwise! [idxs]
  rw [h, (word_small a).1]
  rfl

theorem inr_at (i : IVec S64x2x1 32) (t : Fin 64) (k : Fin 2) (a : Fin 64) (h : i (ix3 t k 0) = BitVec.ofNat 32 a.val) :
    inr i (ix2 t k) = 1#1 := by
  pointwise! [inr]
  rw [Finset.univ_unique, Finset.fold_singleton]
  show IntOp.andi (IntOp.andi (IntOp.cmpi .sge (i (ix3 t k 0)) 0#32) (IntOp.cmpi .sle (i (ix3 t k 0)) 63#32)) 1#1 = 1#1
  rw [h, (word_small a).2.1, (word_small a).2.2.1]
  rfl

/-- The gather's record. -/
abbrev gd : GatherDims S64x1x64x1024 S64x2x1 S64x1x2x1024 := gather_S64x1x64x1024_S64x2x1_S64x1x2x1024_13_2_0_0_2_2_1111024
theorem gd_sKept : gd.sKept = [1, 3] := by decide
theorem gd_batchDims : gd.batchDims = [0, 2] := by decide
theorem gd_siKept : gd.siKept = [0, 1] := by decide
theorem at4_0 (t : Fin 64) (k : Fin 2) (d : Fin 1024) (X : Fin 4) (h : X = 0) : ((ix4 t (0 : Fin 1) k d : S64x1x2x1024.Idx) X).val = t.val := by subst h; rfl
theorem at4_2 (t : Fin 64) (k : Fin 2) (d : Fin 1024) (X : Fin 4) (h : X = 2) : ((ix4 t (0 : Fin 1) k d : S64x1x2x1024.Idx) X).val = k.val := by subst h; rfl
theorem at4_3 (t : Fin 64) (k : Fin 2) (d : Fin 1024) (X : Fin 4) (h : X = 3) : ((ix4 t (0 : Fin 1) k d : S64x1x2x1024.Idx) X).val = d.val := by subst h; rfl

theorem sel_at (i : IVec S64x2x1 32) (y : FVec F S64x1x64x1024 .f32) (t : Fin 64) (k : Fin 2) (d : Fin 1024) (a : Fin 64) (h : i (ix3 t k 0) = BitVec.ofNat 32 a.val) :
    sel i y (ix4 t 0 k d) = y (ix4 t 0 a d) := by
  pointwise! [sel]
  rw [inr_at i t k a h]
  show y (GatherDims.operandIdx gather_S64x1x64x1024_S64x2x1_S64x1x2x1024_13_2_0_0_2_2_1111024 (ix4 t 0 k d) i) = _
  refine congrArg y (funext fun x => Fin.ext ?_)
  have hi : (i (ix3 t k 0)).toInt = a.val := by rw [h]; exact (word_small a).2.2.2
  match x with
  | 0 =>
    show gd.start (ix4 t 0 k d) i 0 + gd.batchCoord (ix4 t 0 k d) 0 + gd.offCoord (ix4 t 0 k d) 0 = t.val
    have hs : gd.start (ix4 t 0 k d) i 0 = 0 := by unfold GatherDims.start; exact dif_neg (by decide)
    have ho : gd.offCoord (ix4 t 0 k d) 0 = 0 := by unfold GatherDims.offCoord; exact dif_neg (by rw [gd_sKept]; decide)
    rw [hs, ho]
    unfold GatherDims.batchCoord GatherDims.siCoord
    rw [dif_pos (show (0 : Fin 4) ∈ gd.operandBatchingDims by decide)]
    simp only [Fin.val_cast, Nat.zero_add, Nat.add_zero]
    refine at4_0 t k d _ ?_
    simp only [gd_batchDims, gd_siKept]
    rfl
  | 1 => exact congrArg Fin.val (Subsingleton.elim (α := Fin 1) _ _)
  | 2 =>
    show gd.start (ix4 t 0 k d) i 2 + gd.batchCoord (ix4 t 0 k d) 2 + gd.offCoord (ix4 t 0 k d) 2 = a.val
    have hb : gd.batchCoord (ix4 t 0 k d) 2 = 0 := by unfold GatherDims.batchCoord; exact dif_neg (by decide)
    have ho : gd.offCoord (ix4 t 0 k d) 2 = 0 := by unfold GatherDims.offCoord; exact dif_neg (by rw [gd_sKept]; decide)
    rw [hb, ho]
    unfold GatherDims.start
    rw [dif_pos (show (2 : Fin 4) ∈ gd.startIndexMap by decide)]
    have hx : gd.siIdx (ix4 t 0 k d) ⟨gd.startIndexMap.idxOf 2, List.idxOf_lt_length_iff.2 (show (2 : Fin 4) ∈ gd.startIndexMap by decide)⟩ = ix3 t k 0 := by
      funext b
      apply Fin.ext
      unfold GatherDims.siIdx GatherDims.siCoord
      match b with
      | 0 =>
        rw [dif_neg (by decide)]
        simp only [Fin.val_cast]
        refine at4_0 t k d _ ?_
        simp only [gd_batchDims, gd_siKept]
        rfl
      | 1 =>
        rw [dif_neg (by decide)]
        simp only [Fin.val_cast]
        refine at4_2 t k d _ ?_
        simp only [gd_batchDims, gd_siKept]
        rfl
      | 2 => exact congrArg Fin.val (Subsingleton.elim (α := Fin 1) _ _)
    rw [hx, hi]
    have := a.isLt
    show min ((a.val : ℤ).toNat) 63 + 0 + 0 = a.val
    omega
  | 3 =>
    show gd.start (ix4 t 0 k d) i 3 + gd.batchCoord (ix4 t 0 k d) 3 + gd.offCoord (ix4 t 0 k d) 3 = d.val
    have hs : gd.start (ix4 t 0 k d) i 3 = 0 := by unfold GatherDims.start; exact dif_neg (by decide)
    have hb : gd.batchCoord (ix4 t 0 k d) 3 = 0 := by unfold GatherDims.batchCoord; exact dif_neg (by decide)
    rw [hs, hb]
    unfold GatherDims.offCoord
    rw [dif_pos (show (3 : Fin 4) ∈ gd.sKept by rw [gd_sKept]; decide)]
    simp only [Nat.zero_add]
    refine at4_3 t k d _ ?_
    simp only [gd_sKept]
    rfl

end Cert.Moe.Ref

end
-- ==== Proof.Finite.lean ====
/- The precondition read: the tokens, the router's matrix and its bias are reals. -/
module

public import proofs.«01_k».proof.Defs
public import Idealize.ShloMosaic.Lib.Pointwise
public import Idealize.ShloMosaic.Lib.ReduceAll

@[expose] public section

noncomputable section

namespace Cert.Moe.Finite

open Idealize.ShloMosaic Cert.Pre_router_finite

/-- The side conditions of the predicate's operations. -/
theorem facts : Cert.Pre_router_finite.Facts where
  bcast_S_S64x1x1024 := by decide
  reducesTo_S64x1x1024_S_d0_1_2 := by decide
  h_S_ := by decide
  bcast_S_S1024x64 := by decide
  reducesTo_S1024x64_S_d0_1 := by decide
  bcast_S_S64 := by decide
  reducesTo_S64_S_d0 := by decide

theorem real_of_lt (x : EReal) (h : max x (-x) < ⊤) : ∃ r : ℝ, x = (r : EReal) := by
  induction x using EReal.rec with
  | bot => simp at h
  | coe r => exact ⟨r, rfl⟩
  | top => simp at h

theorem inf_eq : Ideal.ofBits .f32 0x7F800000#32 = (⊤ : EReal) := by
  simp [Ideal.ofBits, Ideal.ieee]

theorem real_of_cmp (x : Ideal .f32) (h : FloatOps.cmpf .olt (FloatOps.absf x) (FloatOps.ofBits .f32 0x7F800000#32 : Ideal .f32) = (1#1 : BitVec 1)) : ∃ r : ℝ, (x : EReal) = (r : EReal) := by
  refine real_of_lt x ?_
  have h' : BitVec.ofBool (decide (max (x : EReal) (-x) < Ideal.ofBits .f32 0x7F800000#32)) = 1#1 := h
  rw [inf_eq] at h'
  by_contra hn
  rw [decide_eq_false hn] at h'
  exact absurd h' (by decide)

instance : Subsingleton S_.Idx := ⟨fun a b => funext fun i => i.elim0⟩

theorem reals [Cert.Pre_router_finite.Facts] (a0 : FVec Ideal S64x1x1024 .f32) (a1 : FVec Ideal S1024x64 .f32) (a2 : FVec Ideal S64 .f32) (a3 : FVec Ideal S64x1024x512 .f32)
    (a4 : FVec Ideal S64x512 .f32) (a5 : FVec Ideal S64x512x512 .f32) (a6 : FVec Ideal S64x512 .f32) (a7 : FVec Ideal S64x512x1024 .f32) (a8 : FVec Ideal S64x1024 .f32)
    (h : fn (F := Ideal) a0 a1 a2 a3 a4 a5 a6 a7 a8 = fun _ => 1#1) :
    (∀ i, ∃ r : ℝ, (a0 i : EReal) = (r : EReal)) ∧ (∀ i, ∃ r : ℝ, (a1 i : EReal) = (r : EReal)) ∧ (∀ i, ∃ r : ℝ, (a2 i : EReal) = (r : EReal)) := by
  dsimp only [fn] at h
  have hj := congrFun h (fun i => i.elim0)
  have split : ∀ x y : BitVec 1, IntOp.andi x y = 1#1 → x = 1#1 ∧ y = 1#1 := by decide
  obtain ⟨h01, h2⟩ := split _ _ hj
  obtain ⟨h0, h1⟩ := split _ _ h01
  exact ⟨fun i => real_of_cmp _ (Host.reduce_andi_all _ _ _ _ _ h0 i), fun i => real_of_cmp _ (Host.reduce_andi_all _ _ _ _ _ h1 i),
    fun i => real_of_cmp _ (Host.reduce_andi_all _ _ _ _ _ h2 i)⟩

end Cert.Moe.Finite

end
-- ==== Proof.Value.lean ====
/- The two programs' results are equal over the extended reals, where the router's inputs are finite. -/
module

public import proofs.«01_k».proof.Proof.KernelValue
public import proofs.«01_k».proof.Proof.RefTop
public import proofs.«01_k».proof.Proof.RefSel
public import proofs.«01_k».proof.Proof.Finite

@[expose] public section

noncomputable section

namespace Cert.Moe

open Cert.KernelIdeal hiding ix2
open Cert.KernelIdeal.Gen
open Idealize.ShloMosaic
open Idealize.ShloMosaic.TcCoe Idealize.SL.Sem

/-- The logits of finite inputs are real. -/
theorem logit_real (x : S64x1x1024.Idx → EReal) (wr : S1024x64.Idx → EReal) (br : S64.Idx → EReal)
    (hx : ∀ i, ∃ r : ℝ, x i = (r : EReal)) (hw : ∀ i, ∃ r : ℝ, wr i = (r : EReal)) (hb : ∀ i, ∃ r : ℝ, br i = (r : EReal)) (t e : Fin 64) :
    ∃ r : ℝ, (∑ k : Fin 1024, x (ix3 t 0 k) * wr (ix2 k e)) + br (ix1 e) = (r : EReal) := by
  choose fx hfx using hx
  choose fw hfw using hw
  choose fb hfb using hb
  refine ⟨(∑ k : Fin 1024, fx (ix3 t 0 k) * fw (ix2 k e)) + fb (ix1 e), ?_⟩
  rw [EReal.coe_add, ← sum_real, hfb]
  exact congrArg (fun z : EReal => z + ((fb (ix1 e) : ℝ) : EReal)) (Finset.sum_congr rfl fun k _ => by rw [hfx, hfw, EReal.coe_mul])

variable (m : (ℓ : Loc nD τ sig) → Buf (Elt Ideal) ℓ)

theorem logits_same (c : Dev nD) (t e : Fin 64) : Ref.lgt (F := Ideal) (argX m c) (argWr m c) (argBr m c) (ix3 t 0 e) = (ltM m c (ix2 e t) : EReal) := by
  rw [Ref.lgt_at, ltM_at]
  exact congrArg (fun z : EReal => z + argBr m c (ix1 e)) (Finset.sum_congr rfl fun k _ => mul_comm _ _)

/-- The reference's result of the arguments, at an element. -/
theorem same_at (hx : ∀ i, ∃ r : ℝ, argX m 0 i = (r : EReal)) (hw : ∀ i, ∃ r : ℝ, argWr m 0 i = (r : EReal)) (hb : ∀ i, ∃ r : ℝ, argBr m 0 i = (r : EReal))
    (t : Fin 64) (d : Fin 1024) :
    (Ref.val (F := Ideal) (argX m 0) (argWr m 0) (argBr m 0) (argW1 m 0) (argB1 m 0) (argW2 m 0) (argB2 m 0) (argW3 m 0) (argB3 m 0) (ix3 t 0 d) : EReal)
      = accAt (F := Ideal) (admM m 1) (expM m 0) (V8 m) 0 64 (ix2 t d) := by
  have hr : ∀ e, ∃ r : ℝ, (Ref.lgt (F := Ideal) (argX m 0) (argWr m 0) (argBr m 0) (ix3 t 0 e) : EReal) = (r : EReal) := fun e => by
    obtain ⟨r, h⟩ := logit_real (argX m 0) (argWr m 0) (argBr m 0) hx hw hb t e
    exact ⟨r, (Ref.lgt_at _ _ _ t e).trans h⟩
  choose l hl using hr
  have hf : ∀ e : Fin 64, (⊥ : EReal) < ltM m 0 (ix2 e t) := fun e => by
    rw [← logits_same, hl e]; exact EReal.bot_lt_coe _
  have hfs := (top_picks (ltM m 0) t hf).2
  rw [result_at m t d hf]
  generalize pick1 (ltM m 0) t = a at hfs ⊢
  generalize pick2 (ltM m 0) t = b at hfs ⊢
  have hfs' : Firsts (fun e => Ref.lgt (F := Ideal) (argX m 0) (argWr m 0) (argBr m 0) (ix3 t 0 e)) a b := by
    have hfun : (fun e => Ref.lgt (F := Ideal) (argX m 0) (argWr m 0) (argBr m 0) (ix3 t 0 e)) = fun e => (ltM m 0 (ix2 e t) : EReal) := funext fun e => logits_same m 0 t e
    rw [hfun]; exact hfs
  rw [← logits_same, ← logits_same]
  unfold Ref.val
  generalize Ref.lgt (F := Ideal) (argX m 0) (argWr m 0) (argBr m 0) = L at hl hfs' ⊢
  obtain ⟨v0, v1, i0, i1⟩ := Ref.two_at _ t a b (prob_firsts L t l hl a b hfs')
  obtain ⟨w0, w1⟩ := weights_real L t l hl a b
  have hy : ∀ e, Ref.outs (F := Ideal) (Ref.hid (F := Ideal) (argX m 0) (argW1 m 0) (argB1 m 0) (argW2 m 0) (argB2 m 0)) (argW3 m 0) (argB3 m 0) (ix4 t 0 e d) = yArg m 0 e t d := fun e => by
    rw [Ref.outs_at]
    unfold yArg ffnAt
    simp only [Ref.hid_at]
  rw [Ref.sumw_at, Ref.wts_at, Ref.wts_at, v0, v1, w0, w1, Ref.sel_at _ _ t 0 d a (Ref.idxs_at _ t 0 a i0), Ref.sel_at _ _ t 1 d b (Ref.idxs_at _ t 1 b i1), hy, hy]

theorem same (hx : ∀ i, ∃ r : ℝ, argX m 0 i = (r : EReal)) (hw : ∀ i, ∃ r : ℝ, argWr m 0 i = (r : EReal)) (hb : ∀ i, ∃ r : ℝ, argBr m 0 i = (r : EReal)) :
    Ref.val (F := Ideal) (argX m 0) (argWr m 0) (argBr m 0) (argW1 m 0) (argB1 m 0) (argW2 m 0) (argB2 m 0) (argW3 m 0) (argB3 m 0)
      = shapeCast S64x1x1024 (accAt (F := Ideal) (admM m 1) (expM m 0) (V8 m) 0 64) shapeCasts_S64x1024_S64x1x1024 := by
  funext j
  have hj : j = (ix3 (j 0) (0 : Fin 1) (j 2) : S64x1x1024.Idx) :=
    (eq_ix3 (n0 := 64) (n1 := 1) (n2 := 1024) j).trans (congrArg (fun z : Fin 1 => (ix3 (j 0) z (j 2) : S64x1x1024.Idx)) (Subsingleton.elim (α := Fin 1) (j 1) 0))
  rw [hj]
  exact (same_at m hx hw hb (j 0) (j 2)).trans (cast_out _ (j 0) (j 2)).symm

/-- The value claim. -/
theorem algebraic [Cert.Pre_router_finite.Facts] : Cert.algebraic_KernelIdeal_ReferenceIdeal_pre_router_finite := by
  intro m g m' g' hpre hargs
  refine ⟨fun c => shapeCast S64x1x1024 (accAt (F := Ideal) (admM m 1) (expM m 0) (V8 m) c 64) shapeCasts_S64x1024_S64x1x1024,
    (θ_run Cert.KernelIdeal.defs _ _).mono (fun r h c => ⟨result_end m r h c, args_kept m r h c⟩) (run_main m g),
    (θ_run Cert.ReferenceIdeal.defs _ _).mono (fun r h c => ⟨(h c).1.trans ?_, (h c).2⟩) (Cert.ReferenceIdeal.Value.run (F := Ideal) m' g')⟩
  obtain rfl : c = 0 := Subsingleton.elim _ _
  obtain ⟨hx, hw, hb⟩ := Finite.reals _ _ _ _ _ _ _ _ _ (hpre 0)
  obtain ⟨a0, a1, a2, a3, a4, a5, a6, a7, a8⟩ := hargs 0
  refine (Ref.out_eq (F := Ideal) m' 0).trans ?_
  rw [a0, a1, a2, a3, a4, a5, a6, a7, a8]
  exact same m hx hw hb

end Cert.Moe

end
-- ==== Proof.lean ====
/- The certificate of the routed mixture of experts: its claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The certificate's claims together. -/
theorem claim : Cert.Claim := ⟨Cert.Kernel.Gen.facts, Cert.KernelIdeal.Gen.facts, Cert.ReferenceIdeal.Gen.facts, Cert.Moe.Finite.facts,
  Cert.Moe.frame_kernel, Cert.Moe.frame_ideal, fun m ρ _ => Cert.Moe.frame_ideal m ρ trivial, frame_reference, fun m ρ _ => frame_reference m ρ trivial, trivial,
  @Cert.Moe.algebraic Cert.Moe.Finite.facts⟩

end Cert.Proof

end
